-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_named : Cert.Pre_rows_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ preserves_Kernel_KernelIdeal
    ∧ algebraic_KernelIdeal_ReferenceIdeal (hKernelIdeal := hKernelIdeal) (hReferenceIdeal := hReferenceIdeal) (hPre_rows_named := hPre_rows_named)
-- ==== Pre_rows_named.lean ====
abbrev S16384 : Shape := ⟨1, ![16384]⟩
abbrev S1000000x32 : Shape := ⟨2, ![1000000, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part1 {F : FTy → Type} [FloatOps F] (main_arg2 : IVec S16384 32) (main_v12 : IVec S_ 1) (main_v14 : IVec S16384 1) (main_v15 : IVec S16384 32) : IVec S_ 1 :=
  let main_v16 : IVec S16384 1 := cmpi .slt main_arg2 main_v15
  let main_v17 : IVec S16384 1 := andi main_v14 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v12 main_v18
  main_v19

def fn {F : FTy → Type} [FloatOps F] (main_arg0 : IVec S16384 32) (main_arg1 : IVec S16384 32) (main_arg2 : IVec S16384 32) (main_arg3 : FVec F S1000000x32 .f32) (main_arg4 : FVec F S1000000x32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384 32 := broadcastInDim S16384 ![] bcast_S_S16384 main_c_5
  let main_v14 : IVec S16384 1 := cmpi .sge main_arg2 main_v13
  let main_c_6 : IVec S_ 32 := constantI S_ 32 1000000#32
  let main_v15 : IVec S16384 32 := broadcastInDim S16384 ![] bcast_S_S16384 main_c_6
  fn_part1 (F := F) main_arg2 main_v12 main_v14 main_v15
-- ==== Kernel.lean ====
abbrev S16384 : Shape := ⟨1, ![16384]⟩
abbrev S1000000x32 : Shape := ⟨2, ![1000000, 32]⟩
abbrev S512 : Shape := ⟨1, ![512]⟩
abbrev S256x32 : Shape := ⟨2, ![256, 32]⟩
abbrev S_ : Shape := ⟨0, ![]⟩
abbrev S16 : Shape := ⟨1, ![16]⟩
abbrev S1 : Shape := ⟨1, ![1]⟩
abbrev S1x32 : Shape := ⟨2, ![1, 32]⟩
abbrev S1x16 : Shape := ⟨2, ![1, 16]⟩
abbrev S16384x1 : Shape := ⟨2, ![16384, 1]⟩

abbrev nBuf : Table → Nat
  | .hbm => 9
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x32, .f32⟩
  | .hbm, ⟨4, _⟩ => ⟨S1000000x32, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S256x32, .f32⟩
  | .local .scVector .vmem, ⟨4, _⟩ => ⟨S256x32, .f32⟩
  | .local .scVector .vmem, ⟨5, _⟩ => ⟨S256x32, .f32⟩
  | .local .scVector .vmem, ⟨6, _⟩ => ⟨S512, .f32⟩
  | .local .scVector .vmem, ⟨7, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 5, rfl⟩
abbrev main_v0_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_3 : BitVec 32 := 0#32
  let c8_i32 : BitVec 32 := 8#32
  let v6 : BitVec 32 := Scalar.addi c0_i32_3 c8_i32
  let c1_i32 : BitVec 32 := 1#32
  ⟨c0_i32_3, v6, c1_i32⟩
def k0_off2 (k0_t1 : Fin k0_t1_loop.trips) : Fin 1 → Nat :=
  let c0_i32_2 : BitVec 32 := 0#32
  let c128_i32_9 : BitVec 32 := 128#32
  let v8 : BitVec 32 := Scalar.muli c0_i32_2 c128_i32_9
  let c0_i32_3 : BitVec 32 := 0#32
  let c1_i32 : BitVec 32 := 1#32
  let arg20 : BitVec 32 := Scf.iv c0_i32_3 c1_i32 k0_t1
  let c16_i32 : BitVec 32 := 16#32
  let v9 : BitVec 32 := Scalar.muli arg20 c16_i32
  let v10 : BitVec 32 := Scalar.addi v8 v9
  let v11 : Index := Scalar.indexCast v10
  ![v11.toNat]
def k0_off3 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_10 : BitVec 32 := 16#32
  let v17 : BitVec 32 := Scalar.muli arg20 c16_i32_10
  let v18 : BitVec 32 := Scalar.addi v5 v17
  let c0_i32_11 : BitVec 32 := 0#32
  let v19 : BitVec 32 := Scalar.addi v18 c0_i32_11
  let c0_i32_12 : BitVec 32 := 0#32
  ![v19.toNat, 0]
def k0_off4 (v21 : BitVec 32) : Fin 2 → Nat :=
  let c0_i32_13 : BitVec 32 := 0#32
  ![v21.toNat, 0]

def k0_chk1 (v21 : BitVec 32) : Prop :=
  (∀ a, (k0_off4 v21) a + S1x32.size a ≤ S1000000x32.size a)
theorem k0_off4_inb : ∀ (v21 : BitVec 32) (k0_hw1 : k0_chk1 v21), ∀ a, (k0_off4 v21) a + S1x32.size a ≤ S1000000x32.size a := fun v21 k0_hw1 => k0_hw1

def k0_off5 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_10 : BitVec 32 := 16#32
  let v17 : BitVec 32 := Scalar.muli arg20 c16_i32_10
  let v18 : BitVec 32 := Scalar.addi v5 v17
  let c0_i32_11 : BitVec 32 := 0#32
  let v19 : BitVec 32 := Scalar.addi v18 c0_i32_11
  let c0_i32_14 : BitVec 32 := 0#32
  ![v19.toNat, 0]
def k0_off6 (v27 : BitVec 32) : Fin 2 → Nat :=
  let c0_i32_17 : BitVec 32 := 0#32
  ![v27.toNat, 0]

def k0_chk2 (v27 : BitVec 32) : Prop :=
  (∀ a, (k0_off6 v27) a + S1x32.size a ≤ S1000000x32.size a)
theorem k0_off6_inb : ∀ (v27 : BitVec 32) (k0_hw2 : k0_chk2 v27), ∀ a, (k0_off6 v27) a + S1x32.size a ≤ S1000000x32.size a := fun v27 k0_hw2 => k0_hw2

def k0_off7 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_10 : BitVec 32 := 16#32
  let v17 : BitVec 32 := Scalar.muli arg20 c16_i32_10
  let v18 : BitVec 32 := Scalar.addi v5 v17
  let c0_i32_11 : BitVec 32 := 0#32
  let v19 : BitVec 32 := Scalar.addi v18 c0_i32_11
  let c0_i32_18 : BitVec 32 := 0#32
  ![v19.toNat, 0]
def k0_off8 (v33 : BitVec 32) : Fin 2 → Nat :=
  let c0_i32_21 : BitVec 32 := 0#32
  ![v33.toNat, 0]

def k0_chk3 (v33 : BitVec 32) : Prop :=
  (∀ a, (k0_off8 v33) a + S1x32.size a ≤ S1000000x32.size a)
theorem k0_off8_inb : ∀ (v33 : BitVec 32) (k0_hw3 : k0_chk3 v33), ∀ a, (k0_off8 v33) a + S1x32.size a ≤ S1000000x32.size a := fun v33 k0_hw3 => k0_hw3

def k0_off9 (k0_t1 : Fin k0_t1_loop.trips) (c0_i32_11 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_10 : BitVec 32 := 16#32
  let v17 : BitVec 32 := Scalar.muli arg20 c16_i32_10
  let v18 : BitVec 32 := Scalar.addi v5 v17
  let v19 : BitVec 32 := Scalar.addi v18 c0_i32_11
  let c0_i32_22 : BitVec 32 := 0#32
  ![v19.toNat, 0]
def k0_off10 (v42 : BitVec 32) : Fin 2 → Nat :=
  let c0_i32_27 : BitVec 32 := 0#32
  ![v42.toNat, 0]

def k0_chk4 (v42 : BitVec 32) : Prop :=
  (∀ a, (k0_off10 v42) a + S1x32.size a ≤ S1000000x32.size a)
theorem k0_off10_inb : ∀ (v42 : BitVec 32) (k0_hw4 : k0_chk4 v42), ∀ a, (k0_off10 v42) a + S1x32.size a ≤ S1000000x32.size a := fun v42 k0_hw4 => k0_hw4

def k0_off11 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_24 : BitVec 32 := 16#32
  let v38 : BitVec 32 := Scalar.muli arg20 c16_i32_24
  let v39 : BitVec 32 := Scalar.addi v5 v38
  let c1_i32_25 : BitVec 32 := 1#32
  let v40 : BitVec 32 := Scalar.addi v39 c1_i32_25
  let c0_i32_28 : BitVec 32 := 0#32
  ![v40.toNat, 0]
def k0_off12 (v48 : BitVec 32) : Fin 2 → Nat :=
  let c0_i32_31 : BitVec 32 := 0#32
  ![v48.toNat, 0]

def k0_chk5 (v48 : BitVec 32) : Prop :=
  (∀ a, (k0_off12 v48) a + S1x32.size a ≤ S1000000x32.size a)
theorem k0_off12_inb : ∀ (v48 : BitVec 32) (k0_hw5 : k0_chk5 v48), ∀ a, (k0_off12 v48) a + S1x32.size a ≤ S1000000x32.size a := fun v48 k0_hw5 => k0_hw5

def k0_off13 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_24 : BitVec 32 := 16#32
  let v38 : BitVec 32 := Scalar.muli arg20 c16_i32_24
  let v39 : BitVec 32 := Scalar.addi v5 v38
  let c1_i32_25 : BitVec 32 := 1#32
  let v40 : BitVec 32 := Scalar.addi v39 c1_i32_25
  let c0_i32_32 : BitVec 32 := 0#32
  ![v40.toNat, 0]
def k0_off14 (v54 : BitVec 32) : Fin 2 → Nat :=
  let c0_i32_35 : BitVec 32 := 0#32
  ![v54.toNat, 0]

def k0_chk6 (v54 : BitVec 32) : Prop :=
  (∀ a, (k0_off14 v54) a + S1x32.size a ≤ S1000000x32.size a)
theorem k0_off14_inb : ∀ (v54 : BitVec 32) (k0_hw6 : k0_chk6 v54), ∀ a, (k0_off14 v54) a + S1x32.size a ≤ S1000000x32.size a := fun v54 k0_hw6 => k0_hw6

def k0_off15 (k0_t1 : Fin k0_t1_loop.trips) (c1_i32_25 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_24 : BitVec 32 := 16#32
  let v38 : BitVec 32 := Scalar.muli arg20 c16_i32_24
  let v39 : BitVec 32 := Scalar.addi v5 v38
  let v40 : BitVec 32 := Scalar.addi v39 c1_i32_25
  let c0_i32_36 : BitVec 32 := 0#32
  ![v40.toNat, 0]
def k0_off16 (v63 : BitVec 32) : Fin 2 → Nat :=
  let c0_i32_41 : BitVec 32 := 0#32
  ![v63.toNat, 0]

def k0_chk7 (v63 : BitVec 32) : Prop :=
  (∀ a, (k0_off16 v63) a + S1x32.size a ≤ S1000000x32.size a)
theorem k0_off16_inb : ∀ (v63 : BitVec 32) (k0_hw7 : k0_chk7 v63), ∀ a, (k0_off16 v63) a + S1x32.size a ≤ S1000000x32.size a := fun v63 k0_hw7 => k0_hw7

def k0_off17 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_38 : BitVec 32 := 16#32
  let v59 : BitVec 32 := Scalar.muli arg20 c16_i32_38
  let v60 : BitVec 32 := Scalar.addi v5 v59
  let c2_i32_39 : BitVec 32 := 2#32
  let v61 : BitVec 32 := Scalar.addi v60 c2_i32_39
  let c0_i32_42 : BitVec 32 := 0#32
  ![v61.toNat, 0]
def k0_off18 (v69 : BitVec 32) : Fin 2 → Nat :=
  let c0_i32_45 : BitVec 32 := 0#32
  ![v69.toNat, 0]

def k0_chk8 (v69 : BitVec 32) : Prop :=
  (∀ a, (k0_off18 v69) a + S1x32.size a ≤ S1000000x32.size a)
theorem k0_off18_inb : ∀ (v69 : BitVec 32) (k0_hw8 : k0_chk8 v69), ∀ a, (k0_off18 v69) a + S1x32.size a ≤ S1000000x32.size a := fun v69 k0_hw8 => k0_hw8

def k0_off19 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_38 : BitVec 32 := 16#32
  let v59 : BitVec 32 := Scalar.muli arg20 c16_i32_38
  let v60 : BitVec 32 := Scalar.addi v5 v59
  let c2_i32_39 : BitVec 32 := 2#32
  let v61 : BitVec 32 := Scalar.addi v60 c2_i32_39
  let c0_i32_46 : BitVec 32 := 0#32
  ![v61.toNat, 0]
def k0_off20 (v75 : BitVec 32) : Fin 2 → Nat :=
  let c0_i32_49 : BitVec 32 := 0#32
  ![v75.toNat, 0]

def k0_chk9 (v75 : BitVec 32) : Prop :=
  (∀ a, (k0_off20 v75) a + S1x32.size a ≤ S1000000x32.size a)
theorem k0_off20_inb : ∀ (v75 : BitVec 32) (k0_hw9 : k0_chk9 v75), ∀ a, (k0_off20 v75) a + S1x32.size a ≤ S1000000x32.size a := fun v75 k0_hw9 => k0_hw9

def k0_off21 (k0_t1 : Fin k0_t1_loop.trips) (c2_i32_39 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_38 : BitVec 32 := 16#32
  let v59 : BitVec 32 := Scalar.muli arg20 c16_i32_38
  let v60 : BitVec 32 := Scalar.addi v5 v59
  let v61 : BitVec 32 := Scalar.addi v60 c2_i32_39
  let c0_i32_50 : BitVec 32 := 0#32
  ![v61.toNat, 0]
def k0_off22 (v84 : BitVec 32) : Fin 2 → Nat :=
  let c0_i32_54 : BitVec 32 := 0#32
  ![v84.toNat, 0]

def k0_chk10 (v84 : BitVec 32) : Prop :=
  (∀ a, (k0_off22 v84) a + S1x32.size a ≤ S1000000x32.size a)
theorem k0_off22_inb : ∀ (v84 : BitVec 32) (k0_hw10 : k0_chk10 v84), ∀ a, (k0_off22 v84) a + S1x32.size a ≤ S1000000x32.size a := fun v84 k0_hw10 => k0_hw10

def k0_off23 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_52 : BitVec 32 := 16#32
  let v80 : BitVec 32 := Scalar.muli arg20 c16_i32_52
  let v81 : BitVec 32 := Scalar.addi v5 v80
  let c3_i32 : BitVec 32 := 3#32
  let v82 : BitVec 32 := Scalar.addi v81 c3_i32
  let c0_i32_55 : BitVec 32 := 0#32
  ![v82.toNat, 0]
def k0_off24 (v90 : BitVec 32) : Fin 2 → Nat :=
  let c0_i32_58 : BitVec 32 := 0#32
  ![v90.toNat, 0]

def k0_chk11 (v90 : BitVec 32) : Prop :=
  (∀ a, (k0_off24 v90) a + S1x32.size a ≤ S1000000x32.size a)
theorem k0_off24_inb : ∀ (v90 : BitVec 32) (k0_hw11 : k0_chk11 v90), ∀ a, (k0_off24 v90) a + S1x32.size a ≤ S1000000x32.size a := fun v90 k0_hw11 => k0_hw11

def k0_off25 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_52 : BitVec 32 := 16#32
  let v80 : BitVec 32 := Scalar.muli arg20 c16_i32_52
  let v81 : BitVec 32 := Scalar.addi v5 v80
  let c3_i32 : BitVec 32 := 3#32
  let v82 : BitVec 32 := Scalar.addi v81 c3_i32
  let c0_i32_59 : BitVec 32 := 0#32
  ![v82.toNat, 0]
def k0_off26 (v96 : BitVec 32) : Fin 2 → Nat :=
  let c0_i32_62 : BitVec 32 := 0#32
  ![v96.toNat, 0]

def k0_chk12 (v96 : BitVec 32) : Prop :=
  (∀ a, (k0_off26 v96) a + S1x32.size a ≤ S1000000x32.size a)
theorem k0_off26_inb : ∀ (v96 : BitVec 32) (k0_hw12 : k0_chk12 v96), ∀ a, (k0_off26 v96) a + S1x32.size a ≤ S1000000x32.size a := fun v96 k0_hw12 => k0_hw12

def k0_off27 (k0_t1 : Fin k0_t1_loop.trips) (c3_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_52 : BitVec 32 := 16#32
  let v80 : BitVec 32 := Scalar.muli arg20 c16_i32_52
  let v81 : BitVec 32 := Scalar.addi v5 v80
  let v82 : BitVec 32 := Scalar.addi v81 c3_i32
  let c0_i32_63 : BitVec 32 := 0#32
  ![v82.toNat, 0]
def k0_off28 (v105 : BitVec 32) : Fin 2 → Nat :=
  let c0_i32_68 : BitVec 32 := 0#32
  ![v105.toNat, 0]

def k0_chk13 (v105 : BitVec 32) : Prop :=
  (∀ a, (k0_off28 v105) a + S1x32.size a ≤ S1000000x32.size a)
theorem k0_off28_inb : ∀ (v105 : BitVec 32) (k0_hw13 : k0_chk13 v105), ∀ a, (k0_off28 v105) a + S1x32.size a ≤ S1000000x32.size a := fun v105 k0_hw13 => k0_hw13

def k0_off29 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_65 : BitVec 32 := 16#32
  let v101 : BitVec 32 := Scalar.muli arg20 c16_i32_65
  let v102 : BitVec 32 := Scalar.addi v5 v101
  let c4_i32_66 : BitVec 32 := 4#32
  let v103 : BitVec 32 := Scalar.addi v102 c4_i32_66
  let c0_i32_69 : BitVec 32 := 0#32
  ![v103.toNat, 0]
def k0_off30 (v111 : BitVec 32) : Fin 2 → Nat :=
  let c0_i32_72 : BitVec 32 := 0#32
  ![v111.toNat, 0]

def k0_chk14 (v111 : BitVec 32) : Prop :=
  (∀ a, (k0_off30 v111) a + S1x32.size a ≤ S1000000x32.size a)
theorem k0_off30_inb : ∀ (v111 : BitVec 32) (k0_hw14 : k0_chk14 v111), ∀ a, (k0_off30 v111) a + S1x32.size a ≤ S1000000x32.size a := fun v111 k0_hw14 => k0_hw14

def k0_off31 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_65 : BitVec 32 := 16#32
  let v101 : BitVec 32 := Scalar.muli arg20 c16_i32_65
  let v102 : BitVec 32 := Scalar.addi v5 v101
  let c4_i32_66 : BitVec 32 := 4#32
  let v103 : BitVec 32 := Scalar.addi v102 c4_i32_66
  let c0_i32_73 : BitVec 32 := 0#32
  ![v103.toNat, 0]
def k0_off32 (v117 : BitVec 32) : Fin 2 → Nat :=
  let c0_i32_76 : BitVec 32 := 0#32
  ![v117.toNat, 0]

def k0_chk15 (v117 : BitVec 32) : Prop :=
  (∀ a, (k0_off32 v117) a + S1x32.size a ≤ S1000000x32.size a)
theorem k0_off32_inb : ∀ (v117 : BitVec 32) (k0_hw15 : k0_chk15 v117), ∀ a, (k0_off32 v117) a + S1x32.size a ≤ S1000000x32.size a := fun v117 k0_hw15 => k0_hw15

def k0_off33 (k0_t1 : Fin k0_t1_loop.trips) (c4_i32_66 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_65 : BitVec 32 := 16#32
  let v101 : BitVec 32 := Scalar.muli arg20 c16_i32_65
  let v102 : BitVec 32 := Scalar.addi v5 v101
  let v103 : BitVec 32 := Scalar.addi v102 c4_i32_66
  let c0_i32_77 : BitVec 32 := 0#32
  ![v103.toNat, 0]
def k0_off34 (v126 : BitVec 32) : Fin 2 → Nat :=
  let c0_i32_81 : BitVec 32 := 0#32
  ![v126.toNat, 0]

def k0_chk16 (v126 : BitVec 32) : Prop :=
  (∀ a, (k0_off34 v126) a + S1x32.size a ≤ S1000000x32.size a)
theorem k0_off34_inb : ∀ (v126 : BitVec 32) (k0_hw16 : k0_chk16 v126), ∀ a, (k0_off34 v126) a + S1x32.size a ≤ S1000000x32.size a := fun v126 k0_hw16 => k0_hw16

def k0_off35 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_79 : BitVec 32 := 16#32
  let v122 : BitVec 32 := Scalar.muli arg20 c16_i32_79
  let v123 : BitVec 32 := Scalar.addi v5 v122
  let c5_i32 : BitVec 32 := 5#32
  let v124 : BitVec 32 := Scalar.addi v123 c5_i32
  let c0_i32_82 : BitVec 32 := 0#32
  ![v124.toNat, 0]
def k0_off36 (v132 : BitVec 32) : Fin 2 → Nat :=
  let c0_i32_85 : BitVec 32 := 0#32
  ![v132.toNat, 0]

def k0_chk17 (v132 : BitVec 32) : Prop :=
  (∀ a, (k0_off36 v132) a + S1x32.size a ≤ S1000000x32.size a)
theorem k0_off36_inb : ∀ (v132 : BitVec 32) (k0_hw17 : k0_chk17 v132), ∀ a, (k0_off36 v132) a + S1x32.size a ≤ S1000000x32.size a := fun v132 k0_hw17 => k0_hw17

def k0_off37 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_79 : BitVec 32 := 16#32
  let v122 : BitVec 32 := Scalar.muli arg20 c16_i32_79
  let v123 : BitVec 32 := Scalar.addi v5 v122
  let c5_i32 : BitVec 32 := 5#32
  let v124 : BitVec 32 := Scalar.addi v123 c5_i32
  let c0_i32_86 : BitVec 32 := 0#32
  ![v124.toNat, 0]
def k0_off38 (v138 : BitVec 32) : Fin 2 → Nat :=
  let c0_i32_89 : BitVec 32 := 0#32
  ![v138.toNat, 0]

def k0_chk18 (v138 : BitVec 32) : Prop :=
  (∀ a, (k0_off38 v138) a + S1x32.size a ≤ S1000000x32.size a)
theorem k0_off38_inb : ∀ (v138 : BitVec 32) (k0_hw18 : k0_chk18 v138), ∀ a, (k0_off38 v138) a + S1x32.size a ≤ S1000000x32.size a := fun v138 k0_hw18 => k0_hw18

def k0_off39 (k0_t1 : Fin k0_t1_loop.trips) (c5_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_79 : BitVec 32 := 16#32
  let v122 : BitVec 32 := Scalar.muli arg20 c16_i32_79
  let v123 : BitVec 32 := Scalar.addi v5 v122
  let v124 : BitVec 32 := Scalar.addi v123 c5_i32
  let c0_i32_90 : BitVec 32 := 0#32
  ![v124.toNat, 0]
def k0_off40 (v147 : BitVec 32) : Fin 2 → Nat :=
  let c0_i32_94 : BitVec 32 := 0#32
  ![v147.toNat, 0]

def k0_chk19 (v147 : BitVec 32) : Prop :=
  (∀ a, (k0_off40 v147) a + S1x32.size a ≤ S1000000x32.size a)
theorem k0_off40_inb : ∀ (v147 : BitVec 32) (k0_hw19 : k0_chk19 v147), ∀ a, (k0_off40 v147) a + S1x32.size a ≤ S1000000x32.size a := fun v147 k0_hw19 => k0_hw19

def k0_off41 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_92 : BitVec 32 := 16#32
  let v143 : BitVec 32 := Scalar.muli arg20 c16_i32_92
  let v144 : BitVec 32 := Scalar.addi v5 v143
  let c6_i32 : BitVec 32 := 6#32
  let v145 : BitVec 32 := Scalar.addi v144 c6_i32
  let c0_i32_95 : BitVec 32 := 0#32
  ![v145.toNat, 0]
def k0_off42 (v153 : BitVec 32) : Fin 2 → Nat :=
  let c0_i32_98 : BitVec 32 := 0#32
  ![v153.toNat, 0]

def k0_chk20 (v153 : BitVec 32) : Prop :=
  (∀ a, (k0_off42 v153) a + S1x32.size a ≤ S1000000x32.size a)
theorem k0_off42_inb : ∀ (v153 : BitVec 32) (k0_hw20 : k0_chk20 v153), ∀ a, (k0_off42 v153) a + S1x32.size a ≤ S1000000x32.size a := fun v153 k0_hw20 => k0_hw20

def k0_off43 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_92 : BitVec 32 := 16#32
  let v143 : BitVec 32 := Scalar.muli arg20 c16_i32_92
  let v144 : BitVec 32 := Scalar.addi v5 v143
  let c6_i32 : BitVec 32 := 6#32
  let v145 : BitVec 32 := Scalar.addi v144 c6_i32
  let c0_i32_99 : BitVec 32 := 0#32
  ![v145.toNat, 0]
def k0_off44 (v159 : BitVec 32) : Fin 2 → Nat :=
  let c0_i32_102 : BitVec 32 := 0#32
  ![v159.toNat, 0]

def k0_chk21 (v159 : BitVec 32) : Prop :=
  (∀ a, (k0_off44 v159) a + S1x32.size a ≤ S1000000x32.size a)
theorem k0_off44_inb : ∀ (v159 : BitVec 32) (k0_hw21 : k0_chk21 v159), ∀ a, (k0_off44 v159) a + S1x32.size a ≤ S1000000x32.size a := fun v159 k0_hw21 => k0_hw21

def k0_off45 (k0_t1 : Fin k0_t1_loop.trips) (c6_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_92 : BitVec 32 := 16#32
  let v143 : BitVec 32 := Scalar.muli arg20 c16_i32_92
  let v144 : BitVec 32 := Scalar.addi v5 v143
  let v145 : BitVec 32 := Scalar.addi v144 c6_i32
  let c0_i32_103 : BitVec 32 := 0#32
  ![v145.toNat, 0]
def k0_off46 (v168 : BitVec 32) : Fin 2 → Nat :=
  let c0_i32_107 : BitVec 32 := 0#32
  ![v168.toNat, 0]

def k0_chk22 (v168 : BitVec 32) : Prop :=
  (∀ a, (k0_off46 v168) a + S1x32.size a ≤ S1000000x32.size a)
theorem k0_off46_inb : ∀ (v168 : BitVec 32) (k0_hw22 : k0_chk22 v168), ∀ a, (k0_off46 v168) a + S1x32.size a ≤ S1000000x32.size a := fun v168 k0_hw22 => k0_hw22

def k0_off47 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_105 : BitVec 32 := 16#32
  let v164 : BitVec 32 := Scalar.muli arg20 c16_i32_105
  let v165 : BitVec 32 := Scalar.addi v5 v164
  let c7_i32 : BitVec 32 := 7#32
  let v166 : BitVec 32 := Scalar.addi v165 c7_i32
  let c0_i32_108 : BitVec 32 := 0#32
  ![v166.toNat, 0]
def k0_off48 (v174 : BitVec 32) : Fin 2 → Nat :=
  let c0_i32_111 : BitVec 32 := 0#32
  ![v174.toNat, 0]

def k0_chk23 (v174 : BitVec 32) : Prop :=
  (∀ a, (k0_off48 v174) a + S1x32.size a ≤ S1000000x32.size a)
theorem k0_off48_inb : ∀ (v174 : BitVec 32) (k0_hw23 : k0_chk23 v174), ∀ a, (k0_off48 v174) a + S1x32.size a ≤ S1000000x32.size a := fun v174 k0_hw23 => k0_hw23

def k0_off49 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_105 : BitVec 32 := 16#32
  let v164 : BitVec 32 := Scalar.muli arg20 c16_i32_105
  let v165 : BitVec 32 := Scalar.addi v5 v164
  let c7_i32 : BitVec 32 := 7#32
  let v166 : BitVec 32 := Scalar.addi v165 c7_i32
  let c0_i32_112 : BitVec 32 := 0#32
  ![v166.toNat, 0]
def k0_off50 (v180 : BitVec 32) : Fin 2 → Nat :=
  let c0_i32_115 : BitVec 32 := 0#32
  ![v180.toNat, 0]

def k0_chk24 (v180 : BitVec 32) : Prop :=
  (∀ a, (k0_off50 v180) a + S1x32.size a ≤ S1000000x32.size a)
theorem k0_off50_inb : ∀ (v180 : BitVec 32) (k0_hw24 : k0_chk24 v180), ∀ a, (k0_off50 v180) a + S1x32.size a ≤ S1000000x32.size a := fun v180 k0_hw24 => k0_hw24

def k0_off51 (k0_t1 : Fin k0_t1_loop.trips) (c7_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_105 : BitVec 32 := 16#32
  let v164 : BitVec 32 := Scalar.muli arg20 c16_i32_105
  let v165 : BitVec 32 := Scalar.addi v5 v164
  let v166 : BitVec 32 := Scalar.addi v165 c7_i32
  let c0_i32_116 : BitVec 32 := 0#32
  ![v166.toNat, 0]
def k0_off52 (v189 : BitVec 32) : Fin 2 → Nat :=
  let c0_i32_121 : BitVec 32 := 0#32
  ![v189.toNat, 0]

def k0_chk25 (v189 : BitVec 32) : Prop :=
  (∀ a, (k0_off52 v189) a + S1x32.size a ≤ S1000000x32.size a)
theorem k0_off52_inb : ∀ (v189 : BitVec 32) (k0_hw25 : k0_chk25 v189), ∀ a, (k0_off52 v189) a + S1x32.size a ≤ S1000000x32.size a := fun v189 k0_hw25 => k0_hw25

def k0_off53 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_118 : BitVec 32 := 16#32
  let v185 : BitVec 32 := Scalar.muli arg20 c16_i32_118
  let v186 : BitVec 32 := Scalar.addi v5 v185
  let c8_i32_119 : BitVec 32 := 8#32
  let v187 : BitVec 32 := Scalar.addi v186 c8_i32_119
  let c0_i32_122 : BitVec 32 := 0#32
  ![v187.toNat, 0]
def k0_off54 (v195 : BitVec 32) : Fin 2 → Nat :=
  let c0_i32_125 : BitVec 32 := 0#32
  ![v195.toNat, 0]

def k0_chk26 (v195 : BitVec 32) : Prop :=
  (∀ a, (k0_off54 v195) a + S1x32.size a ≤ S1000000x32.size a)
theorem k0_off54_inb : ∀ (v195 : BitVec 32) (k0_hw26 : k0_chk26 v195), ∀ a, (k0_off54 v195) a + S1x32.size a ≤ S1000000x32.size a := fun v195 k0_hw26 => k0_hw26

def k0_off55 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_118 : BitVec 32 := 16#32
  let v185 : BitVec 32 := Scalar.muli arg20 c16_i32_118
  let v186 : BitVec 32 := Scalar.addi v5 v185
  let c8_i32_119 : BitVec 32 := 8#32
  let v187 : BitVec 32 := Scalar.addi v186 c8_i32_119
  let c0_i32_126 : BitVec 32 := 0#32
  ![v187.toNat, 0]
def k0_off56 (v201 : BitVec 32) : Fin 2 → Nat :=
  let c0_i32_129 : BitVec 32 := 0#32
  ![v201.toNat, 0]

def k0_chk27 (v201 : BitVec 32) : Prop :=
  (∀ a, (k0_off56 v201) a + S1x32.size a ≤ S1000000x32.size a)
theorem k0_off56_inb : ∀ (v201 : BitVec 32) (k0_hw27 : k0_chk27 v201), ∀ a, (k0_off56 v201) a + S1x32.size a ≤ S1000000x32.size a := fun v201 k0_hw27 => k0_hw27

def k0_off57 (k0_t1 : Fin k0_t1_loop.trips) (c8_i32_119 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_118 : BitVec 32 := 16#32
  let v185 : BitVec 32 := Scalar.muli arg20 c16_i32_118
  let v186 : BitVec 32 := Scalar.addi v5 v185
  let v187 : BitVec 32 := Scalar.addi v186 c8_i32_119
  let c0_i32_130 : BitVec 32 := 0#32
  ![v187.toNat, 0]
def k0_off58 (v210 : BitVec 32) : Fin 2 → Nat :=
  let c0_i32_134 : BitVec 32 := 0#32
  ![v210.toNat, 0]

def k0_chk28 (v210 : BitVec 32) : Prop :=
  (∀ a, (k0_off58 v210) a + S1x32.size a ≤ S1000000x32.size a)
theorem k0_off58_inb : ∀ (v210 : BitVec 32) (k0_hw28 : k0_chk28 v210), ∀ a, (k0_off58 v210) a + S1x32.size a ≤ S1000000x32.size a := fun v210 k0_hw28 => k0_hw28

def k0_off59 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_132 : BitVec 32 := 16#32
  let v206 : BitVec 32 := Scalar.muli arg20 c16_i32_132
  let v207 : BitVec 32 := Scalar.addi v5 v206
  let c9_i32 : BitVec 32 := 9#32
  let v208 : BitVec 32 := Scalar.addi v207 c9_i32
  let c0_i32_135 : BitVec 32 := 0#32
  ![v208.toNat, 0]
def k0_off60 (v216 : BitVec 32) : Fin 2 → Nat :=
  let c0_i32_138 : BitVec 32 := 0#32
  ![v216.toNat, 0]

def k0_chk29 (v216 : BitVec 32) : Prop :=
  (∀ a, (k0_off60 v216) a + S1x32.size a ≤ S1000000x32.size a)
theorem k0_off60_inb : ∀ (v216 : BitVec 32) (k0_hw29 : k0_chk29 v216), ∀ a, (k0_off60 v216) a + S1x32.size a ≤ S1000000x32.size a := fun v216 k0_hw29 => k0_hw29

def k0_off61 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_132 : BitVec 32 := 16#32
  let v206 : BitVec 32 := Scalar.muli arg20 c16_i32_132
  let v207 : BitVec 32 := Scalar.addi v5 v206
  let c9_i32 : BitVec 32 := 9#32
  let v208 : BitVec 32 := Scalar.addi v207 c9_i32
  let c0_i32_139 : BitVec 32 := 0#32
  ![v208.toNat, 0]
def k0_off62 (v222 : BitVec 32) : Fin 2 → Nat :=
  let c0_i32_142 : BitVec 32 := 0#32
  ![v222.toNat, 0]

def k0_chk30 (v222 : BitVec 32) : Prop :=
  (∀ a, (k0_off62 v222) a + S1x32.size a ≤ S1000000x32.size a)
theorem k0_off62_inb : ∀ (v222 : BitVec 32) (k0_hw30 : k0_chk30 v222), ∀ a, (k0_off62 v222) a + S1x32.size a ≤ S1000000x32.size a := fun v222 k0_hw30 => k0_hw30

def k0_off63 (k0_t1 : Fin k0_t1_loop.trips) (c9_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_132 : BitVec 32 := 16#32
  let v206 : BitVec 32 := Scalar.muli arg20 c16_i32_132
  let v207 : BitVec 32 := Scalar.addi v5 v206
  let v208 : BitVec 32 := Scalar.addi v207 c9_i32
  let c0_i32_143 : BitVec 32 := 0#32
  ![v208.toNat, 0]
def k0_off64 (v231 : BitVec 32) : Fin 2 → Nat :=
  let c0_i32_147 : BitVec 32 := 0#32
  ![v231.toNat, 0]

def k0_chk31 (v231 : BitVec 32) : Prop :=
  (∀ a, (k0_off64 v231) a + S1x32.size a ≤ S1000000x32.size a)
theorem k0_off64_inb : ∀ (v231 : BitVec 32) (k0_hw31 : k0_chk31 v231), ∀ a, (k0_off64 v231) a + S1x32.size a ≤ S1000000x32.size a := fun v231 k0_hw31 => k0_hw31

def k0_off65 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_145 : BitVec 32 := 16#32
  let v227 : BitVec 32 := Scalar.muli arg20 c16_i32_145
  let v228 : BitVec 32 := Scalar.addi v5 v227
  let c10_i32 : BitVec 32 := 10#32
  let v229 : BitVec 32 := Scalar.addi v228 c10_i32
  let c0_i32_148 : BitVec 32 := 0#32
  ![v229.toNat, 0]
def k0_off66 (v237 : BitVec 32) : Fin 2 → Nat :=
  let c0_i32_151 : BitVec 32 := 0#32
  ![v237.toNat, 0]

def k0_chk32 (v237 : BitVec 32) : Prop :=
  (∀ a, (k0_off66 v237) a + S1x32.size a ≤ S1000000x32.size a)
theorem k0_off66_inb : ∀ (v237 : BitVec 32) (k0_hw32 : k0_chk32 v237), ∀ a, (k0_off66 v237) a + S1x32.size a ≤ S1000000x32.size a := fun v237 k0_hw32 => k0_hw32

def k0_off67 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_145 : BitVec 32 := 16#32
  let v227 : BitVec 32 := Scalar.muli arg20 c16_i32_145
  let v228 : BitVec 32 := Scalar.addi v5 v227
  let c10_i32 : BitVec 32 := 10#32
  let v229 : BitVec 32 := Scalar.addi v228 c10_i32
  let c0_i32_152 : BitVec 32 := 0#32
  ![v229.toNat, 0]
def k0_off68 (v243 : BitVec 32) : Fin 2 → Nat :=
  let c0_i32_155 : BitVec 32 := 0#32
  ![v243.toNat, 0]

def k0_chk33 (v243 : BitVec 32) : Prop :=
  (∀ a, (k0_off68 v243) a + S1x32.size a ≤ S1000000x32.size a)
theorem k0_off68_inb : ∀ (v243 : BitVec 32) (k0_hw33 : k0_chk33 v243), ∀ a, (k0_off68 v243) a + S1x32.size a ≤ S1000000x32.size a := fun v243 k0_hw33 => k0_hw33

def k0_off69 (k0_t1 : Fin k0_t1_loop.trips) (c10_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_145 : BitVec 32 := 16#32
  let v227 : BitVec 32 := Scalar.muli arg20 c16_i32_145
  let v228 : BitVec 32 := Scalar.addi v5 v227
  let v229 : BitVec 32 := Scalar.addi v228 c10_i32
  let c0_i32_156 : BitVec 32 := 0#32
  ![v229.toNat, 0]
def k0_off70 (v252 : BitVec 32) : Fin 2 → Nat :=
  let c0_i32_160 : BitVec 32 := 0#32
  ![v252.toNat, 0]

def k0_chk34 (v252 : BitVec 32) : Prop :=
  (∀ a, (k0_off70 v252) a + S1x32.size a ≤ S1000000x32.size a)
theorem k0_off70_inb : ∀ (v252 : BitVec 32) (k0_hw34 : k0_chk34 v252), ∀ a, (k0_off70 v252) a + S1x32.size a ≤ S1000000x32.size a := fun v252 k0_hw34 => k0_hw34

def k0_off71 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_158 : BitVec 32 := 16#32
  let v248 : BitVec 32 := Scalar.muli arg20 c16_i32_158
  let v249 : BitVec 32 := Scalar.addi v5 v248
  let c11_i32 : BitVec 32 := 11#32
  let v250 : BitVec 32 := Scalar.addi v249 c11_i32
  let c0_i32_161 : BitVec 32 := 0#32
  ![v250.toNat, 0]
def k0_off72 (v258 : BitVec 32) : Fin 2 → Nat :=
  let c0_i32_164 : BitVec 32 := 0#32
  ![v258.toNat, 0]

def k0_chk35 (v258 : BitVec 32) : Prop :=
  (∀ a, (k0_off72 v258) a + S1x32.size a ≤ S1000000x32.size a)
theorem k0_off72_inb : ∀ (v258 : BitVec 32) (k0_hw35 : k0_chk35 v258), ∀ a, (k0_off72 v258) a + S1x32.size a ≤ S1000000x32.size a := fun v258 k0_hw35 => k0_hw35

def k0_off73 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_158 : BitVec 32 := 16#32
  let v248 : BitVec 32 := Scalar.muli arg20 c16_i32_158
  let v249 : BitVec 32 := Scalar.addi v5 v248
  let c11_i32 : BitVec 32 := 11#32
  let v250 : BitVec 32 := Scalar.addi v249 c11_i32
  let c0_i32_165 : BitVec 32 := 0#32
  ![v250.toNat, 0]
def k0_off74 (v264 : BitVec 32) : Fin 2 → Nat :=
  let c0_i32_168 : BitVec 32 := 0#32
  ![v264.toNat, 0]

def k0_chk36 (v264 : BitVec 32) : Prop :=
  (∀ a, (k0_off74 v264) a + S1x32.size a ≤ S1000000x32.size a)
theorem k0_off74_inb : ∀ (v264 : BitVec 32) (k0_hw36 : k0_chk36 v264), ∀ a, (k0_off74 v264) a + S1x32.size a ≤ S1000000x32.size a := fun v264 k0_hw36 => k0_hw36

def k0_off75 (k0_t1 : Fin k0_t1_loop.trips) (c11_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_158 : BitVec 32 := 16#32
  let v248 : BitVec 32 := Scalar.muli arg20 c16_i32_158
  let v249 : BitVec 32 := Scalar.addi v5 v248
  let v250 : BitVec 32 := Scalar.addi v249 c11_i32
  let c0_i32_169 : BitVec 32 := 0#32
  ![v250.toNat, 0]
def k0_off76 (v273 : BitVec 32) : Fin 2 → Nat :=
  let c0_i32_173 : BitVec 32 := 0#32
  ![v273.toNat, 0]

def k0_chk37 (v273 : BitVec 32) : Prop :=
  (∀ a, (k0_off76 v273) a + S1x32.size a ≤ S1000000x32.size a)
theorem k0_off76_inb : ∀ (v273 : BitVec 32) (k0_hw37 : k0_chk37 v273), ∀ a, (k0_off76 v273) a + S1x32.size a ≤ S1000000x32.size a := fun v273 k0_hw37 => k0_hw37

def k0_off77 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_171 : BitVec 32 := 16#32
  let v269 : BitVec 32 := Scalar.muli arg20 c16_i32_171
  let v270 : BitVec 32 := Scalar.addi v5 v269
  let c12_i32 : BitVec 32 := 12#32
  let v271 : BitVec 32 := Scalar.addi v270 c12_i32
  let c0_i32_174 : BitVec 32 := 0#32
  ![v271.toNat, 0]
def k0_off78 (v279 : BitVec 32) : Fin 2 → Nat :=
  let c0_i32_177 : BitVec 32 := 0#32
  ![v279.toNat, 0]

def k0_chk38 (v279 : BitVec 32) : Prop :=
  (∀ a, (k0_off78 v279) a + S1x32.size a ≤ S1000000x32.size a)
theorem k0_off78_inb : ∀ (v279 : BitVec 32) (k0_hw38 : k0_chk38 v279), ∀ a, (k0_off78 v279) a + S1x32.size a ≤ S1000000x32.size a := fun v279 k0_hw38 => k0_hw38

def k0_off79 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_171 : BitVec 32 := 16#32
  let v269 : BitVec 32 := Scalar.muli arg20 c16_i32_171
  let v270 : BitVec 32 := Scalar.addi v5 v269
  let c12_i32 : BitVec 32 := 12#32
  let v271 : BitVec 32 := Scalar.addi v270 c12_i32
  let c0_i32_178 : BitVec 32 := 0#32
  ![v271.toNat, 0]
def k0_off80 (v285 : BitVec 32) : Fin 2 → Nat :=
  let c0_i32_181 : BitVec 32 := 0#32
  ![v285.toNat, 0]

def k0_chk39 (v285 : BitVec 32) : Prop :=
  (∀ a, (k0_off80 v285) a + S1x32.size a ≤ S1000000x32.size a)
theorem k0_off80_inb : ∀ (v285 : BitVec 32) (k0_hw39 : k0_chk39 v285), ∀ a, (k0_off80 v285) a + S1x32.size a ≤ S1000000x32.size a := fun v285 k0_hw39 => k0_hw39

def k0_off81 (k0_t1 : Fin k0_t1_loop.trips) (c12_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_171 : BitVec 32 := 16#32
  let v269 : BitVec 32 := Scalar.muli arg20 c16_i32_171
  let v270 : BitVec 32 := Scalar.addi v5 v269
  let v271 : BitVec 32 := Scalar.addi v270 c12_i32
  let c0_i32_182 : BitVec 32 := 0#32
  ![v271.toNat, 0]
def k0_off82 (v294 : BitVec 32) : Fin 2 → Nat :=
  let c0_i32_186 : BitVec 32 := 0#32
  ![v294.toNat, 0]

def k0_chk40 (v294 : BitVec 32) : Prop :=
  (∀ a, (k0_off82 v294) a + S1x32.size a ≤ S1000000x32.size a)
theorem k0_off82_inb : ∀ (v294 : BitVec 32) (k0_hw40 : k0_chk40 v294), ∀ a, (k0_off82 v294) a + S1x32.size a ≤ S1000000x32.size a := fun v294 k0_hw40 => k0_hw40

def k0_off83 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_184 : BitVec 32 := 16#32
  let v290 : BitVec 32 := Scalar.muli arg20 c16_i32_184
  let v291 : BitVec 32 := Scalar.addi v5 v290
  let c13_i32 : BitVec 32 := 13#32
  let v292 : BitVec 32 := Scalar.addi v291 c13_i32
  let c0_i32_187 : BitVec 32 := 0#32
  ![v292.toNat, 0]
def k0_off84 (v300 : BitVec 32) : Fin 2 → Nat :=
  let c0_i32_190 : BitVec 32 := 0#32
  ![v300.toNat, 0]

def k0_chk41 (v300 : BitVec 32) : Prop :=
  (∀ a, (k0_off84 v300) a + S1x32.size a ≤ S1000000x32.size a)
theorem k0_off84_inb : ∀ (v300 : BitVec 32) (k0_hw41 : k0_chk41 v300), ∀ a, (k0_off84 v300) a + S1x32.size a ≤ S1000000x32.size a := fun v300 k0_hw41 => k0_hw41

def k0_off85 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_184 : BitVec 32 := 16#32
  let v290 : BitVec 32 := Scalar.muli arg20 c16_i32_184
  let v291 : BitVec 32 := Scalar.addi v5 v290
  let c13_i32 : BitVec 32 := 13#32
  let v292 : BitVec 32 := Scalar.addi v291 c13_i32
  let c0_i32_191 : BitVec 32 := 0#32
  ![v292.toNat, 0]
def k0_off86 (v306 : BitVec 32) : Fin 2 → Nat :=
  let c0_i32_194 : BitVec 32 := 0#32
  ![v306.toNat, 0]

def k0_chk42 (v306 : BitVec 32) : Prop :=
  (∀ a, (k0_off86 v306) a + S1x32.size a ≤ S1000000x32.size a)
theorem k0_off86_inb : ∀ (v306 : BitVec 32) (k0_hw42 : k0_chk42 v306), ∀ a, (k0_off86 v306) a + S1x32.size a ≤ S1000000x32.size a := fun v306 k0_hw42 => k0_hw42

def k0_off87 (k0_t1 : Fin k0_t1_loop.trips) (c13_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_184 : BitVec 32 := 16#32
  let v290 : BitVec 32 := Scalar.muli arg20 c16_i32_184
  let v291 : BitVec 32 := Scalar.addi v5 v290
  let v292 : BitVec 32 := Scalar.addi v291 c13_i32
  let c0_i32_195 : BitVec 32 := 0#32
  ![v292.toNat, 0]
def k0_off88 (v315 : BitVec 32) : Fin 2 → Nat :=
  let c0_i32_199 : BitVec 32 := 0#32
  ![v315.toNat, 0]

def k0_chk43 (v315 : BitVec 32) : Prop :=
  (∀ a, (k0_off88 v315) a + S1x32.size a ≤ S1000000x32.size a)
theorem k0_off88_inb : ∀ (v315 : BitVec 32) (k0_hw43 : k0_chk43 v315), ∀ a, (k0_off88 v315) a + S1x32.size a ≤ S1000000x32.size a := fun v315 k0_hw43 => k0_hw43

def k0_off89 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_197 : BitVec 32 := 16#32
  let v311 : BitVec 32 := Scalar.muli arg20 c16_i32_197
  let v312 : BitVec 32 := Scalar.addi v5 v311
  let c14_i32 : BitVec 32 := 14#32
  let v313 : BitVec 32 := Scalar.addi v312 c14_i32
  let c0_i32_200 : BitVec 32 := 0#32
  ![v313.toNat, 0]
def k0_off90 (v321 : BitVec 32) : Fin 2 → Nat :=
  let c0_i32_203 : BitVec 32 := 0#32
  ![v321.toNat, 0]

def k0_chk44 (v321 : BitVec 32) : Prop :=
  (∀ a, (k0_off90 v321) a + S1x32.size a ≤ S1000000x32.size a)
theorem k0_off90_inb : ∀ (v321 : BitVec 32) (k0_hw44 : k0_chk44 v321), ∀ a, (k0_off90 v321) a + S1x32.size a ≤ S1000000x32.size a := fun v321 k0_hw44 => k0_hw44

def k0_off91 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_197 : BitVec 32 := 16#32
  let v311 : BitVec 32 := Scalar.muli arg20 c16_i32_197
  let v312 : BitVec 32 := Scalar.addi v5 v311
  let c14_i32 : BitVec 32 := 14#32
  let v313 : BitVec 32 := Scalar.addi v312 c14_i32
  let c0_i32_204 : BitVec 32 := 0#32
  ![v313.toNat, 0]
def k0_off92 (v327 : BitVec 32) : Fin 2 → Nat :=
  let c0_i32_207 : BitVec 32 := 0#32
  ![v327.toNat, 0]

def k0_chk45 (v327 : BitVec 32) : Prop :=
  (∀ a, (k0_off92 v327) a + S1x32.size a ≤ S1000000x32.size a)
theorem k0_off92_inb : ∀ (v327 : BitVec 32) (k0_hw45 : k0_chk45 v327), ∀ a, (k0_off92 v327) a + S1x32.size a ≤ S1000000x32.size a := fun v327 k0_hw45 => k0_hw45

def k0_off93 (k0_t1 : Fin k0_t1_loop.trips) (c14_i32 : BitVec 32) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_197 : BitVec 32 := 16#32
  let v311 : BitVec 32 := Scalar.muli arg20 c16_i32_197
  let v312 : BitVec 32 := Scalar.addi v5 v311
  let v313 : BitVec 32 := Scalar.addi v312 c14_i32
  let c0_i32_208 : BitVec 32 := 0#32
  ![v313.toNat, 0]
def k0_off94 (v336 : BitVec 32) : Fin 2 → Nat :=
  let c0_i32_212 : BitVec 32 := 0#32
  ![v336.toNat, 0]

def k0_chk46 (v336 : BitVec 32) : Prop :=
  (∀ a, (k0_off94 v336) a + S1x32.size a ≤ S1000000x32.size a)
theorem k0_off94_inb : ∀ (v336 : BitVec 32) (k0_hw46 : k0_chk46 v336), ∀ a, (k0_off94 v336) a + S1x32.size a ≤ S1000000x32.size a := fun v336 k0_hw46 => k0_hw46

def k0_off95 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_210 : BitVec 32 := 16#32
  let v332 : BitVec 32 := Scalar.muli arg20 c16_i32_210
  let v333 : BitVec 32 := Scalar.addi v5 v332
  let c15_i32 : BitVec 32 := 15#32
  let v334 : BitVec 32 := Scalar.addi v333 c15_i32
  let c0_i32_213 : BitVec 32 := 0#32
  ![v334.toNat, 0]
def k0_off96 (v342 : BitVec 32) : Fin 2 → Nat :=
  let c0_i32_216 : BitVec 32 := 0#32
  ![v342.toNat, 0]

def k0_chk47 (v342 : BitVec 32) : Prop :=
  (∀ a, (k0_off96 v342) a + S1x32.size a ≤ S1000000x32.size a)
theorem k0_off96_inb : ∀ (v342 : BitVec 32) (k0_hw47 : k0_chk47 v342), ∀ a, (k0_off96 v342) a + S1x32.size a ≤ S1000000x32.size a := fun v342 k0_hw47 => k0_hw47

def k0_off97 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_210 : BitVec 32 := 16#32
  let v332 : BitVec 32 := Scalar.muli arg20 c16_i32_210
  let v333 : BitVec 32 := Scalar.addi v5 v332
  let c15_i32 : BitVec 32 := 15#32
  let v334 : BitVec 32 := Scalar.addi v333 c15_i32
  let c0_i32_217 : BitVec 32 := 0#32
  ![v334.toNat, 0]
def k0_off98 (v348 : BitVec 32) : Fin 2 → Nat :=
  let c0_i32_220 : BitVec 32 := 0#32
  ![v348.toNat, 0]

def k0_chk48 (v348 : BitVec 32) : Prop :=
  (∀ a, (k0_off98 v348) a + S1x32.size a ≤ S1000000x32.size a)
theorem k0_off98_inb : ∀ (v348 : BitVec 32) (k0_hw48 : k0_chk48 v348), ∀ a, (k0_off98 v348) a + S1x32.size a ≤ S1000000x32.size a := fun v348 k0_hw48 => k0_hw48

def k0_off99 (k0_t1 : Fin k0_t1_loop.trips) : Fin 2 → Nat :=
  let c0_i32 : BitVec 32 := 0#32
  let c2_i32_0 : BitVec 32 := 2#32
  let v4 : BitVec 32 := Scalar.remsi c0_i32 c2_i32_0
  let c128_i32 : BitVec 32 := 128#32
  let v5 : BitVec 32 := Scalar.muli v4 c128_i32
  let c0_i32_3 : BitVec 32 := 0#32
  let c1_i32 : BitVec 32 := 1#32
  let arg20 : BitVec 32 := Scf.iv c0_i32_3 c1_i32 k0_t1
  let c16_i32_210 : BitVec 32 := 16#32
  let v332 : BitVec 32 := Scalar.muli arg20 c16_i32_210
  let v333 : BitVec 32 := Scalar.addi v5 v332
  let c15_i32 : BitVec 32 := 15#32
  let v334 : BitVec 32 := Scalar.addi v333 c15_i32
  let c0_i32_221 : BitVec 32 := 0#32
  ![v334.toNat, 0]
@[reducible] def k0_t2_loop : Scf.Loop 32 :=
  let c0_i32_6 : BitVec 32 := 0#32
  let c4_i32 : BitVec 32 := 4#32
  let v7 : BitVec 32 := Scalar.addi c0_i32_6 c4_i32
  let c1_i32_7 : BitVec 32 := 1#32
  ⟨c0_i32_6, v7, c1_i32_7⟩
@[reducible] def k0_t3_loop : Scf.Loop 32 :=
  let c0_i32_12 : BitVec 32 := 0#32
  let c128_i32_13 : BitVec 32 := 128#32
  let v10 : BitVec 32 := Scalar.addi c0_i32_12 c128_i32_13
  let c1_i32_14 : BitVec 32 := 1#32
  ⟨c0_i32_12, v10, c1_i32_14⟩
def k0_off100 (k0_t2 : Fin k0_t2_loop.trips) (k0_t3 : Fin k0_t3_loop.trips) : Fin 2 → Nat :=
  let c0_i32_6 : BitVec 32 := 0#32
  let c1_i32_7 : BitVec 32 := 1#32
  let arg20 : BitVec 32 := Scf.iv c0_i32_6 c1_i32_7 k0_t2
  let c2_i32_9 : BitVec 32 := 2#32
  let v8 : BitVec 32 := Scalar.remsi arg20 c2_i32_9
  let c128_i32_10 : BitVec 32 := 128#32
  let v9 : BitVec 32 := Scalar.muli v8 c128_i32_10
  let c0_i32_12 : BitVec 32 := 0#32
  let c1_i32_14 : BitVec 32 := 1#32
  let arg21 : BitVec 32 := Scf.iv c0_i32_12 c1_i32_14 k0_t3
  let v17 : BitVec 32 := Scalar.addi v9 arg21
  let c0_i32_24 : BitVec 32 := 0#32
  ![v17.toNat, 0]
def k0_cond1 (k0_t2 : Fin k0_t2_loop.trips) : BitVec 1 :=
  let c0_i32_6 : BitVec 32 := 0#32
  let c1_i32_7 : BitVec 32 := 1#32
  let arg20 : BitVec 32 := Scf.iv c0_i32_6 c1_i32_7 k0_t2
  let c3_i32 : BitVec 32 := 3#32
  let v11 : BitVec 1 := Scalar.cmpi .slt arg20 c3_i32
  let v12 : BitVec 32 := Scalar.extui v11
  let c0_i32_16 : BitVec 32 := 0#32
  let v13 : BitVec 1 := Scalar.cmpi .ne v12 c0_i32_16
  v13

@[reducible] def k0_t4_loop : Scf.Loop 32 :=
  let c0_i32_28 : BitVec 32 := 0#32
  let c8_i32_29 : BitVec 32 := 8#32
  let v20 : BitVec 32 := Scalar.addi c0_i32_28 c8_i32_29
  let c1_i32_30 : BitVec 32 := 1#32
  ⟨c0_i32_28, v20, c1_i32_30⟩
def k0_off101 (k0_t2 : Fin k0_t2_loop.trips) (k0_t4 : Fin k0_t4_loop.trips) : Fin 1 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c128_i32_32 : BitVec 32 := 128#32
  let v21 : BitVec 32 := Scalar.muli v17 c128_i32_32
  let c0_i32_28 : BitVec 32 := 0#32
  let c1_i32_30 : BitVec 32 := 1#32
  let arg21 : BitVec 32 := Scf.iv c0_i32_28 c1_i32_30 k0_t4
  let c16_i32 : BitVec 32 := 16#32
  let v22 : BitVec 32 := Scalar.muli arg21 c16_i32
  let v23 : BitVec 32 := Scalar.addi v21 v22
  let v24 : Index := Scalar.indexCast v23
  ![v24.toNat]
def k0_off102 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_33 : BitVec 32 := 16#32
  let v30 : BitVec 32 := Scalar.muli arg21 c16_i32_33
  let v31 : BitVec 32 := Scalar.addi v19 v30
  let c0_i32_34 : BitVec 32 := 0#32
  let v32 : BitVec 32 := Scalar.addi v31 c0_i32_34
  let c0_i32_35 : BitVec 32 := 0#32
  ![v32.toNat, 0]
def k0_off103 (v34 : BitVec 32) : Fin 2 → Nat :=
  let c0_i32_36 : BitVec 32 := 0#32
  ![v34.toNat, 0]

def k0_chk49 (k0_t2 : Fin k0_t2_loop.trips) (v34 : BitVec 32) : Prop :=
  (∀ (k0_h1 : k0_cond1 k0_t2 = 1#1), ∀ a, (k0_off103 v34) a + S1x32.size a ≤ S1000000x32.size a)
theorem k0_off103_inb : ∀ (k0_t2 : Fin k0_t2_loop.trips) (v34 : BitVec 32) (k0_hw49 : k0_chk49 k0_t2 v34), ∀ (k0_h1 : k0_cond1 k0_t2 = 1#1), ∀ a, (k0_off103 v34) a + S1x32.size a ≤ S1000000x32.size a := fun k0_t2 v34 k0_hw49 k0_h1 => k0_hw49 k0_h1

def k0_off104 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_33 : BitVec 32 := 16#32
  let v30 : BitVec 32 := Scalar.muli arg21 c16_i32_33
  let v31 : BitVec 32 := Scalar.addi v19 v30
  let c0_i32_34 : BitVec 32 := 0#32
  let v32 : BitVec 32 := Scalar.addi v31 c0_i32_34
  let c0_i32_37 : BitVec 32 := 0#32
  ![v32.toNat, 0]
def k0_off105 (v40 : BitVec 32) : Fin 2 → Nat :=
  let c0_i32_40 : BitVec 32 := 0#32
  ![v40.toNat, 0]

def k0_chk50 (k0_t2 : Fin k0_t2_loop.trips) (v40 : BitVec 32) : Prop :=
  (∀ (k0_h1 : k0_cond1 k0_t2 = 1#1), ∀ a, (k0_off105 v40) a + S1x32.size a ≤ S1000000x32.size a)
theorem k0_off105_inb : ∀ (k0_t2 : Fin k0_t2_loop.trips) (v40 : BitVec 32) (k0_hw50 : k0_chk50 k0_t2 v40), ∀ (k0_h1 : k0_cond1 k0_t2 = 1#1), ∀ a, (k0_off105 v40) a + S1x32.size a ≤ S1000000x32.size a := fun k0_t2 v40 k0_hw50 k0_h1 => k0_hw50 k0_h1

def k0_off106 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_33 : BitVec 32 := 16#32
  let v30 : BitVec 32 := Scalar.muli arg21 c16_i32_33
  let v31 : BitVec 32 := Scalar.addi v19 v30
  let c0_i32_34 : BitVec 32 := 0#32
  let v32 : BitVec 32 := Scalar.addi v31 c0_i32_34
  let c0_i32_41 : BitVec 32 := 0#32
  ![v32.toNat, 0]
def k0_off107 (v46 : BitVec 32) : Fin 2 → Nat :=
  let c0_i32_44 : BitVec 32 := 0#32
  ![v46.toNat, 0]

def k0_chk51 (k0_t2 : Fin k0_t2_loop.trips) (v46 : BitVec 32) : Prop :=
  (∀ (k0_h1 : k0_cond1 k0_t2 = 1#1), ∀ a, (k0_off107 v46) a + S1x32.size a ≤ S1000000x32.size a)
theorem k0_off107_inb : ∀ (k0_t2 : Fin k0_t2_loop.trips) (v46 : BitVec 32) (k0_hw51 : k0_chk51 k0_t2 v46), ∀ (k0_h1 : k0_cond1 k0_t2 = 1#1), ∀ a, (k0_off107 v46) a + S1x32.size a ≤ S1000000x32.size a := fun k0_t2 v46 k0_hw51 k0_h1 => k0_hw51 k0_h1

def k0_off108 (k0_t2 : Fin k0_t2_loop.trips) (k0_t4 : Fin k0_t4_loop.trips) (c0_i32_34 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_33 : BitVec 32 := 16#32
  let v30 : BitVec 32 := Scalar.muli arg21 c16_i32_33
  let v31 : BitVec 32 := Scalar.addi v19 v30
  let v32 : BitVec 32 := Scalar.addi v31 c0_i32_34
  let c0_i32_45 : BitVec 32 := 0#32
  ![v32.toNat, 0]
def k0_off109 (v55 : BitVec 32) : Fin 2 → Nat :=
  let c0_i32_50 : BitVec 32 := 0#32
  ![v55.toNat, 0]

def k0_chk52 (k0_t2 : Fin k0_t2_loop.trips) (v55 : BitVec 32) : Prop :=
  (∀ (k0_h1 : k0_cond1 k0_t2 = 1#1), ∀ a, (k0_off109 v55) a + S1x32.size a ≤ S1000000x32.size a)
theorem k0_off109_inb : ∀ (k0_t2 : Fin k0_t2_loop.trips) (v55 : BitVec 32) (k0_hw52 : k0_chk52 k0_t2 v55), ∀ (k0_h1 : k0_cond1 k0_t2 = 1#1), ∀ a, (k0_off109 v55) a + S1x32.size a ≤ S1000000x32.size a := fun k0_t2 v55 k0_hw52 k0_h1 => k0_hw52 k0_h1

def k0_off110 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_47 : BitVec 32 := 16#32
  let v51 : BitVec 32 := Scalar.muli arg21 c16_i32_47
  let v52 : BitVec 32 := Scalar.addi v19 v51
  let c1_i32_48 : BitVec 32 := 1#32
  let v53 : BitVec 32 := Scalar.addi v52 c1_i32_48
  let c0_i32_51 : BitVec 32 := 0#32
  ![v53.toNat, 0]
def k0_off111 (v61 : BitVec 32) : Fin 2 → Nat :=
  let c0_i32_54 : BitVec 32 := 0#32
  ![v61.toNat, 0]

def k0_chk53 (k0_t2 : Fin k0_t2_loop.trips) (v61 : BitVec 32) : Prop :=
  (∀ (k0_h1 : k0_cond1 k0_t2 = 1#1), ∀ a, (k0_off111 v61) a + S1x32.size a ≤ S1000000x32.size a)
theorem k0_off111_inb : ∀ (k0_t2 : Fin k0_t2_loop.trips) (v61 : BitVec 32) (k0_hw53 : k0_chk53 k0_t2 v61), ∀ (k0_h1 : k0_cond1 k0_t2 = 1#1), ∀ a, (k0_off111 v61) a + S1x32.size a ≤ S1000000x32.size a := fun k0_t2 v61 k0_hw53 k0_h1 => k0_hw53 k0_h1

def k0_off112 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_47 : BitVec 32 := 16#32
  let v51 : BitVec 32 := Scalar.muli arg21 c16_i32_47
  let v52 : BitVec 32 := Scalar.addi v19 v51
  let c1_i32_48 : BitVec 32 := 1#32
  let v53 : BitVec 32 := Scalar.addi v52 c1_i32_48
  let c0_i32_55 : BitVec 32 := 0#32
  ![v53.toNat, 0]
def k0_off113 (v67 : BitVec 32) : Fin 2 → Nat :=
  let c0_i32_58 : BitVec 32 := 0#32
  ![v67.toNat, 0]

def k0_chk54 (k0_t2 : Fin k0_t2_loop.trips) (v67 : BitVec 32) : Prop :=
  (∀ (k0_h1 : k0_cond1 k0_t2 = 1#1), ∀ a, (k0_off113 v67) a + S1x32.size a ≤ S1000000x32.size a)
theorem k0_off113_inb : ∀ (k0_t2 : Fin k0_t2_loop.trips) (v67 : BitVec 32) (k0_hw54 : k0_chk54 k0_t2 v67), ∀ (k0_h1 : k0_cond1 k0_t2 = 1#1), ∀ a, (k0_off113 v67) a + S1x32.size a ≤ S1000000x32.size a := fun k0_t2 v67 k0_hw54 k0_h1 => k0_hw54 k0_h1

def k0_off114 (k0_t2 : Fin k0_t2_loop.trips) (k0_t4 : Fin k0_t4_loop.trips) (c1_i32_48 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_47 : BitVec 32 := 16#32
  let v51 : BitVec 32 := Scalar.muli arg21 c16_i32_47
  let v52 : BitVec 32 := Scalar.addi v19 v51
  let v53 : BitVec 32 := Scalar.addi v52 c1_i32_48
  let c0_i32_59 : BitVec 32 := 0#32
  ![v53.toNat, 0]
def k0_off115 (v76 : BitVec 32) : Fin 2 → Nat :=
  let c0_i32_64 : BitVec 32 := 0#32
  ![v76.toNat, 0]

def k0_chk55 (k0_t2 : Fin k0_t2_loop.trips) (v76 : BitVec 32) : Prop :=
  (∀ (k0_h1 : k0_cond1 k0_t2 = 1#1), ∀ a, (k0_off115 v76) a + S1x32.size a ≤ S1000000x32.size a)
theorem k0_off115_inb : ∀ (k0_t2 : Fin k0_t2_loop.trips) (v76 : BitVec 32) (k0_hw55 : k0_chk55 k0_t2 v76), ∀ (k0_h1 : k0_cond1 k0_t2 = 1#1), ∀ a, (k0_off115 v76) a + S1x32.size a ≤ S1000000x32.size a := fun k0_t2 v76 k0_hw55 k0_h1 => k0_hw55 k0_h1

def k0_off116 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_61 : BitVec 32 := 16#32
  let v72 : BitVec 32 := Scalar.muli arg21 c16_i32_61
  let v73 : BitVec 32 := Scalar.addi v19 v72
  let c2_i32_62 : BitVec 32 := 2#32
  let v74 : BitVec 32 := Scalar.addi v73 c2_i32_62
  let c0_i32_65 : BitVec 32 := 0#32
  ![v74.toNat, 0]
def k0_off117 (v82 : BitVec 32) : Fin 2 → Nat :=
  let c0_i32_68 : BitVec 32 := 0#32
  ![v82.toNat, 0]

def k0_chk56 (k0_t2 : Fin k0_t2_loop.trips) (v82 : BitVec 32) : Prop :=
  (∀ (k0_h1 : k0_cond1 k0_t2 = 1#1), ∀ a, (k0_off117 v82) a + S1x32.size a ≤ S1000000x32.size a)
theorem k0_off117_inb : ∀ (k0_t2 : Fin k0_t2_loop.trips) (v82 : BitVec 32) (k0_hw56 : k0_chk56 k0_t2 v82), ∀ (k0_h1 : k0_cond1 k0_t2 = 1#1), ∀ a, (k0_off117 v82) a + S1x32.size a ≤ S1000000x32.size a := fun k0_t2 v82 k0_hw56 k0_h1 => k0_hw56 k0_h1

def k0_off118 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_61 : BitVec 32 := 16#32
  let v72 : BitVec 32 := Scalar.muli arg21 c16_i32_61
  let v73 : BitVec 32 := Scalar.addi v19 v72
  let c2_i32_62 : BitVec 32 := 2#32
  let v74 : BitVec 32 := Scalar.addi v73 c2_i32_62
  let c0_i32_69 : BitVec 32 := 0#32
  ![v74.toNat, 0]
def k0_off119 (v88 : BitVec 32) : Fin 2 → Nat :=
  let c0_i32_72 : BitVec 32 := 0#32
  ![v88.toNat, 0]

def k0_chk57 (k0_t2 : Fin k0_t2_loop.trips) (v88 : BitVec 32) : Prop :=
  (∀ (k0_h1 : k0_cond1 k0_t2 = 1#1), ∀ a, (k0_off119 v88) a + S1x32.size a ≤ S1000000x32.size a)
theorem k0_off119_inb : ∀ (k0_t2 : Fin k0_t2_loop.trips) (v88 : BitVec 32) (k0_hw57 : k0_chk57 k0_t2 v88), ∀ (k0_h1 : k0_cond1 k0_t2 = 1#1), ∀ a, (k0_off119 v88) a + S1x32.size a ≤ S1000000x32.size a := fun k0_t2 v88 k0_hw57 k0_h1 => k0_hw57 k0_h1

def k0_off120 (k0_t2 : Fin k0_t2_loop.trips) (k0_t4 : Fin k0_t4_loop.trips) (c2_i32_62 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_61 : BitVec 32 := 16#32
  let v72 : BitVec 32 := Scalar.muli arg21 c16_i32_61
  let v73 : BitVec 32 := Scalar.addi v19 v72
  let v74 : BitVec 32 := Scalar.addi v73 c2_i32_62
  let c0_i32_73 : BitVec 32 := 0#32
  ![v74.toNat, 0]
def k0_off121 (v97 : BitVec 32) : Fin 2 → Nat :=
  let c0_i32_78 : BitVec 32 := 0#32
  ![v97.toNat, 0]

def k0_chk58 (k0_t2 : Fin k0_t2_loop.trips) (v97 : BitVec 32) : Prop :=
  (∀ (k0_h1 : k0_cond1 k0_t2 = 1#1), ∀ a, (k0_off121 v97) a + S1x32.size a ≤ S1000000x32.size a)
theorem k0_off121_inb : ∀ (k0_t2 : Fin k0_t2_loop.trips) (v97 : BitVec 32) (k0_hw58 : k0_chk58 k0_t2 v97), ∀ (k0_h1 : k0_cond1 k0_t2 = 1#1), ∀ a, (k0_off121 v97) a + S1x32.size a ≤ S1000000x32.size a := fun k0_t2 v97 k0_hw58 k0_h1 => k0_hw58 k0_h1

def k0_off122 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_75 : BitVec 32 := 16#32
  let v93 : BitVec 32 := Scalar.muli arg21 c16_i32_75
  let v94 : BitVec 32 := Scalar.addi v19 v93
  let c3_i32_76 : BitVec 32 := 3#32
  let v95 : BitVec 32 := Scalar.addi v94 c3_i32_76
  let c0_i32_79 : BitVec 32 := 0#32
  ![v95.toNat, 0]
def k0_off123 (v103 : BitVec 32) : Fin 2 → Nat :=
  let c0_i32_82 : BitVec 32 := 0#32
  ![v103.toNat, 0]

def k0_chk59 (k0_t2 : Fin k0_t2_loop.trips) (v103 : BitVec 32) : Prop :=
  (∀ (k0_h1 : k0_cond1 k0_t2 = 1#1), ∀ a, (k0_off123 v103) a + S1x32.size a ≤ S1000000x32.size a)
theorem k0_off123_inb : ∀ (k0_t2 : Fin k0_t2_loop.trips) (v103 : BitVec 32) (k0_hw59 : k0_chk59 k0_t2 v103), ∀ (k0_h1 : k0_cond1 k0_t2 = 1#1), ∀ a, (k0_off123 v103) a + S1x32.size a ≤ S1000000x32.size a := fun k0_t2 v103 k0_hw59 k0_h1 => k0_hw59 k0_h1

def k0_off124 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_75 : BitVec 32 := 16#32
  let v93 : BitVec 32 := Scalar.muli arg21 c16_i32_75
  let v94 : BitVec 32 := Scalar.addi v19 v93
  let c3_i32_76 : BitVec 32 := 3#32
  let v95 : BitVec 32 := Scalar.addi v94 c3_i32_76
  let c0_i32_83 : BitVec 32 := 0#32
  ![v95.toNat, 0]
def k0_off125 (v109 : BitVec 32) : Fin 2 → Nat :=
  let c0_i32_86 : BitVec 32 := 0#32
  ![v109.toNat, 0]

def k0_chk60 (k0_t2 : Fin k0_t2_loop.trips) (v109 : BitVec 32) : Prop :=
  (∀ (k0_h1 : k0_cond1 k0_t2 = 1#1), ∀ a, (k0_off125 v109) a + S1x32.size a ≤ S1000000x32.size a)
theorem k0_off125_inb : ∀ (k0_t2 : Fin k0_t2_loop.trips) (v109 : BitVec 32) (k0_hw60 : k0_chk60 k0_t2 v109), ∀ (k0_h1 : k0_cond1 k0_t2 = 1#1), ∀ a, (k0_off125 v109) a + S1x32.size a ≤ S1000000x32.size a := fun k0_t2 v109 k0_hw60 k0_h1 => k0_hw60 k0_h1

def k0_off126 (k0_t2 : Fin k0_t2_loop.trips) (k0_t4 : Fin k0_t4_loop.trips) (c3_i32_76 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_75 : BitVec 32 := 16#32
  let v93 : BitVec 32 := Scalar.muli arg21 c16_i32_75
  let v94 : BitVec 32 := Scalar.addi v19 v93
  let v95 : BitVec 32 := Scalar.addi v94 c3_i32_76
  let c0_i32_87 : BitVec 32 := 0#32
  ![v95.toNat, 0]
def k0_off127 (v118 : BitVec 32) : Fin 2 → Nat :=
  let c0_i32_92 : BitVec 32 := 0#32
  ![v118.toNat, 0]

def k0_chk61 (k0_t2 : Fin k0_t2_loop.trips) (v118 : BitVec 32) : Prop :=
  (∀ (k0_h1 : k0_cond1 k0_t2 = 1#1), ∀ a, (k0_off127 v118) a + S1x32.size a ≤ S1000000x32.size a)
theorem k0_off127_inb : ∀ (k0_t2 : Fin k0_t2_loop.trips) (v118 : BitVec 32) (k0_hw61 : k0_chk61 k0_t2 v118), ∀ (k0_h1 : k0_cond1 k0_t2 = 1#1), ∀ a, (k0_off127 v118) a + S1x32.size a ≤ S1000000x32.size a := fun k0_t2 v118 k0_hw61 k0_h1 => k0_hw61 k0_h1

def k0_off128 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_89 : BitVec 32 := 16#32
  let v114 : BitVec 32 := Scalar.muli arg21 c16_i32_89
  let v115 : BitVec 32 := Scalar.addi v19 v114
  let c4_i32_90 : BitVec 32 := 4#32
  let v116 : BitVec 32 := Scalar.addi v115 c4_i32_90
  let c0_i32_93 : BitVec 32 := 0#32
  ![v116.toNat, 0]
def k0_off129 (v124 : BitVec 32) : Fin 2 → Nat :=
  let c0_i32_96 : BitVec 32 := 0#32
  ![v124.toNat, 0]

def k0_chk62 (k0_t2 : Fin k0_t2_loop.trips) (v124 : BitVec 32) : Prop :=
  (∀ (k0_h1 : k0_cond1 k0_t2 = 1#1), ∀ a, (k0_off129 v124) a + S1x32.size a ≤ S1000000x32.size a)
theorem k0_off129_inb : ∀ (k0_t2 : Fin k0_t2_loop.trips) (v124 : BitVec 32) (k0_hw62 : k0_chk62 k0_t2 v124), ∀ (k0_h1 : k0_cond1 k0_t2 = 1#1), ∀ a, (k0_off129 v124) a + S1x32.size a ≤ S1000000x32.size a := fun k0_t2 v124 k0_hw62 k0_h1 => k0_hw62 k0_h1

def k0_off130 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_89 : BitVec 32 := 16#32
  let v114 : BitVec 32 := Scalar.muli arg21 c16_i32_89
  let v115 : BitVec 32 := Scalar.addi v19 v114
  let c4_i32_90 : BitVec 32 := 4#32
  let v116 : BitVec 32 := Scalar.addi v115 c4_i32_90
  let c0_i32_97 : BitVec 32 := 0#32
  ![v116.toNat, 0]
def k0_off131 (v130 : BitVec 32) : Fin 2 → Nat :=
  let c0_i32_100 : BitVec 32 := 0#32
  ![v130.toNat, 0]

def k0_chk63 (k0_t2 : Fin k0_t2_loop.trips) (v130 : BitVec 32) : Prop :=
  (∀ (k0_h1 : k0_cond1 k0_t2 = 1#1), ∀ a, (k0_off131 v130) a + S1x32.size a ≤ S1000000x32.size a)
theorem k0_off131_inb : ∀ (k0_t2 : Fin k0_t2_loop.trips) (v130 : BitVec 32) (k0_hw63 : k0_chk63 k0_t2 v130), ∀ (k0_h1 : k0_cond1 k0_t2 = 1#1), ∀ a, (k0_off131 v130) a + S1x32.size a ≤ S1000000x32.size a := fun k0_t2 v130 k0_hw63 k0_h1 => k0_hw63 k0_h1

def k0_off132 (k0_t2 : Fin k0_t2_loop.trips) (k0_t4 : Fin k0_t4_loop.trips) (c4_i32_90 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_89 : BitVec 32 := 16#32
  let v114 : BitVec 32 := Scalar.muli arg21 c16_i32_89
  let v115 : BitVec 32 := Scalar.addi v19 v114
  let v116 : BitVec 32 := Scalar.addi v115 c4_i32_90
  let c0_i32_101 : BitVec 32 := 0#32
  ![v116.toNat, 0]
def k0_off133 (v139 : BitVec 32) : Fin 2 → Nat :=
  let c0_i32_105 : BitVec 32 := 0#32
  ![v139.toNat, 0]

def k0_chk64 (k0_t2 : Fin k0_t2_loop.trips) (v139 : BitVec 32) : Prop :=
  (∀ (k0_h1 : k0_cond1 k0_t2 = 1#1), ∀ a, (k0_off133 v139) a + S1x32.size a ≤ S1000000x32.size a)
theorem k0_off133_inb : ∀ (k0_t2 : Fin k0_t2_loop.trips) (v139 : BitVec 32) (k0_hw64 : k0_chk64 k0_t2 v139), ∀ (k0_h1 : k0_cond1 k0_t2 = 1#1), ∀ a, (k0_off133 v139) a + S1x32.size a ≤ S1000000x32.size a := fun k0_t2 v139 k0_hw64 k0_h1 => k0_hw64 k0_h1

def k0_off134 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_103 : BitVec 32 := 16#32
  let v135 : BitVec 32 := Scalar.muli arg21 c16_i32_103
  let v136 : BitVec 32 := Scalar.addi v19 v135
  let c5_i32 : BitVec 32 := 5#32
  let v137 : BitVec 32 := Scalar.addi v136 c5_i32
  let c0_i32_106 : BitVec 32 := 0#32
  ![v137.toNat, 0]
def k0_off135 (v145 : BitVec 32) : Fin 2 → Nat :=
  let c0_i32_109 : BitVec 32 := 0#32
  ![v145.toNat, 0]

def k0_chk65 (k0_t2 : Fin k0_t2_loop.trips) (v145 : BitVec 32) : Prop :=
  (∀ (k0_h1 : k0_cond1 k0_t2 = 1#1), ∀ a, (k0_off135 v145) a + S1x32.size a ≤ S1000000x32.size a)
theorem k0_off135_inb : ∀ (k0_t2 : Fin k0_t2_loop.trips) (v145 : BitVec 32) (k0_hw65 : k0_chk65 k0_t2 v145), ∀ (k0_h1 : k0_cond1 k0_t2 = 1#1), ∀ a, (k0_off135 v145) a + S1x32.size a ≤ S1000000x32.size a := fun k0_t2 v145 k0_hw65 k0_h1 => k0_hw65 k0_h1

def k0_off136 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_103 : BitVec 32 := 16#32
  let v135 : BitVec 32 := Scalar.muli arg21 c16_i32_103
  let v136 : BitVec 32 := Scalar.addi v19 v135
  let c5_i32 : BitVec 32 := 5#32
  let v137 : BitVec 32 := Scalar.addi v136 c5_i32
  let c0_i32_110 : BitVec 32 := 0#32
  ![v137.toNat, 0]
def k0_off137 (v151 : BitVec 32) : Fin 2 → Nat :=
  let c0_i32_113 : BitVec 32 := 0#32
  ![v151.toNat, 0]

def k0_chk66 (k0_t2 : Fin k0_t2_loop.trips) (v151 : BitVec 32) : Prop :=
  (∀ (k0_h1 : k0_cond1 k0_t2 = 1#1), ∀ a, (k0_off137 v151) a + S1x32.size a ≤ S1000000x32.size a)
theorem k0_off137_inb : ∀ (k0_t2 : Fin k0_t2_loop.trips) (v151 : BitVec 32) (k0_hw66 : k0_chk66 k0_t2 v151), ∀ (k0_h1 : k0_cond1 k0_t2 = 1#1), ∀ a, (k0_off137 v151) a + S1x32.size a ≤ S1000000x32.size a := fun k0_t2 v151 k0_hw66 k0_h1 => k0_hw66 k0_h1

def k0_off138 (k0_t2 : Fin k0_t2_loop.trips) (k0_t4 : Fin k0_t4_loop.trips) (c5_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_103 : BitVec 32 := 16#32
  let v135 : BitVec 32 := Scalar.muli arg21 c16_i32_103
  let v136 : BitVec 32 := Scalar.addi v19 v135
  let v137 : BitVec 32 := Scalar.addi v136 c5_i32
  let c0_i32_114 : BitVec 32 := 0#32
  ![v137.toNat, 0]
def k0_off139 (v160 : BitVec 32) : Fin 2 → Nat :=
  let c0_i32_118 : BitVec 32 := 0#32
  ![v160.toNat, 0]

def k0_chk67 (k0_t2 : Fin k0_t2_loop.trips) (v160 : BitVec 32) : Prop :=
  (∀ (k0_h1 : k0_cond1 k0_t2 = 1#1), ∀ a, (k0_off139 v160) a + S1x32.size a ≤ S1000000x32.size a)
theorem k0_off139_inb : ∀ (k0_t2 : Fin k0_t2_loop.trips) (v160 : BitVec 32) (k0_hw67 : k0_chk67 k0_t2 v160), ∀ (k0_h1 : k0_cond1 k0_t2 = 1#1), ∀ a, (k0_off139 v160) a + S1x32.size a ≤ S1000000x32.size a := fun k0_t2 v160 k0_hw67 k0_h1 => k0_hw67 k0_h1

def k0_off140 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_116 : BitVec 32 := 16#32
  let v156 : BitVec 32 := Scalar.muli arg21 c16_i32_116
  let v157 : BitVec 32 := Scalar.addi v19 v156
  let c6_i32 : BitVec 32 := 6#32
  let v158 : BitVec 32 := Scalar.addi v157 c6_i32
  let c0_i32_119 : BitVec 32 := 0#32
  ![v158.toNat, 0]
def k0_off141 (v166 : BitVec 32) : Fin 2 → Nat :=
  let c0_i32_122 : BitVec 32 := 0#32
  ![v166.toNat, 0]

def k0_chk68 (k0_t2 : Fin k0_t2_loop.trips) (v166 : BitVec 32) : Prop :=
  (∀ (k0_h1 : k0_cond1 k0_t2 = 1#1), ∀ a, (k0_off141 v166) a + S1x32.size a ≤ S1000000x32.size a)
theorem k0_off141_inb : ∀ (k0_t2 : Fin k0_t2_loop.trips) (v166 : BitVec 32) (k0_hw68 : k0_chk68 k0_t2 v166), ∀ (k0_h1 : k0_cond1 k0_t2 = 1#1), ∀ a, (k0_off141 v166) a + S1x32.size a ≤ S1000000x32.size a := fun k0_t2 v166 k0_hw68 k0_h1 => k0_hw68 k0_h1

def k0_off142 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_116 : BitVec 32 := 16#32
  let v156 : BitVec 32 := Scalar.muli arg21 c16_i32_116
  let v157 : BitVec 32 := Scalar.addi v19 v156
  let c6_i32 : BitVec 32 := 6#32
  let v158 : BitVec 32 := Scalar.addi v157 c6_i32
  let c0_i32_123 : BitVec 32 := 0#32
  ![v158.toNat, 0]
def k0_off143 (v172 : BitVec 32) : Fin 2 → Nat :=
  let c0_i32_126 : BitVec 32 := 0#32
  ![v172.toNat, 0]

def k0_chk69 (k0_t2 : Fin k0_t2_loop.trips) (v172 : BitVec 32) : Prop :=
  (∀ (k0_h1 : k0_cond1 k0_t2 = 1#1), ∀ a, (k0_off143 v172) a + S1x32.size a ≤ S1000000x32.size a)
theorem k0_off143_inb : ∀ (k0_t2 : Fin k0_t2_loop.trips) (v172 : BitVec 32) (k0_hw69 : k0_chk69 k0_t2 v172), ∀ (k0_h1 : k0_cond1 k0_t2 = 1#1), ∀ a, (k0_off143 v172) a + S1x32.size a ≤ S1000000x32.size a := fun k0_t2 v172 k0_hw69 k0_h1 => k0_hw69 k0_h1

def k0_off144 (k0_t2 : Fin k0_t2_loop.trips) (k0_t4 : Fin k0_t4_loop.trips) (c6_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_116 : BitVec 32 := 16#32
  let v156 : BitVec 32 := Scalar.muli arg21 c16_i32_116
  let v157 : BitVec 32 := Scalar.addi v19 v156
  let v158 : BitVec 32 := Scalar.addi v157 c6_i32
  let c0_i32_127 : BitVec 32 := 0#32
  ![v158.toNat, 0]
def k0_off145 (v181 : BitVec 32) : Fin 2 → Nat :=
  let c0_i32_131 : BitVec 32 := 0#32
  ![v181.toNat, 0]

def k0_chk70 (k0_t2 : Fin k0_t2_loop.trips) (v181 : BitVec 32) : Prop :=
  (∀ (k0_h1 : k0_cond1 k0_t2 = 1#1), ∀ a, (k0_off145 v181) a + S1x32.size a ≤ S1000000x32.size a)
theorem k0_off145_inb : ∀ (k0_t2 : Fin k0_t2_loop.trips) (v181 : BitVec 32) (k0_hw70 : k0_chk70 k0_t2 v181), ∀ (k0_h1 : k0_cond1 k0_t2 = 1#1), ∀ a, (k0_off145 v181) a + S1x32.size a ≤ S1000000x32.size a := fun k0_t2 v181 k0_hw70 k0_h1 => k0_hw70 k0_h1

def k0_off146 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_129 : BitVec 32 := 16#32
  let v177 : BitVec 32 := Scalar.muli arg21 c16_i32_129
  let v178 : BitVec 32 := Scalar.addi v19 v177
  let c7_i32 : BitVec 32 := 7#32
  let v179 : BitVec 32 := Scalar.addi v178 c7_i32
  let c0_i32_132 : BitVec 32 := 0#32
  ![v179.toNat, 0]
def k0_off147 (v187 : BitVec 32) : Fin 2 → Nat :=
  let c0_i32_135 : BitVec 32 := 0#32
  ![v187.toNat, 0]

def k0_chk71 (k0_t2 : Fin k0_t2_loop.trips) (v187 : BitVec 32) : Prop :=
  (∀ (k0_h1 : k0_cond1 k0_t2 = 1#1), ∀ a, (k0_off147 v187) a + S1x32.size a ≤ S1000000x32.size a)
theorem k0_off147_inb : ∀ (k0_t2 : Fin k0_t2_loop.trips) (v187 : BitVec 32) (k0_hw71 : k0_chk71 k0_t2 v187), ∀ (k0_h1 : k0_cond1 k0_t2 = 1#1), ∀ a, (k0_off147 v187) a + S1x32.size a ≤ S1000000x32.size a := fun k0_t2 v187 k0_hw71 k0_h1 => k0_hw71 k0_h1

def k0_off148 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_129 : BitVec 32 := 16#32
  let v177 : BitVec 32 := Scalar.muli arg21 c16_i32_129
  let v178 : BitVec 32 := Scalar.addi v19 v177
  let c7_i32 : BitVec 32 := 7#32
  let v179 : BitVec 32 := Scalar.addi v178 c7_i32
  let c0_i32_136 : BitVec 32 := 0#32
  ![v179.toNat, 0]
def k0_off149 (v193 : BitVec 32) : Fin 2 → Nat :=
  let c0_i32_139 : BitVec 32 := 0#32
  ![v193.toNat, 0]

def k0_chk72 (k0_t2 : Fin k0_t2_loop.trips) (v193 : BitVec 32) : Prop :=
  (∀ (k0_h1 : k0_cond1 k0_t2 = 1#1), ∀ a, (k0_off149 v193) a + S1x32.size a ≤ S1000000x32.size a)
theorem k0_off149_inb : ∀ (k0_t2 : Fin k0_t2_loop.trips) (v193 : BitVec 32) (k0_hw72 : k0_chk72 k0_t2 v193), ∀ (k0_h1 : k0_cond1 k0_t2 = 1#1), ∀ a, (k0_off149 v193) a + S1x32.size a ≤ S1000000x32.size a := fun k0_t2 v193 k0_hw72 k0_h1 => k0_hw72 k0_h1

def k0_off150 (k0_t2 : Fin k0_t2_loop.trips) (k0_t4 : Fin k0_t4_loop.trips) (c7_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_129 : BitVec 32 := 16#32
  let v177 : BitVec 32 := Scalar.muli arg21 c16_i32_129
  let v178 : BitVec 32 := Scalar.addi v19 v177
  let v179 : BitVec 32 := Scalar.addi v178 c7_i32
  let c0_i32_140 : BitVec 32 := 0#32
  ![v179.toNat, 0]
def k0_off151 (v202 : BitVec 32) : Fin 2 → Nat :=
  let c0_i32_145 : BitVec 32 := 0#32
  ![v202.toNat, 0]

def k0_chk73 (k0_t2 : Fin k0_t2_loop.trips) (v202 : BitVec 32) : Prop :=
  (∀ (k0_h1 : k0_cond1 k0_t2 = 1#1), ∀ a, (k0_off151 v202) a + S1x32.size a ≤ S1000000x32.size a)
theorem k0_off151_inb : ∀ (k0_t2 : Fin k0_t2_loop.trips) (v202 : BitVec 32) (k0_hw73 : k0_chk73 k0_t2 v202), ∀ (k0_h1 : k0_cond1 k0_t2 = 1#1), ∀ a, (k0_off151 v202) a + S1x32.size a ≤ S1000000x32.size a := fun k0_t2 v202 k0_hw73 k0_h1 => k0_hw73 k0_h1

def k0_off152 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_142 : BitVec 32 := 16#32
  let v198 : BitVec 32 := Scalar.muli arg21 c16_i32_142
  let v199 : BitVec 32 := Scalar.addi v19 v198
  let c8_i32_143 : BitVec 32 := 8#32
  let v200 : BitVec 32 := Scalar.addi v199 c8_i32_143
  let c0_i32_146 : BitVec 32 := 0#32
  ![v200.toNat, 0]
def k0_off153 (v208 : BitVec 32) : Fin 2 → Nat :=
  let c0_i32_149 : BitVec 32 := 0#32
  ![v208.toNat, 0]

def k0_chk74 (k0_t2 : Fin k0_t2_loop.trips) (v208 : BitVec 32) : Prop :=
  (∀ (k0_h1 : k0_cond1 k0_t2 = 1#1), ∀ a, (k0_off153 v208) a + S1x32.size a ≤ S1000000x32.size a)
theorem k0_off153_inb : ∀ (k0_t2 : Fin k0_t2_loop.trips) (v208 : BitVec 32) (k0_hw74 : k0_chk74 k0_t2 v208), ∀ (k0_h1 : k0_cond1 k0_t2 = 1#1), ∀ a, (k0_off153 v208) a + S1x32.size a ≤ S1000000x32.size a := fun k0_t2 v208 k0_hw74 k0_h1 => k0_hw74 k0_h1

def k0_off154 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_142 : BitVec 32 := 16#32
  let v198 : BitVec 32 := Scalar.muli arg21 c16_i32_142
  let v199 : BitVec 32 := Scalar.addi v19 v198
  let c8_i32_143 : BitVec 32 := 8#32
  let v200 : BitVec 32 := Scalar.addi v199 c8_i32_143
  let c0_i32_150 : BitVec 32 := 0#32
  ![v200.toNat, 0]
def k0_off155 (v214 : BitVec 32) : Fin 2 → Nat :=
  let c0_i32_153 : BitVec 32 := 0#32
  ![v214.toNat, 0]

def k0_chk75 (k0_t2 : Fin k0_t2_loop.trips) (v214 : BitVec 32) : Prop :=
  (∀ (k0_h1 : k0_cond1 k0_t2 = 1#1), ∀ a, (k0_off155 v214) a + S1x32.size a ≤ S1000000x32.size a)
theorem k0_off155_inb : ∀ (k0_t2 : Fin k0_t2_loop.trips) (v214 : BitVec 32) (k0_hw75 : k0_chk75 k0_t2 v214), ∀ (k0_h1 : k0_cond1 k0_t2 = 1#1), ∀ a, (k0_off155 v214) a + S1x32.size a ≤ S1000000x32.size a := fun k0_t2 v214 k0_hw75 k0_h1 => k0_hw75 k0_h1

def k0_off156 (k0_t2 : Fin k0_t2_loop.trips) (k0_t4 : Fin k0_t4_loop.trips) (c8_i32_143 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_142 : BitVec 32 := 16#32
  let v198 : BitVec 32 := Scalar.muli arg21 c16_i32_142
  let v199 : BitVec 32 := Scalar.addi v19 v198
  let v200 : BitVec 32 := Scalar.addi v199 c8_i32_143
  let c0_i32_154 : BitVec 32 := 0#32
  ![v200.toNat, 0]
def k0_off157 (v223 : BitVec 32) : Fin 2 → Nat :=
  let c0_i32_158 : BitVec 32 := 0#32
  ![v223.toNat, 0]

def k0_chk76 (k0_t2 : Fin k0_t2_loop.trips) (v223 : BitVec 32) : Prop :=
  (∀ (k0_h1 : k0_cond1 k0_t2 = 1#1), ∀ a, (k0_off157 v223) a + S1x32.size a ≤ S1000000x32.size a)
theorem k0_off157_inb : ∀ (k0_t2 : Fin k0_t2_loop.trips) (v223 : BitVec 32) (k0_hw76 : k0_chk76 k0_t2 v223), ∀ (k0_h1 : k0_cond1 k0_t2 = 1#1), ∀ a, (k0_off157 v223) a + S1x32.size a ≤ S1000000x32.size a := fun k0_t2 v223 k0_hw76 k0_h1 => k0_hw76 k0_h1

def k0_off158 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_156 : BitVec 32 := 16#32
  let v219 : BitVec 32 := Scalar.muli arg21 c16_i32_156
  let v220 : BitVec 32 := Scalar.addi v19 v219
  let c9_i32 : BitVec 32 := 9#32
  let v221 : BitVec 32 := Scalar.addi v220 c9_i32
  let c0_i32_159 : BitVec 32 := 0#32
  ![v221.toNat, 0]
def k0_off159 (v229 : BitVec 32) : Fin 2 → Nat :=
  let c0_i32_162 : BitVec 32 := 0#32
  ![v229.toNat, 0]

def k0_chk77 (k0_t2 : Fin k0_t2_loop.trips) (v229 : BitVec 32) : Prop :=
  (∀ (k0_h1 : k0_cond1 k0_t2 = 1#1), ∀ a, (k0_off159 v229) a + S1x32.size a ≤ S1000000x32.size a)
theorem k0_off159_inb : ∀ (k0_t2 : Fin k0_t2_loop.trips) (v229 : BitVec 32) (k0_hw77 : k0_chk77 k0_t2 v229), ∀ (k0_h1 : k0_cond1 k0_t2 = 1#1), ∀ a, (k0_off159 v229) a + S1x32.size a ≤ S1000000x32.size a := fun k0_t2 v229 k0_hw77 k0_h1 => k0_hw77 k0_h1

def k0_off160 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_156 : BitVec 32 := 16#32
  let v219 : BitVec 32 := Scalar.muli arg21 c16_i32_156
  let v220 : BitVec 32 := Scalar.addi v19 v219
  let c9_i32 : BitVec 32 := 9#32
  let v221 : BitVec 32 := Scalar.addi v220 c9_i32
  let c0_i32_163 : BitVec 32 := 0#32
  ![v221.toNat, 0]
def k0_off161 (v235 : BitVec 32) : Fin 2 → Nat :=
  let c0_i32_166 : BitVec 32 := 0#32
  ![v235.toNat, 0]

def k0_chk78 (k0_t2 : Fin k0_t2_loop.trips) (v235 : BitVec 32) : Prop :=
  (∀ (k0_h1 : k0_cond1 k0_t2 = 1#1), ∀ a, (k0_off161 v235) a + S1x32.size a ≤ S1000000x32.size a)
theorem k0_off161_inb : ∀ (k0_t2 : Fin k0_t2_loop.trips) (v235 : BitVec 32) (k0_hw78 : k0_chk78 k0_t2 v235), ∀ (k0_h1 : k0_cond1 k0_t2 = 1#1), ∀ a, (k0_off161 v235) a + S1x32.size a ≤ S1000000x32.size a := fun k0_t2 v235 k0_hw78 k0_h1 => k0_hw78 k0_h1

def k0_off162 (k0_t2 : Fin k0_t2_loop.trips) (k0_t4 : Fin k0_t4_loop.trips) (c9_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_156 : BitVec 32 := 16#32
  let v219 : BitVec 32 := Scalar.muli arg21 c16_i32_156
  let v220 : BitVec 32 := Scalar.addi v19 v219
  let v221 : BitVec 32 := Scalar.addi v220 c9_i32
  let c0_i32_167 : BitVec 32 := 0#32
  ![v221.toNat, 0]
def k0_off163 (v244 : BitVec 32) : Fin 2 → Nat :=
  let c0_i32_171 : BitVec 32 := 0#32
  ![v244.toNat, 0]

def k0_chk79 (k0_t2 : Fin k0_t2_loop.trips) (v244 : BitVec 32) : Prop :=
  (∀ (k0_h1 : k0_cond1 k0_t2 = 1#1), ∀ a, (k0_off163 v244) a + S1x32.size a ≤ S1000000x32.size a)
theorem k0_off163_inb : ∀ (k0_t2 : Fin k0_t2_loop.trips) (v244 : BitVec 32) (k0_hw79 : k0_chk79 k0_t2 v244), ∀ (k0_h1 : k0_cond1 k0_t2 = 1#1), ∀ a, (k0_off163 v244) a + S1x32.size a ≤ S1000000x32.size a := fun k0_t2 v244 k0_hw79 k0_h1 => k0_hw79 k0_h1

def k0_off164 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_169 : BitVec 32 := 16#32
  let v240 : BitVec 32 := Scalar.muli arg21 c16_i32_169
  let v241 : BitVec 32 := Scalar.addi v19 v240
  let c10_i32 : BitVec 32 := 10#32
  let v242 : BitVec 32 := Scalar.addi v241 c10_i32
  let c0_i32_172 : BitVec 32 := 0#32
  ![v242.toNat, 0]
def k0_off165 (v250 : BitVec 32) : Fin 2 → Nat :=
  let c0_i32_175 : BitVec 32 := 0#32
  ![v250.toNat, 0]

def k0_chk80 (k0_t2 : Fin k0_t2_loop.trips) (v250 : BitVec 32) : Prop :=
  (∀ (k0_h1 : k0_cond1 k0_t2 = 1#1), ∀ a, (k0_off165 v250) a + S1x32.size a ≤ S1000000x32.size a)
theorem k0_off165_inb : ∀ (k0_t2 : Fin k0_t2_loop.trips) (v250 : BitVec 32) (k0_hw80 : k0_chk80 k0_t2 v250), ∀ (k0_h1 : k0_cond1 k0_t2 = 1#1), ∀ a, (k0_off165 v250) a + S1x32.size a ≤ S1000000x32.size a := fun k0_t2 v250 k0_hw80 k0_h1 => k0_hw80 k0_h1

def k0_off166 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_169 : BitVec 32 := 16#32
  let v240 : BitVec 32 := Scalar.muli arg21 c16_i32_169
  let v241 : BitVec 32 := Scalar.addi v19 v240
  let c10_i32 : BitVec 32 := 10#32
  let v242 : BitVec 32 := Scalar.addi v241 c10_i32
  let c0_i32_176 : BitVec 32 := 0#32
  ![v242.toNat, 0]
def k0_off167 (v256 : BitVec 32) : Fin 2 → Nat :=
  let c0_i32_179 : BitVec 32 := 0#32
  ![v256.toNat, 0]

def k0_chk81 (k0_t2 : Fin k0_t2_loop.trips) (v256 : BitVec 32) : Prop :=
  (∀ (k0_h1 : k0_cond1 k0_t2 = 1#1), ∀ a, (k0_off167 v256) a + S1x32.size a ≤ S1000000x32.size a)
theorem k0_off167_inb : ∀ (k0_t2 : Fin k0_t2_loop.trips) (v256 : BitVec 32) (k0_hw81 : k0_chk81 k0_t2 v256), ∀ (k0_h1 : k0_cond1 k0_t2 = 1#1), ∀ a, (k0_off167 v256) a + S1x32.size a ≤ S1000000x32.size a := fun k0_t2 v256 k0_hw81 k0_h1 => k0_hw81 k0_h1

def k0_off168 (k0_t2 : Fin k0_t2_loop.trips) (k0_t4 : Fin k0_t4_loop.trips) (c10_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_169 : BitVec 32 := 16#32
  let v240 : BitVec 32 := Scalar.muli arg21 c16_i32_169
  let v241 : BitVec 32 := Scalar.addi v19 v240
  let v242 : BitVec 32 := Scalar.addi v241 c10_i32
  let c0_i32_180 : BitVec 32 := 0#32
  ![v242.toNat, 0]
def k0_off169 (v265 : BitVec 32) : Fin 2 → Nat :=
  let c0_i32_184 : BitVec 32 := 0#32
  ![v265.toNat, 0]

def k0_chk82 (k0_t2 : Fin k0_t2_loop.trips) (v265 : BitVec 32) : Prop :=
  (∀ (k0_h1 : k0_cond1 k0_t2 = 1#1), ∀ a, (k0_off169 v265) a + S1x32.size a ≤ S1000000x32.size a)
theorem k0_off169_inb : ∀ (k0_t2 : Fin k0_t2_loop.trips) (v265 : BitVec 32) (k0_hw82 : k0_chk82 k0_t2 v265), ∀ (k0_h1 : k0_cond1 k0_t2 = 1#1), ∀ a, (k0_off169 v265) a + S1x32.size a ≤ S1000000x32.size a := fun k0_t2 v265 k0_hw82 k0_h1 => k0_hw82 k0_h1

def k0_off170 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_182 : BitVec 32 := 16#32
  let v261 : BitVec 32 := Scalar.muli arg21 c16_i32_182
  let v262 : BitVec 32 := Scalar.addi v19 v261
  let c11_i32 : BitVec 32 := 11#32
  let v263 : BitVec 32 := Scalar.addi v262 c11_i32
  let c0_i32_185 : BitVec 32 := 0#32
  ![v263.toNat, 0]
def k0_off171 (v271 : BitVec 32) : Fin 2 → Nat :=
  let c0_i32_188 : BitVec 32 := 0#32
  ![v271.toNat, 0]

def k0_chk83 (k0_t2 : Fin k0_t2_loop.trips) (v271 : BitVec 32) : Prop :=
  (∀ (k0_h1 : k0_cond1 k0_t2 = 1#1), ∀ a, (k0_off171 v271) a + S1x32.size a ≤ S1000000x32.size a)
theorem k0_off171_inb : ∀ (k0_t2 : Fin k0_t2_loop.trips) (v271 : BitVec 32) (k0_hw83 : k0_chk83 k0_t2 v271), ∀ (k0_h1 : k0_cond1 k0_t2 = 1#1), ∀ a, (k0_off171 v271) a + S1x32.size a ≤ S1000000x32.size a := fun k0_t2 v271 k0_hw83 k0_h1 => k0_hw83 k0_h1

def k0_off172 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_182 : BitVec 32 := 16#32
  let v261 : BitVec 32 := Scalar.muli arg21 c16_i32_182
  let v262 : BitVec 32 := Scalar.addi v19 v261
  let c11_i32 : BitVec 32 := 11#32
  let v263 : BitVec 32 := Scalar.addi v262 c11_i32
  let c0_i32_189 : BitVec 32 := 0#32
  ![v263.toNat, 0]
def k0_off173 (v277 : BitVec 32) : Fin 2 → Nat :=
  let c0_i32_192 : BitVec 32 := 0#32
  ![v277.toNat, 0]

def k0_chk84 (k0_t2 : Fin k0_t2_loop.trips) (v277 : BitVec 32) : Prop :=
  (∀ (k0_h1 : k0_cond1 k0_t2 = 1#1), ∀ a, (k0_off173 v277) a + S1x32.size a ≤ S1000000x32.size a)
theorem k0_off173_inb : ∀ (k0_t2 : Fin k0_t2_loop.trips) (v277 : BitVec 32) (k0_hw84 : k0_chk84 k0_t2 v277), ∀ (k0_h1 : k0_cond1 k0_t2 = 1#1), ∀ a, (k0_off173 v277) a + S1x32.size a ≤ S1000000x32.size a := fun k0_t2 v277 k0_hw84 k0_h1 => k0_hw84 k0_h1

def k0_off174 (k0_t2 : Fin k0_t2_loop.trips) (k0_t4 : Fin k0_t4_loop.trips) (c11_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_182 : BitVec 32 := 16#32
  let v261 : BitVec 32 := Scalar.muli arg21 c16_i32_182
  let v262 : BitVec 32 := Scalar.addi v19 v261
  let v263 : BitVec 32 := Scalar.addi v262 c11_i32
  let c0_i32_193 : BitVec 32 := 0#32
  ![v263.toNat, 0]
def k0_off175 (v286 : BitVec 32) : Fin 2 → Nat :=
  let c0_i32_197 : BitVec 32 := 0#32
  ![v286.toNat, 0]

def k0_chk85 (k0_t2 : Fin k0_t2_loop.trips) (v286 : BitVec 32) : Prop :=
  (∀ (k0_h1 : k0_cond1 k0_t2 = 1#1), ∀ a, (k0_off175 v286) a + S1x32.size a ≤ S1000000x32.size a)
theorem k0_off175_inb : ∀ (k0_t2 : Fin k0_t2_loop.trips) (v286 : BitVec 32) (k0_hw85 : k0_chk85 k0_t2 v286), ∀ (k0_h1 : k0_cond1 k0_t2 = 1#1), ∀ a, (k0_off175 v286) a + S1x32.size a ≤ S1000000x32.size a := fun k0_t2 v286 k0_hw85 k0_h1 => k0_hw85 k0_h1

def k0_off176 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_195 : BitVec 32 := 16#32
  let v282 : BitVec 32 := Scalar.muli arg21 c16_i32_195
  let v283 : BitVec 32 := Scalar.addi v19 v282
  let c12_i32 : BitVec 32 := 12#32
  let v284 : BitVec 32 := Scalar.addi v283 c12_i32
  let c0_i32_198 : BitVec 32 := 0#32
  ![v284.toNat, 0]
def k0_off177 (v292 : BitVec 32) : Fin 2 → Nat :=
  let c0_i32_201 : BitVec 32 := 0#32
  ![v292.toNat, 0]

def k0_chk86 (k0_t2 : Fin k0_t2_loop.trips) (v292 : BitVec 32) : Prop :=
  (∀ (k0_h1 : k0_cond1 k0_t2 = 1#1), ∀ a, (k0_off177 v292) a + S1x32.size a ≤ S1000000x32.size a)
theorem k0_off177_inb : ∀ (k0_t2 : Fin k0_t2_loop.trips) (v292 : BitVec 32) (k0_hw86 : k0_chk86 k0_t2 v292), ∀ (k0_h1 : k0_cond1 k0_t2 = 1#1), ∀ a, (k0_off177 v292) a + S1x32.size a ≤ S1000000x32.size a := fun k0_t2 v292 k0_hw86 k0_h1 => k0_hw86 k0_h1

def k0_off178 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_195 : BitVec 32 := 16#32
  let v282 : BitVec 32 := Scalar.muli arg21 c16_i32_195
  let v283 : BitVec 32 := Scalar.addi v19 v282
  let c12_i32 : BitVec 32 := 12#32
  let v284 : BitVec 32 := Scalar.addi v283 c12_i32
  let c0_i32_202 : BitVec 32 := 0#32
  ![v284.toNat, 0]
def k0_off179 (v298 : BitVec 32) : Fin 2 → Nat :=
  let c0_i32_205 : BitVec 32 := 0#32
  ![v298.toNat, 0]

def k0_chk87 (k0_t2 : Fin k0_t2_loop.trips) (v298 : BitVec 32) : Prop :=
  (∀ (k0_h1 : k0_cond1 k0_t2 = 1#1), ∀ a, (k0_off179 v298) a + S1x32.size a ≤ S1000000x32.size a)
theorem k0_off179_inb : ∀ (k0_t2 : Fin k0_t2_loop.trips) (v298 : BitVec 32) (k0_hw87 : k0_chk87 k0_t2 v298), ∀ (k0_h1 : k0_cond1 k0_t2 = 1#1), ∀ a, (k0_off179 v298) a + S1x32.size a ≤ S1000000x32.size a := fun k0_t2 v298 k0_hw87 k0_h1 => k0_hw87 k0_h1

def k0_off180 (k0_t2 : Fin k0_t2_loop.trips) (k0_t4 : Fin k0_t4_loop.trips) (c12_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_195 : BitVec 32 := 16#32
  let v282 : BitVec 32 := Scalar.muli arg21 c16_i32_195
  let v283 : BitVec 32 := Scalar.addi v19 v282
  let v284 : BitVec 32 := Scalar.addi v283 c12_i32
  let c0_i32_206 : BitVec 32 := 0#32
  ![v284.toNat, 0]
def k0_off181 (v307 : BitVec 32) : Fin 2 → Nat :=
  let c0_i32_210 : BitVec 32 := 0#32
  ![v307.toNat, 0]

def k0_chk88 (k0_t2 : Fin k0_t2_loop.trips) (v307 : BitVec 32) : Prop :=
  (∀ (k0_h1 : k0_cond1 k0_t2 = 1#1), ∀ a, (k0_off181 v307) a + S1x32.size a ≤ S1000000x32.size a)
theorem k0_off181_inb : ∀ (k0_t2 : Fin k0_t2_loop.trips) (v307 : BitVec 32) (k0_hw88 : k0_chk88 k0_t2 v307), ∀ (k0_h1 : k0_cond1 k0_t2 = 1#1), ∀ a, (k0_off181 v307) a + S1x32.size a ≤ S1000000x32.size a := fun k0_t2 v307 k0_hw88 k0_h1 => k0_hw88 k0_h1

def k0_off182 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_208 : BitVec 32 := 16#32
  let v303 : BitVec 32 := Scalar.muli arg21 c16_i32_208
  let v304 : BitVec 32 := Scalar.addi v19 v303
  let c13_i32 : BitVec 32 := 13#32
  let v305 : BitVec 32 := Scalar.addi v304 c13_i32
  let c0_i32_211 : BitVec 32 := 0#32
  ![v305.toNat, 0]
def k0_off183 (v313 : BitVec 32) : Fin 2 → Nat :=
  let c0_i32_214 : BitVec 32 := 0#32
  ![v313.toNat, 0]

def k0_chk89 (k0_t2 : Fin k0_t2_loop.trips) (v313 : BitVec 32) : Prop :=
  (∀ (k0_h1 : k0_cond1 k0_t2 = 1#1), ∀ a, (k0_off183 v313) a + S1x32.size a ≤ S1000000x32.size a)
theorem k0_off183_inb : ∀ (k0_t2 : Fin k0_t2_loop.trips) (v313 : BitVec 32) (k0_hw89 : k0_chk89 k0_t2 v313), ∀ (k0_h1 : k0_cond1 k0_t2 = 1#1), ∀ a, (k0_off183 v313) a + S1x32.size a ≤ S1000000x32.size a := fun k0_t2 v313 k0_hw89 k0_h1 => k0_hw89 k0_h1

def k0_off184 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_208 : BitVec 32 := 16#32
  let v303 : BitVec 32 := Scalar.muli arg21 c16_i32_208
  let v304 : BitVec 32 := Scalar.addi v19 v303
  let c13_i32 : BitVec 32 := 13#32
  let v305 : BitVec 32 := Scalar.addi v304 c13_i32
  let c0_i32_215 : BitVec 32 := 0#32
  ![v305.toNat, 0]
def k0_off185 (v319 : BitVec 32) : Fin 2 → Nat :=
  let c0_i32_218 : BitVec 32 := 0#32
  ![v319.toNat, 0]

def k0_chk90 (k0_t2 : Fin k0_t2_loop.trips) (v319 : BitVec 32) : Prop :=
  (∀ (k0_h1 : k0_cond1 k0_t2 = 1#1), ∀ a, (k0_off185 v319) a + S1x32.size a ≤ S1000000x32.size a)
theorem k0_off185_inb : ∀ (k0_t2 : Fin k0_t2_loop.trips) (v319 : BitVec 32) (k0_hw90 : k0_chk90 k0_t2 v319), ∀ (k0_h1 : k0_cond1 k0_t2 = 1#1), ∀ a, (k0_off185 v319) a + S1x32.size a ≤ S1000000x32.size a := fun k0_t2 v319 k0_hw90 k0_h1 => k0_hw90 k0_h1

def k0_off186 (k0_t2 : Fin k0_t2_loop.trips) (k0_t4 : Fin k0_t4_loop.trips) (c13_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_208 : BitVec 32 := 16#32
  let v303 : BitVec 32 := Scalar.muli arg21 c16_i32_208
  let v304 : BitVec 32 := Scalar.addi v19 v303
  let v305 : BitVec 32 := Scalar.addi v304 c13_i32
  let c0_i32_219 : BitVec 32 := 0#32
  ![v305.toNat, 0]
def k0_off187 (v328 : BitVec 32) : Fin 2 → Nat :=
  let c0_i32_223 : BitVec 32 := 0#32
  ![v328.toNat, 0]

def k0_chk91 (k0_t2 : Fin k0_t2_loop.trips) (v328 : BitVec 32) : Prop :=
  (∀ (k0_h1 : k0_cond1 k0_t2 = 1#1), ∀ a, (k0_off187 v328) a + S1x32.size a ≤ S1000000x32.size a)
theorem k0_off187_inb : ∀ (k0_t2 : Fin k0_t2_loop.trips) (v328 : BitVec 32) (k0_hw91 : k0_chk91 k0_t2 v328), ∀ (k0_h1 : k0_cond1 k0_t2 = 1#1), ∀ a, (k0_off187 v328) a + S1x32.size a ≤ S1000000x32.size a := fun k0_t2 v328 k0_hw91 k0_h1 => k0_hw91 k0_h1

def k0_off188 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_221 : BitVec 32 := 16#32
  let v324 : BitVec 32 := Scalar.muli arg21 c16_i32_221
  let v325 : BitVec 32 := Scalar.addi v19 v324
  let c14_i32 : BitVec 32 := 14#32
  let v326 : BitVec 32 := Scalar.addi v325 c14_i32
  let c0_i32_224 : BitVec 32 := 0#32
  ![v326.toNat, 0]
def k0_off189 (v334 : BitVec 32) : Fin 2 → Nat :=
  let c0_i32_227 : BitVec 32 := 0#32
  ![v334.toNat, 0]

def k0_chk92 (k0_t2 : Fin k0_t2_loop.trips) (v334 : BitVec 32) : Prop :=
  (∀ (k0_h1 : k0_cond1 k0_t2 = 1#1), ∀ a, (k0_off189 v334) a + S1x32.size a ≤ S1000000x32.size a)
theorem k0_off189_inb : ∀ (k0_t2 : Fin k0_t2_loop.trips) (v334 : BitVec 32) (k0_hw92 : k0_chk92 k0_t2 v334), ∀ (k0_h1 : k0_cond1 k0_t2 = 1#1), ∀ a, (k0_off189 v334) a + S1x32.size a ≤ S1000000x32.size a := fun k0_t2 v334 k0_hw92 k0_h1 => k0_hw92 k0_h1

def k0_off190 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_221 : BitVec 32 := 16#32
  let v324 : BitVec 32 := Scalar.muli arg21 c16_i32_221
  let v325 : BitVec 32 := Scalar.addi v19 v324
  let c14_i32 : BitVec 32 := 14#32
  let v326 : BitVec 32 := Scalar.addi v325 c14_i32
  let c0_i32_228 : BitVec 32 := 0#32
  ![v326.toNat, 0]
def k0_off191 (v340 : BitVec 32) : Fin 2 → Nat :=
  let c0_i32_231 : BitVec 32 := 0#32
  ![v340.toNat, 0]

def k0_chk93 (k0_t2 : Fin k0_t2_loop.trips) (v340 : BitVec 32) : Prop :=
  (∀ (k0_h1 : k0_cond1 k0_t2 = 1#1), ∀ a, (k0_off191 v340) a + S1x32.size a ≤ S1000000x32.size a)
theorem k0_off191_inb : ∀ (k0_t2 : Fin k0_t2_loop.trips) (v340 : BitVec 32) (k0_hw93 : k0_chk93 k0_t2 v340), ∀ (k0_h1 : k0_cond1 k0_t2 = 1#1), ∀ a, (k0_off191 v340) a + S1x32.size a ≤ S1000000x32.size a := fun k0_t2 v340 k0_hw93 k0_h1 => k0_hw93 k0_h1

def k0_off192 (k0_t2 : Fin k0_t2_loop.trips) (k0_t4 : Fin k0_t4_loop.trips) (c14_i32 : BitVec 32) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_221 : BitVec 32 := 16#32
  let v324 : BitVec 32 := Scalar.muli arg21 c16_i32_221
  let v325 : BitVec 32 := Scalar.addi v19 v324
  let v326 : BitVec 32 := Scalar.addi v325 c14_i32
  let c0_i32_232 : BitVec 32 := 0#32
  ![v326.toNat, 0]
def k0_off193 (v349 : BitVec 32) : Fin 2 → Nat :=
  let c0_i32_236 : BitVec 32 := 0#32
  ![v349.toNat, 0]

def k0_chk94 (k0_t2 : Fin k0_t2_loop.trips) (v349 : BitVec 32) : Prop :=
  (∀ (k0_h1 : k0_cond1 k0_t2 = 1#1), ∀ a, (k0_off193 v349) a + S1x32.size a ≤ S1000000x32.size a)
theorem k0_off193_inb : ∀ (k0_t2 : Fin k0_t2_loop.trips) (v349 : BitVec 32) (k0_hw94 : k0_chk94 k0_t2 v349), ∀ (k0_h1 : k0_cond1 k0_t2 = 1#1), ∀ a, (k0_off193 v349) a + S1x32.size a ≤ S1000000x32.size a := fun k0_t2 v349 k0_hw94 k0_h1 => k0_hw94 k0_h1

def k0_off194 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_234 : BitVec 32 := 16#32
  let v345 : BitVec 32 := Scalar.muli arg21 c16_i32_234
  let v346 : BitVec 32 := Scalar.addi v19 v345
  let c15_i32 : BitVec 32 := 15#32
  let v347 : BitVec 32 := Scalar.addi v346 c15_i32
  let c0_i32_237 : BitVec 32 := 0#32
  ![v347.toNat, 0]
def k0_off195 (v355 : BitVec 32) : Fin 2 → Nat :=
  let c0_i32_240 : BitVec 32 := 0#32
  ![v355.toNat, 0]

def k0_chk95 (k0_t2 : Fin k0_t2_loop.trips) (v355 : BitVec 32) : Prop :=
  (∀ (k0_h1 : k0_cond1 k0_t2 = 1#1), ∀ a, (k0_off195 v355) a + S1x32.size a ≤ S1000000x32.size a)
theorem k0_off195_inb : ∀ (k0_t2 : Fin k0_t2_loop.trips) (v355 : BitVec 32) (k0_hw95 : k0_chk95 k0_t2 v355), ∀ (k0_h1 : k0_cond1 k0_t2 = 1#1), ∀ a, (k0_off195 v355) a + S1x32.size a ≤ S1000000x32.size a := fun k0_t2 v355 k0_hw95 k0_h1 => k0_hw95 k0_h1

def k0_off196 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_234 : BitVec 32 := 16#32
  let v345 : BitVec 32 := Scalar.muli arg21 c16_i32_234
  let v346 : BitVec 32 := Scalar.addi v19 v345
  let c15_i32 : BitVec 32 := 15#32
  let v347 : BitVec 32 := Scalar.addi v346 c15_i32
  let c0_i32_241 : BitVec 32 := 0#32
  ![v347.toNat, 0]
def k0_off197 (v361 : BitVec 32) : Fin 2 → Nat :=
  let c0_i32_244 : BitVec 32 := 0#32
  ![v361.toNat, 0]

def k0_chk96 (k0_t2 : Fin k0_t2_loop.trips) (v361 : BitVec 32) : Prop :=
  (∀ (k0_h1 : k0_cond1 k0_t2 = 1#1), ∀ a, (k0_off197 v361) a + S1x32.size a ≤ S1000000x32.size a)
theorem k0_off197_inb : ∀ (k0_t2 : Fin k0_t2_loop.trips) (v361 : BitVec 32) (k0_hw96 : k0_chk96 k0_t2 v361), ∀ (k0_h1 : k0_cond1 k0_t2 = 1#1), ∀ a, (k0_off197 v361) a + S1x32.size a ≤ S1000000x32.size a := fun k0_t2 v361 k0_hw96 k0_h1 => k0_hw96 k0_h1

def k0_off198 (k0_t2 : Fin k0_t2_loop.trips) (k0_t4 : Fin k0_t4_loop.trips) : Fin 2 → Nat :=
  let c0_i32_6 : BitVec 32 := 0#32
  let c1_i32_7 : BitVec 32 := 1#32
  let arg20 : BitVec 32 := Scf.iv c0_i32_6 c1_i32_7 k0_t2
  let c1_i32_24 : BitVec 32 := 1#32
  let v17 : BitVec 32 := Scalar.addi arg20 c1_i32_24
  let c2_i32_25 : BitVec 32 := 2#32
  let v18 : BitVec 32 := Scalar.remsi v17 c2_i32_25
  let c128_i32_26 : BitVec 32 := 128#32
  let v19 : BitVec 32 := Scalar.muli v18 c128_i32_26
  let c0_i32_28 : BitVec 32 := 0#32
  let c1_i32_30 : BitVec 32 := 1#32
  let arg21 : BitVec 32 := Scf.iv c0_i32_28 c1_i32_30 k0_t4
  let c16_i32_234 : BitVec 32 := 16#32
  let v345 : BitVec 32 := Scalar.muli arg21 c16_i32_234
  let v346 : BitVec 32 := Scalar.addi v19 v345
  let c15_i32 : BitVec 32 := 15#32
  let v347 : BitVec 32 := Scalar.addi v346 c15_i32
  let c0_i32_245 : BitVec 32 := 0#32
  ![v347.toNat, 0]
@[reducible] def k0_t5_loop : Scf.Loop 32 :=
  let c0_i32_20 : BitVec 32 := 0#32
  let c8_i32_21 : BitVec 32 := 8#32
  let v16 : BitVec 32 := Scalar.addi c0_i32_20 c8_i32_21
  let c1_i32_22 : BitVec 32 := 1#32
  ⟨c0_i32_20, v16, c1_i32_22⟩
def k0_off199 (k0_t2 : Fin k0_t2_loop.trips) (k0_t5 : Fin k0_t5_loop.trips) (c0_i32_27 : BitVec 32) : Fin 2 → Nat :=
  let c0_i32_6 : BitVec 32 := 0#32
  let c1_i32_7 : BitVec 32 := 1#32
  let arg20 : BitVec 32 := Scf.iv c0_i32_6 c1_i32_7 k0_t2
  let c2_i32_17 : BitVec 32 := 2#32
  let v14 : BitVec 32 := Scalar.remsi arg20 c2_i32_17
  let c128_i32_18 : BitVec 32 := 128#32
  let v15 : BitVec 32 := Scalar.muli v14 c128_i32_18
  let c0_i32_20 : BitVec 32 := 0#32
  let c1_i32_22 : BitVec 32 := 1#32
  let arg21 : BitVec 32 := Scf.iv c0_i32_20 c1_i32_22 k0_t5
  let c16_i32_26 : BitVec 32 := 16#32
  let v22 : BitVec 32 := Scalar.muli arg21 c16_i32_26
  let v23 : BitVec 32 := Scalar.addi v15 v22
  let v24 : BitVec 32 := Scalar.addi v23 c0_i32_27
  let v25 : Index := Scalar.indexCast v24
  let c0 : Index := 0#32
  ![v25.toNat, 0]
def k0_off200 (k0_t2 : Fin k0_t2_loop.trips) (k0_t5 : Fin k0_t5_loop.trips) (c0_i32_27 : BitVec 32) : Fin 2 → Nat :=
  let c0_i32_6 : BitVec 32 := 0#32
  let c1_i32_7 : BitVec 32 := 1#32
  let arg20 : BitVec 32 := Scf.iv c0_i32_6 c1_i32_7 k0_t2
  let c2_i32_17 : BitVec 32 := 2#32
  let v14 : BitVec 32 := Scalar.remsi arg20 c2_i32_17
  let c128_i32_18 : BitVec 32 := 128#32
  let v15 : BitVec 32 := Scalar.muli v14 c128_i32_18
  let c0_i32_20 : BitVec 32 := 0#32
  let c1_i32_22 : BitVec 32 := 1#32
  let arg21 : BitVec 32 := Scf.iv c0_i32_20 c1_i32_22 k0_t5
  let c16_i32_26 : BitVec 32 := 16#32
  let v22 : BitVec 32 := Scalar.muli arg21 c16_i32_26
  let v23 : BitVec 32 := Scalar.addi v15 v22
  let v24 : BitVec 32 := Scalar.addi v23 c0_i32_27
  let v27 : Index := Scalar.indexCast v24
  let c16 : Index := 16#32
  ![v27.toNat, 16]
def k0_off201 (k0_t2 : Fin k0_t2_loop.trips) (k0_t5 : Fin k0_t5_loop.trips) : Fin 1 → Nat :=
  let c0_i32_6 : BitVec 32 := 0#32
  let c1_i32_7 : BitVec 32 := 1#32
  let arg20 : BitVec 32 := Scf.iv c0_i32_6 c1_i32_7 k0_t2
  let c128_i32_24 : BitVec 32 := 128#32
  let v17 : BitVec 32 := Scalar.muli arg20 c128_i32_24
  let c0_i32_20 : BitVec 32 := 0#32
  let c1_i32_22 : BitVec 32 := 1#32
  let arg21 : BitVec 32 := Scf.iv c0_i32_20 c1_i32_22 k0_t5
  let c16_i32 : BitVec 32 := 16#32
  let v18 : BitVec 32 := Scalar.muli arg21 c16_i32
  let v19 : BitVec 32 := Scalar.addi v17 v18
  let v1965 : Index := Scalar.indexCast v19
  ![v1965.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 98
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x32, .f32⟩
  | .hbm, ⟨4, _⟩ => ⟨S1000000x32, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x32, .f32⟩
  | .hbm, ⟨24, _⟩ => ⟨S16384x32, .i1⟩
  | .hbm, ⟨25, _⟩ => ⟨S_, .f32⟩
  | .hbm, ⟨26, _⟩ => ⟨S16384x32, .f32⟩
  | .hbm, ⟨27, _⟩ => ⟨S16384x32, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x32, .f32⟩
  | .hbm, ⟨47, _⟩ => ⟨S16384x32, .i1⟩
  | .hbm, ⟨48, _⟩ => ⟨S_, .f32⟩
  | .hbm, ⟨49, _⟩ => ⟨S16384x32, .f32⟩
  | .hbm, ⟨50, _⟩ => ⟨S16384x32, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384x32, .f32⟩
  | .hbm, ⟨70, _⟩ => ⟨S16384x32, .i1⟩
  | .hbm, ⟨71, _⟩ => ⟨S_, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x32, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_cst : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_cst_0 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_cst_1 : Ref sig .tc := ⟨.hbm, 84, rfl⟩
abbrev main_v11 : Ref sig .tc := ⟨.hbm, 85, rfl⟩
abbrev main_v12 : Ref sig .tc := ⟨.hbm, 86, rfl⟩
abbrev main_cst_2 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_cst_3 : Ref sig .tc := ⟨.hbm, 92, rfl⟩
abbrev main_v17 : Ref sig .tc := ⟨.hbm, 93, rfl⟩
abbrev main_v18 : Ref sig .tc := ⟨.hbm, 94, rfl⟩
abbrev main_cst_4 : Ref sig .tc := ⟨.hbm, 95, rfl⟩
abbrev main_v19 : Ref sig .tc := ⟨.hbm, 96, rfl⟩
abbrev main_v20 : Ref sig .tc := ⟨.hbm, 97, rfl⟩

abbrev nD : Nat := 1
abbrev τ : Topo := Topo.v7x

variable {F : FTy → Type} [FloatOps F]
-- ==== Proof.Tri.lean ====
/-
  Triples of straight-line programs and whole buffers held by what they read.

  * `Tri A p v B`: from `A` the program `p` runs to the value `v` and leaves `B`. The rules here are sequencing,
    framing, consequence, counted loops, and one rule per operation that the kernel uses.
  * `own m S X`: the elements `S` of the whole memref `m`, at a share, holding what reads `X`.
-/
module

public import Idealize.ShloMosaic.Lib.Batch
public import Idealize.ShloMosaic.Lib.Scf
public import Idealize.ShloMosaic.Lib.Pipeline.Frame
public import Idealize.ShloMosaic.Lib.Tactic

@[expose] public section

noncomputable section

namespace Cert.Proof.Lib

open Idealize.ShloMosaic Idealize.ShloMosaic.Transfers
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-! ## Whole memrefs held by what they read -/

section Own

variable (c : Thread nD τ) {sp : Space} {s : Shape} {e : EltTy} {m : Memref sig c.2.kind sp s e} (hm : m.IsWhole)

/-- The elements `S` of a whole memref, at the share `q`, with contents that read `X`. -/
def own (q : PosShare TreeShare) (S : Finset s.Idx) (X : s.Idx → Val e) : sProp 𝕄 :=
  m.view.loc c ↦[m.view.setOn S]{q} hm.unread X

/-- Two contents that agree at an index under a view read the same element there. -/
theorem unread_emb (X Y : s.Idx → Val e) (y : s.Idx) (h : X y = Y y) : hm.unread X (m.view.emb y) = hm.unread Y (m.view.emb y) := by
  have hX := congrFun (hm.read_unread (Val := Val) X) y
  have hY := congrFun (hm.read_unread (Val := Val) Y) y
  rw [View.read_apply] at hX hY
  exact (cast_inj _).mp ((hX.trans h).trans hY.symm)

/-- Contents matter on the elements held only. -/
theorem own_congr {q : PosShare TreeShare} {S : Finset s.Idx} {X Y : s.Idx → Val e} (h : ∀ y ∈ S, X y = Y y) :
    (own c hm q S X : sProp 𝕄) = own c hm q S Y :=
  pointsTo_congr fun i hi => by
    obtain ⟨y, hy, rfl⟩ := Finset.mem_map.mp hi
    exact unread_emb c hm X Y y (h y hy)

/-- Disjoint sets of elements are held separately. -/
theorem own_union {q : PosShare TreeShare} {S T : Finset s.Idx} {X : s.Idx → Val e} (h : Disjoint S T) :
    (own c hm q (S ∪ T) X : sProp 𝕄) ⊣⊢ iprop(own c hm q S X ∗ own c hm q T X) := by
  unfold own
  have h' : Disjoint (m.view.setOn S) (m.view.setOn T) := (Finset.disjoint_map _).mpr h
  have hu : m.view.setOn (S ∪ T) = m.view.setOn S ∪ m.view.setOn T := Finset.map_union _ _
  rw [hu]
  exact pointsTo_union h'

/-- A subset of the elements can be taken out. -/
theorem own_take {q : PosShare TreeShare} {S T : Finset s.Idx} {X : s.Idx → Val e} (h : S ⊆ T) :
    (own c hm q T X : sProp 𝕄) ⊣⊢ iprop(own c hm q S X ∗ own c hm q (T \ S) X) := by
  have := own_union (nD := nD) (Ix := Ix) (Name := Name) (U := U) (Lvl := Lvl) c hm (q := q) (X := X) (Finset.disjoint_sdiff (s := S) (t := T))
  rwa [Finset.union_sdiff_of_subset h] at this

/-- A share is its two halves. -/
theorem own_halves {q : PosShare TreeShare} {S : Finset s.Idx} {X : s.Idx → Val e} :
    (own c hm q S X : sProp 𝕄) ⊢ iprop(own c hm q.left S X ∗ own c hm q.right S X) :=
  (pointsTo_share (PosShare.mem_left_op_right q)).1

/-- A family of disjoint sets is held as one. -/
theorem own_biUnion {q : PosShare TreeShare} {T : Type} [DecidableEq T] (I : Finset T) (K : T → Finset s.Idx) {X : s.Idx → Val e}
    (h : ∀ t ∈ I, ∀ t' ∈ I, t ≠ t' → Disjoint (K t) (K t')) :
    (own c hm q (I.biUnion K) X : sProp 𝕄) = bigSep I fun t => own c hm q (K t) X := by
  unfold own
  have hu : m.view.setOn (I.biUnion K) = I.biUnion fun t => m.view.setOn (K t) := by
    ext i; simp only [View.setOn, Finset.mem_map, Finset.mem_biUnion]; aesop
  rw [hu]
  exact pointsTo_biUnion I _ fun t ht t' ht' hne => (Finset.disjoint_map _).mpr (h t ht t' ht' hne)

/-- Any contents of a whole memref are `own` at what they read. -/
theorem own_of_pointsTo {q : PosShare TreeShare} (f : Buf Val (m.view.loc c)) :
    (m.view.loc c ↦[m.view.set]{q} f : sProp 𝕄) = own c hm q Finset.univ (m.view.read Val f) := by
  unfold own; rw [hm.unread_read]; rfl

/-- A write of `w` through the rectangle `r` leaves the rectangle's elements holding `w`. -/
theorem own_write (r : Rect s) (f : Buf Val (m.view.loc c)) (w : r.shape.Idx → Val e) (X : s.Idx → Val e)
    (h : ∀ x, w x = X (r.emb x)) :
    (m.view.loc c ↦[(m.view.slice r).set]{fullShare} ((m.view.slice r).write Val f w Finset.univ) : sProp 𝕄) = own c hm fullShare r.set X := by
  unfold own
  have hs : (m.view.slice r).set = m.view.setOn r.set := View.set_slice _ _
  rw [← hs]
  refine pointsTo_congr fun i hi => ?_
  obtain ⟨x, -, rfl⟩ := Finset.mem_map.mp hi
  rw [View.write_emb_of_mem _ _ (Finset.mem_univ x)]
  have hX := congrFun (hm.read_unread (Val := Val) X) (r.emb x)
  rw [View.read_apply] at hX
  have he : m.view.emb (r.emb x) = (m.view.slice r).emb x := rfl
  rw [he] at hX
  rw [h x, ← hX, cast_cast, cast_eq]

/-- A write through a rectangle of a memref held whole. -/
theorem unread_write (r : Rect s) (X Y : s.Idx → Val e) (w : r.shape.Idx → Val e)
    (h : ∀ x, w x = Y (r.emb x)) (h' : ∀ y, y ∉ r.set → X y = Y y) :
    (m.view.slice r).write Val (hm.unread X) w Finset.univ = hm.unread Y := by
  refine hm.read_bijective.1 ?_
  rw [hm.read_unread]
  funext y
  by_cases hy : y ∈ r.set
  · rw [← Rect.map_emb_univ] at hy
    obtain ⟨x, -, rfl⟩ := Finset.mem_map.mp hy
    rw [View.read_slice_write_emb _ _ _ (Finset.mem_univ x), h]
  · rw [View.read_slice_write_of_not_mem _ _ _ _ (by rwa [Rect.map_emb_univ]), hm.read_unread, h' y hy]

instance own_storable (q : PosShare TreeShare) (S : Finset s.Idx) (X : s.Idx → Val e) :
    Storable (upEmb : UEmb _ 𝕄) (own c hm q S X) := by
  unfold own; infer_instance

end Own

/-! ## Triples -/

section Tri

variable [Preorder Lvl] {Λ : Labels} {α β : Type}

/-- From `A` the program runs to the value `v` and leaves `B`. -/
def Tri (defs : Defs nD τ sig Val Λ) (𝒱 : Variants) (c : Thread nD τ) (bd : Option 𝒱.V) (A : sProp 𝕄) (p : Prog (TpuEff nD τ sig Val Λ c.2) α) (v : α) (B : sProp 𝕄) : Prop :=
  ∀ Q : α → sProp 𝕄, iprop(A ∗ (B -∗ Q v)) ⊢ wp frame (wpE defs 𝒱 c bd) Set.univ p Q

variable {defs : Defs nD τ sig Val Λ} {𝒱 : Variants} {c : Thread nD τ} {bd : Option 𝒱.V} {A B C R : sProp (MT nD τ sig Ix Val Name U Lvl)}

theorem Tri.ret (v : α) : Tri defs 𝒱 c bd A (pure v) v A := fun Q => by
  rw [Prog.pure_eq_ret, wp_ret]
  iintro ⟨HA, HQ⟩
  imodintro
  iapply HQ; iexact HA

theorem Tri.bind {p : Prog (TpuEff nD τ sig Val Λ c.2) α} {f : α → Prog (TpuEff nD τ sig Val Λ c.2) β} {v : α} {w : β}
    (h₁ : Tri defs 𝒱 c bd A p v B) (h₂ : Tri defs 𝒱 c bd B (f v) w C) : Tri defs 𝒱 c bd A (p >>= f) w C := fun Q => by
  rw [wp_bind]
  iintro ⟨HA, HQ⟩
  iapply (h₁ _)
  isplitl [HA]; · iexact HA
  iintro HB
  iapply (h₂ Q)
  isplitl [HB]; · iexact HB
  iexact HQ

theorem Tri.pre {A' : sProp 𝕄} {p : Prog (TpuEff nD τ sig Val Λ c.2) α} {v : α} (h : A' ⊢ A) (ht : Tri defs 𝒱 c bd A p v B) :
    Tri defs 𝒱 c bd A' p v B := fun Q => by
  iintro ⟨HA, HQ⟩
  iapply (ht Q)
  isplitl [HA]; · iapply h; iexact HA
  iexact HQ

theorem Tri.post {B' : sProp 𝕄} {p : Prog (TpuEff nD τ sig Val Λ c.2) α} {v : α} (ht : Tri defs 𝒱 c bd A p v B) (h : B ⊢ B') :
    Tri defs 𝒱 c bd A p v B' := fun Q => by
  iintro ⟨HA, HQ⟩
  iapply (ht Q)
  isplitl [HA]; · iexact HA
  iintro HB
  iapply HQ; iapply h; iexact HB

theorem Tri.framed {p : Prog (TpuEff nD τ sig Val Λ c.2) α} {v : α} (ht : Tri defs 𝒱 c bd A p v B) :
    Tri defs 𝒱 c bd iprop(A ∗ R) p v iprop(B ∗ R) := fun Q => by
  iintro ⟨⟨HA, HR⟩, HQ⟩
  iapply (ht Q)
  isplitl [HA]; · iexact HA
  iintro HB
  iapply HQ
  isplitl [HB]; · iexact HB
  iexact HR

theorem Tri.conv {A' B' : sProp 𝕄} {p : Prog (TpuEff nD τ sig Val Λ c.2) α} {v : α} (ht : Tri defs 𝒱 c bd A p v B) (h : A' ⊢ A) (h' : B ⊢ B') :
    Tri defs 𝒱 c bd A' p v B' := (ht.pre h).post h'

theorem Tri.of_eq {p : Prog (TpuEff nD τ sig Val Λ c.2) α} {v w : α} (ht : Tri defs 𝒱 c bd A p v B) (h : v = w) :
    Tri defs 𝒱 c bd A p w B := h ▸ ht

/-- A view shift before the program. -/
theorem Tri.upd {A' : sProp 𝕄} {p : Prog (TpuEff nD τ sig Val Λ c.2) α} {v : α} (h : A' ⊢ |={Set.univ}=> A) (ht : Tri defs 𝒱 c bd A p v B) :
    Tri defs 𝒱 c bd A' p v B := fun Q => by
  iintro ⟨HA, HQ⟩
  imod h $$ HA with HA
  iapply (ht Q)
  isplitl [HA]; · iexact HA
  iexact HQ

/-- What is known before the program. -/
theorem Tri.exists {ι : Type} {A : ι → sProp 𝕄} {p : Prog (TpuEff nD τ sig Val Λ c.2) α} {v : α} (ht : ∀ i, Tri defs 𝒱 c bd (A i) p v B) :
    Tri defs 𝒱 c bd iprop(∃ i, A i) p v B := fun Q => by
  iintro ⟨⟨%i, HA⟩, HQ⟩
  iapply (ht i Q)
  isplitl [HA]; · iexact HA
  iexact HQ

/-- A counted loop with no carried value, by an invariant. -/
theorem Tri.for {w : ℕ} (l : Scf.Loop w) (hok : l.OK) (body : Fin l.trips → Unit → Prog (TpuEff nD τ sig Val Λ c.2) Unit)
    (I : ℕ → sProp 𝕄) (h : ∀ k : Fin l.trips, Tri defs 𝒱 c bd (I k) (body k ()) () (I (k.val + 1))) :
    Tri defs 𝒱 c bd (I 0) (Scf.Loop.for l hok () body) () (I l.trips) := fun Q => by
  iintro ⟨HI, HQ⟩
  iapply (Scf.wp_for frame (wpE defs 𝒱 c bd) Set.univ l.lb l.ub l.st hok () body (fun k _ => I k) (fun k _ => by
    refine Entails.trans ?_ (h k _)
    iintro H; isplitl [H]; · iexact H
    iintro H; iexact H))
  isplitl [HI]; · iexact HI
  iintro %acc HI
  iapply HQ; iexact HI

/-- A checked fact that holds. -/
theorem Tri.assume {P : Prop} {d : Decidable P} (h : P) :
    Tri defs 𝒱 c bd A (Prog.lift (.assume P d)) ⟨h⟩ A := fun Q => by
  rw [Prog.lift, wp_assume_of 𝒱 c bd Set.univ h, wp_ret]
  iintro ⟨HA, HQ⟩
  imodintro
  iapply HQ; iexact HA

/-- A load through a whole memref. -/
theorem Tri.load {cs : CoreSpace} {s : Shape} {e : EltTy} {m : Memref sig c.2.kind cs s e} (hm : m.IsWhole) {r : LoadRect s} {hl : m.view.LoadsAt r}
    {q : PosShare TreeShare} {S : Finset s.Idx} {X : s.Idx → Val e} (hS : r.set ⊆ S) :
    Tri defs 𝒱 c bd (own c hm q S X : sProp 𝕄) (Prog.lift (.load m r hl)) (fun x => X (r.idx x)) (own c hm q S X) := fun Q => by
  rw [Prog.lift]
  iintro ⟨HA, HQ⟩
  unfold own
  iapply (wp_load 𝒱 c bd Set.univ (hl := hl) (S := m.view.setOn S) (q := q) (f := hm.unread X) (Finset.map_subset_map.mpr hS)) $$ HA
  iintro HA
  rw [wp_ret]
  imodintro
  have : (fun x => X (r.idx x)) = m.view.readAt Val r (hm.unread X) := funext fun x => by
    rw [View.readAt_apply, hm.read_unread]
  rw [this]
  iapply HQ; iexact HA

/-- An unmasked store through a whole memref held whole. -/
theorem Tri.store {cs : CoreSpace} {s : Shape} {e : EltTy} {m : Memref sig c.2.kind cs s e} (hm : m.IsWhole) {r : Rect s} {w : r.shape.Idx → Val e}
    {hx : (m.access r).Stores Finset.univ} {hmk : Finset.univ = Finset.univ ∨ ∀ a, r.stride a = 1} {X Y : s.Idx → Val e}
    (h : ∀ x, w x = Y (r.emb x)) (h' : ∀ y, y ∉ r.set → X y = Y y) :
    Tri defs 𝒱 c bd (own c hm fullShare Finset.univ X : sProp 𝕄) (Prog.lift (.store m r w Finset.univ hx hmk)) ⟨⟩ (own c hm fullShare Finset.univ Y) := fun Q => by
  rw [Prog.lift]
  iintro ⟨HA, HQ⟩
  unfold own
  iapply (wp_store 𝒱 c bd Set.univ (hx := hx) (hm := hmk) (S := m.view.setOn Finset.univ) (f := hm.unread X) (View.set_slice_subset _ _)) $$ HA
  iintro HA
  rw [wp_ret]
  imodintro
  iapply HQ
  rw [← unread_write c hm r X Y w h h']
  iexact HA

variable (EC : UEmb Counters (MT nD τ sig Ix Val Name U Lvl))

/-- The core's waits: those of `W`, and others at the index `ι` only. -/
def waits (c : Thread nD τ) (O : CellTallies nD τ sig Ix) (W : Waits sig Ix) (ι : Ix) : sProp 𝕄 :=
  iprop(∃ W', ⌜∀ p ∈ W', p ∈ W ∨ p.2 = ι⌝ ∗ owes c O W')

/-- The next transfer of a batch, of a rectangle of a whole memref into a rectangle of another: the share of the source
    goes with the transfer, the destination's elements come back with the batch's deliveries, holding what the source held. -/
theorem Tri.issue [Infinite Name] [EC.LandsIn (upEmb : UEmb _ 𝕄)] {sp sp' : Space} {r : ℕ} {d d' sz os od : Fin r → ℕ} {e : EltTy} {M : Memref sig c.2.kind sp ⟨r, d⟩ e} (hM : M.IsWhole)
    {R : Memref sig c.2.kind sp' ⟨r, d'⟩ e} (hR : R.IsWhole) {sm : SemLoc sig}
    {hs : ∀ a, os a + sz a ≤ (⟨r, d⟩ : Shape).size a} {hd : ∀ a, od a + sz a ≤ (⟨r, d'⟩ : Shape).size a}
    {h₁ : ∀ a, (Rect.unit (s := ⟨r, d⟩) os sz hs).stride a = 1} {h₂ : ∀ a, (Rect.unit (s := ⟨r, d'⟩) od sz hd).stride a = 1}
    {hsrc : (M.slice (Rect.unit (s := ⟨r, d⟩) os sz hs) h₁).view.WordExact} {hdst : (R.slice (Rect.unit (s := ⟨r, d'⟩) od sz hd) h₂).view.WordExact}
    {hsem : DmaTarget.Typed (nD := nD) sp sm (.here (R.slice (Rect.unit (s := ⟨r, d'⟩) od sz hd) h₂))}
    {n : ℕ} {D : Fin n → sProp 𝕄} {j u : ℕ} {ι : Ix} {N : ℕ} {q : PosShare TreeShare} {X G : (⟨r, d'⟩ : Shape).Idx → Val e} {T : (⟨r, d⟩ : Shape).Idx → Val e}
    (hN : (R.slice (Rect.unit (s := ⟨r, d'⟩) od sz hd) h₂).view.amount sm = N) (hj : j < n) (hu : u ≤ j * N)
    (hG : ∀ x : (⟨r, sz⟩ : Shape).Idx, G ((Rect.unit (s := ⟨r, d'⟩) od sz hd).emb x) = T ((Rect.unit (s := ⟨r, d⟩) os sz hs).emb x))
    (hD : (own c hR fullShare (Rect.unit (s := ⟨r, d'⟩) od sz hd).set G : sProp 𝕄) ⊢ D ⟨j, hj⟩) :
    Tri defs 𝒱 c bd iprop(own c hM q (Rect.unit (s := ⟨r, d⟩) os sz hs).set T ∗ own c hR fullShare (Rect.unit (s := ⟨r, d'⟩) od sz hd).set X ∗ Batch EC c sm ι N D j u)
      (Prog.lift (.enqueueDma (M.slice (Rect.unit (s := ⟨r, d⟩) os sz hs) h₁) (.here (R.slice (Rect.unit (s := ⟨r, d'⟩) od sz hd) h₂)) sm hsrc hdst hsem)) ⟨⟩
      (Batch EC c sm ι N D (j + 1) u) := fun Q => by
  rw [Prog.lift]
  unfold own
  have hS : (M.slice (Rect.unit (s := ⟨r, d⟩) os sz hs) h₁).view.set = M.view.setOn (Rect.unit (s := ⟨r, d⟩) os sz hs).set := View.set_slice _ _
  have hSd : (R.slice (Rect.unit (s := ⟨r, d'⟩) od sz hd) h₂).view.set = R.view.setOn (Rect.unit (s := ⟨r, d'⟩) od sz hd).set := View.set_slice _ _
  iintro ⟨⟨Hs, Hd, HB⟩, HQ⟩
  iapply (wp_dmaBatch EC 𝒱 c bd (src := M.slice (Rect.unit (s := ⟨r, d⟩) os sz hs) h₁) (dst := R.slice (Rect.unit (s := ⟨r, d'⟩) od sz hd) h₂)
    (via := .same) (hsrc := hsrc) (hdst := hdst) (hsem := hsem) (q := q) (fs := hM.unread T) (Sd := R.view.setOn (Rect.unit (s := ⟨r, d'⟩) od sz hd).set)
    (fd := hR.unread X) ι N hN hSd.subset hj hu ?_) $$ [Hs Hd HB]
  · refine Entails.trans ?_ hD
    have hw : ∀ x, ((ReadAs.same : ReadAs Val ⟨r, sz⟩ e ⟨r, sz⟩ e).apply ((M.slice (Rect.unit (s := ⟨r, d⟩) os sz hs) h₁).view.read Val (hM.unread T))) x
        = G ((Rect.unit (s := ⟨r, d'⟩) od sz hd).emb x) := fun x => by
      rw [hG x]
      exact congrFun (hM.read_unread (Val := Val) T) ((Rect.unit (s := ⟨r, d⟩) os sz hs).emb x)
    have := own_write (Ix := Ix) (Name := Name) (U := U) (Lvl := Lvl) c hR (Rect.unit (s := ⟨r, d'⟩) od sz hd) (hR.unread X) _ G hw
    iintro ⟨Hd, -⟩
    rw [← hSd]
    iapply (Entails.of_eq this)
    iexact Hd
  · isplitl [Hs]; · rw [hS]; iexact Hs
    isplitl [Hd]; · iexact Hd
    iexact HB
  iintro HB
  rw [wp_ret]
  imodintro
  iapply HQ; iexact HB

/-- A wait for one of a batch's transfers, every transfer issued. -/
theorem Tri.wait [EC.LandsIn (upEmb : UEmb _ 𝕄)] {sp sp' : Space} {s s' : Shape} {e e' : EltTy} {κ' : Kind} {sem : DmaSem sig} {srcw : Memref sig c.2.kind sp' s' e'} {dstw : Memref sig κ' sp s e}
    {hsrc : srcw.view.WordExact} {hdst : dstw.view.WordExact} {ι : Ix} {N : ℕ} (hJ : dstw.view.dmaCredit = N)
    {n : ℕ} {D : Fin n → sProp 𝕄} {r : ℕ} (hr : r < n) {O : CellTallies nD τ sig Ix} {W : Waits sig Ix} :
    Tri defs 𝒱 c bd iprop(Batch EC c (.dma sem) ι N D n (r * N) ∗ waits c O W ι ∗ MayWaits c ι O) (Prog.lift (.waitDma2 sem srcw dstw hsrc hdst)) ⟨⟩
      iprop(Batch EC c (.dma sem) ι N D n ((r + 1) * N) ∗ waits c O W ι ∗ MayWaits c ι O) := fun Q => by
  rw [Prog.lift]
  unfold waits
  iintro ⟨⟨HB, ⟨%W', %hW, HO⟩, #HM⟩, HQ⟩
  iapply (wp_waitBatchMulO EC 𝒱 c bd ι (N := N) (u := r * N) (j := n) (D := D) 1 (by rw [hJ, Nat.one_mul]) (by
    rw [Nat.one_mul, ← Nat.succ_mul, Nat.mul_comm N]; exact Nat.mul_le_mul_right _ hr) (O := O) (W := W')) $$ [HB HO]
  · isplitl [HB]; · iexact HB
    isplitl [HO]; · iexact HO
    iapply (MayWaits.elim (SemLoc.dma sem)); iexact HM
  rw [Nat.one_mul, ← Nat.succ_mul]
  iintro ⟨HB, HO⟩
  rw [wp_ret]
  imodintro
  iapply HQ
  isplitl [HB]; · iexact HB
  isplitl [HO]
  · iexists (insert (SemLoc.dma sem, ι) W'); isplitr
    · ipureintro
      intro p hp
      rcases Finset.mem_insert.mp hp with he | hp
      · exact .inr (by rw [he])
      · exact hW p hp
    · iexact HO
  · iexact HM

/-- A batch of one transfer: between any two memrefs, its delivery what the transfer leaves. -/
theorem Tri.start [Infinite Name] [EC.LandsIn (upEmb : UEmb _ 𝕄)] {sp sp' : Space} {s : Shape} {e : EltTy} {src : Memref sig c.2.kind sp s e}
    {dst : Memref sig c.2.kind sp' s e} {sm : SemLoc sig} {hsrc : src.view.WordExact} {hdst : dst.view.WordExact}
    {hsem : DmaTarget.Typed (nD := nD) sp sm (.here dst)} (ι : Ix) {N : ℕ} (hN : dst.view.amount sm = N) {q : PosShare TreeShare}
    {fs : Buf Val (src.view.loc c)} {fd : Buf Val (dst.view.loc c)} {D : sProp 𝕄} [Storable (upEmb : UEmb _ 𝕄) D]
    (hD : iprop((dst.view.loc c ↦[dst.view.set]{fullShare} (dst.view.write Val fd (src.view.read Val fs) Finset.univ))
      ∗ (src.view.loc c ↦[src.view.set]{q} fs)) ⊢ D) :
    Tri defs 𝒱 c bd iprop((src.view.loc c ↦[src.view.set]{q} fs) ∗ (dst.view.loc c ↦[dst.view.set]{fullShare} fd) ∗ semVal (c, sm) 0)
      (Prog.lift (.enqueueDma src (.here dst) sm hsrc hdst hsem)) ⟨⟩
      (Batch EC c sm ι N (fun _ : Fin 1 => D) 1 0) := fun Q => by
  rw [Prog.lift]
  iintro ⟨⟨Hs, Hd, Hv⟩, HQ⟩
  imod (batch_alloc' EC c ι N (fun _ : Fin 1 => D) (sm := sm) (E := Set.univ)) $$ Hv with HB
  iapply (wp_dmaBatch EC 𝒱 c bd (via := .same) (hsrc := hsrc) (hdst := hdst) (hsem := hsem) (q := q) (fs := fs) (Sd := dst.view.set)
    (fd := fd) (D := fun _ : Fin 1 => D) ι N hN (Finset.Subset.refl _) Nat.zero_lt_one (Nat.zero_le _) hD) $$ [Hs Hd HB]
  · isplitl [Hs]; · iexact Hs
    isplitl [Hd]; · iexact Hd
    iexact HB
  iintro HB
  rw [wp_ret]
  imodintro
  iapply HQ; iexact HB

/-- The wait for a batch of one transfer. -/
theorem Tri.finish [EC.LandsIn (upEmb : UEmb _ 𝕄)] {sp sp' : Space} {s s' : Shape} {e e' : EltTy} {κ' : Kind} {sem : DmaSem sig}
    {srcw : Memref sig c.2.kind sp' s' e'} {dstw : Memref sig κ' sp s e}
    {hsrc : srcw.view.WordExact} {hdst : dstw.view.WordExact} {ι : Ix} {N : ℕ} (hJ : dstw.view.dmaCredit = N) (hN : 0 < N)
    {D : sProp 𝕄} {O : CellTallies nD τ sig Ix} {W : Waits sig Ix} :
    Tri defs 𝒱 c bd iprop(Batch EC c (.dma sem) ι N (fun _ : Fin 1 => D) 1 0 ∗ waits c O W ι ∗ MayWaits c ι O) (Prog.lift (.waitDma2 sem srcw dstw hsrc hdst)) ⟨⟩
      iprop((D ∗ semVal (c, .dma sem) 0) ∗ waits c O W ι ∗ MayWaits c ι O) := fun Q => by
  have hw := Tri.wait (EC := EC) (defs := defs) (𝒱 := 𝒱) (bd := bd) (srcw := srcw) (dstw := dstw) (hsrc := hsrc) (hdst := hdst) (ι := ι) hJ
    (D := fun _ : Fin 1 => D) (r := 0) Nat.zero_lt_one (O := O) (W := W) (sem := sem)
  rw [Nat.zero_mul] at hw
  iintro ⟨HA, HQ⟩
  have hw' := hw (fun v => iprop(|={Set.univ}=> Q v))
  have hone : bigSep (Finset.univ : Finset (Fin 1)) (fun _ => D) = D := by
    rw [show (Finset.univ : Finset (Fin 1)) = {0} from rfl, bigSep_singleton]
  iapply (wp_fupd frame (wpE defs 𝒱 c bd) Set.univ _ Q)
  iapply hw'
  isplitl [HA]; · iexact HA
  rw [show (0 + 1) * N = N * 1 by omega]
  iintro ⟨HB, HW⟩
  imod (batch_collect' EC c hN) $$ HB with ⟨HD, Hv⟩
  imodintro
  iapply HQ
  isplitl [HD Hv]
  · isplitl [HD]
    · iapply (Entails.of_eq hone); iexact HD
    · iexact Hv
  · iexact HW

theorem Tri.intro {p : Prog (TpuEff nD τ sig Val Λ c.2) α} {v : α}
    (h : ∀ Q : α → sProp 𝕄, iprop(A ∗ (B -∗ Q v)) ⊢ wp frame (wpE defs 𝒱 c bd) Set.univ p Q) : Tri defs 𝒱 c bd A p v B := h

theorem Tri.run {p : Prog (TpuEff nD τ sig Val Λ c.2) α} {v : α} (h : Tri defs 𝒱 c bd A p v B) (Q : α → sProp 𝕄) :
    iprop(A ∗ (B -∗ Q v)) ⊢ wp frame (wpE defs 𝒱 c bd) Set.univ p Q := h Q

attribute [irreducible] Tri own

end Tri

end Cert.Proof.Lib

end
-- ==== Proof.FireI.lean ====
/-
  The row gathers of one chunk: what a subcore holds while it issues them, and the two loops that issue them.

  A chunk is 128 batch positions. For each of the three gathers (customer rows, first article rows, second article rows)
  the subcore holds a share of the table, the rows of the half buffer not yet given to a transfer, and the batch of
  the transfers issued so far on the gather's semaphore, whose deliveries are the rows of the half buffer.
-/
module

public import proofs.«01_k».proof.Defs
public import proofs.«01_k».proof.Proof.Tri
public import Idealize.ShloMosaic.Lib.SparseCore.Quiescent
public import Idealize.ShloMosaic.Lib.SparseCore.Ops
public import proofs.«01_k».proof.Proof.Gen.KernelIdeal
public import proofs.«01_k».proof.Proof.Gen.KernelIdeal.Skeleton

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

/-- The thread of the subcore at the coordinates `i`. -/
abbrev th (d : Dev nD) (i : grid0.Coords) : Thread nD τ := (d, .scVector ((i 0).castLE hcore0) ((i 1).castLE hsub0))

/-- The rows `[a, b)` of a row buffer. -/
def rowsFrom (a b : ℕ) : Finset S256x32.Idx := Finset.univ.filter fun y => a ≤ (y 0).val ∧ (y 0).val < b

theorem mem_rowsFrom {a b : ℕ} {y : S256x32.Idx} : y ∈ rowsFrom a b ↔ a ≤ (y 0).val ∧ (y 0).val < b := by
  simp [rowsFrom]

theorem rowsFrom_split {a b e : ℕ} (h₁ : a ≤ b) (h₂ : b ≤ e) : rowsFrom a b ∪ rowsFrom b e = rowsFrom a e := by
  ext y; simp only [Finset.mem_union, mem_rowsFrom]; omega

theorem rowsFrom_disjoint {a b a' b' : ℕ} (h : b ≤ a' ∨ b' ≤ a) : Disjoint (rowsFrom a b) (rowsFrom a' b') := by
  rw [Finset.disjoint_left]; intro y h₁ h₂; rw [mem_rowsFrom] at h₁ h₂; omega

/-- The coordinates of an offset from its closed form. -/
theorem closed0 {off : Fin 2 → ℕ} [c : ClosedOff off] {n : ℕ} (h : c.form 0 = n) : off 0 = n := (congrFun c.eq 0).trans h

theorem closed1 {off : Fin 2 → ℕ} [c : ClosedOff off] {n : ℕ} (h : c.form 1 = n) : off 1 = n := (congrFun c.eq 1).trans h

/-- One row's rectangle. -/
theorem row_set {off : Fin 2 → ℕ} {hd : ∀ a, off a + S1x32.size a ≤ S256x32.size a} {n : ℕ} (h0 : off 0 = n) (h1 : off 1 = 0) :
    (Rect.unit (s := S256x32) off S1x32.size hd).set = rowsFrom n (n + 1) := by
  ext y
  rw [Rect.mem_set_unit, mem_rowsFrom, Fin.forall_fin_two]
  have e0 : S1x32.size (0 : Fin 2) = 1 := rfl
  have e1 : S1x32.size (1 : Fin 2) = 32 := rfl
  have h32 : (y (1 : Fin 2)).val < 32 := (y (1 : Fin 2)).isLt
  rw [h0, h1, e0, e1]
  omega

/-- The half buffer `G` holds, from row `h`, the rows of the table `T` that the words `W` name from position `b`. -/
def IsGather (W : ℕ → BitVec 32) (T : S1000000x32.Idx → Elt F .f32) (G : S256x32.Idx → Elt F .f32) (h b : ℕ) : Prop :=
  ∀ (y : S256x32.Idx) (z : S1000000x32.Idx), h ≤ (y 0).val → (y 0).val < h + 128 → (z 0).val = (W (b + ((y 0).val - h))).toNat
    → (z 1).val = (y 1).val → G y = T z

/-- Every word names a row of the tables. -/
def Words (W : ℕ → BitVec 32) : Prop := ∀ n, (W n).toNat < 1000000

theorem Words.fits {W : ℕ → BitVec 32} (hW : Words W) {v : BitVec 32} {n : ℕ} (hv : v = W n) {off : Fin 2 → ℕ} (ho : off = ![v.toNat, 0]) :
    ∀ a, off a + S1x32.size a ≤ S1000000x32.size a := by
  have := hW n
  rw [ho, Fin.forall_fin_two, hv]
  show (W n).toNat + 1 ≤ 1000000 ∧ 0 + 32 ≤ 32
  omega

variable (d : Dev nD) (i : grid0.Coords) (EC : UEmb Counters (MT nD τ sig (HIx 1) (Elt F) ℕ U ℕ))

theorem inbRow0 : ∀ a, (![0, 0] : Fin 2 → ℕ) a + S1x32.size a ≤ S256x32.size a := by decide

/-- The amount of one row's transfer. -/
abbrev NR (R : Memref sig .scVector .vmem S256x32 .f32) : ℕ :=
  (R.slice (Rect.unit (s := S256x32) ![0, 0] S1x32.size inbRow0) (fun _ => rfl)).view.dmaCredit

/-- The deliveries of a chunk's transfers: the rows of the half buffer. -/
def dlv {R : Memref sig .scVector .vmem S256x32 .f32} (hR : R.IsWhole) (G : S256x32.Idx → Elt F .f32) (h : ℕ) (t : Fin 128) : sProp 𝕄 :=
  own (th d i) hR fullShare (rowsFrom (h + t.val) (h + t.val + 1)) G

/-- One gather, `j` of its chunk's transfers issued: a share of the table, the rows left, the batch. -/
def Gat {M : Memref sig .scVector .hbm S1000000x32 .f32} (hM : M.IsWhole) {R : Memref sig .scVector .vmem S256x32 .f32} (hR : R.IsWhole)
    (sm : SemLoc sig) (T : S1000000x32.Idx → Elt F .f32) (G : S256x32.Idx → Elt F .f32) (h j : ℕ) : sProp 𝕄 :=
  iprop((∃ q, own (th d i) hM q Finset.univ T) ∗ (∃ X, own (th d i) hR fullShare (rowsFrom (h + j) (h + 128)) X)
    ∗ Batch EC (th d i) sm none (NR R) (dlv d i hR G h) j 0)

variable {defs : Defs nD τ sig (Elt F) Λ₀} {𝒱 : Variants} {bd : Option 𝒱.V}

/-- The next row transfer of a gather. -/
theorem Gat.issue [EC.LandsIn (upEmb : UEmb _ 𝕄)] {M : Memref sig .scVector .hbm S1000000x32 .f32} (hM : M.IsWhole) {R : Memref sig .scVector .vmem S256x32 .f32} (hR : R.IsWhole)
    {sem : DmaSem sig} {T : S1000000x32.Idx → Elt F .f32} {G : S256x32.Idx → Elt F .f32} {W : ℕ → BitVec 32} {h b j : ℕ} (hG : IsGather W T G h b)
    {os od : Fin 2 → ℕ}
    {hs : ∀ a, os a + S1x32.size a ≤ S1000000x32.size a} {hd : ∀ a, od a + S1x32.size a ≤ S256x32.size a}
    {h₁ : ∀ a, (Rect.unit (s := S1000000x32) os S1x32.size hs).stride a = 1} {h₂ : ∀ a, (Rect.unit (s := S256x32) od S1x32.size hd).stride a = 1}
    {hsrc : (M.slice (Rect.unit (s := S1000000x32) os S1x32.size hs) h₁).view.WordExact} {hdst : (R.slice (Rect.unit (s := S256x32) od S1x32.size hd) h₂).view.WordExact}
    {hsem : DmaTarget.Typed (nD := nD) .hbm (.dma sem) (.here (p := (th d i).2) (R.slice (Rect.unit (s := S256x32) od S1x32.size hd) h₂))}
    (hj : j < 128) {v : BitVec 32} (hv : v = W (b + j)) (hos : os = ![v.toNat, 0]) (hod : od 0 = h + j) (hod' : od 1 = 0) :
    Tri defs 𝒱 (th d i) bd (Gat d i EC hM hR (.dma sem) T G h j)
      (Prog.lift (.enqueueDma (M.slice (Rect.unit (s := S1000000x32) os S1x32.size hs) h₁) (.here (R.slice (Rect.unit (s := S256x32) od S1x32.size hd) h₂)) (.dma sem) hsrc hdst hsem)) ⟨⟩
      (Gat d i EC hM hR (.dma sem) T G h (j + 1)) := by
  have hset := row_set (hd := hd) hod hod'
  have key : ∀ x : S1x32.Idx, G ((Rect.unit (s := S256x32) od S1x32.size hd).emb x) = T ((Rect.unit (s := S1000000x32) os S1x32.size hs).emb x) := by
    intro x
    have hx : (x 0).val < 1 := (x 0).isLt
    have e0 : ((Rect.unit (s := S256x32) od S1x32.size hd).emb x 0).val = od 0 + 1 * (x 0).val := rfl
    have e1 : ((Rect.unit (s := S256x32) od S1x32.size hd).emb x 1).val = od 1 + 1 * (x 1).val := rfl
    have f0 : ((Rect.unit (s := S1000000x32) os S1x32.size hs).emb x 0).val = os 0 + 1 * (x 0).val := rfl
    have f1 : ((Rect.unit (s := S1000000x32) os S1x32.size hs).emb x 1).val = os 1 + 1 * (x 1).val := rfl
    have g0 : os 0 = v.toNat := by rw [hos]; rfl
    have g1 : os 1 = 0 := by rw [hos]; rfl
    refine hG _ _ (by rw [e0]; omega) (by rw [e0]; omega) ?_ (by rw [e1, f1]; omega)
    rw [e0, f0, g0, hv, show od 0 + 1 * (x 0).val - h = j by omega]; omega
  unfold Gat
  refine Tri.intro fun Q => ?_
  iintro ⟨⟨⟨%q, HT⟩, ⟨%X, HR⟩, HB⟩, HQ⟩
  ihave HT := (own_halves (th d i) hM) $$ HT
  icases HT with ⟨HT, HT'⟩
  ihave HT := (own_take (th d i) hM (Finset.subset_univ (Rect.unit (s := S1000000x32) os S1x32.size hs).set)).1 $$ HT
  icases HT with ⟨HT, -⟩
  have hsplit : rowsFrom (h + j) (h + 128) = rowsFrom (h + j) (h + j + 1) ∪ rowsFrom (h + (j + 1)) (h + 128) := (rowsFrom_split (by omega) (by omega)).symm
  rw [hsplit]
  ihave HR := (own_union (th d i) hR (rowsFrom_disjoint (by omega))).1 $$ HR
  icases HR with ⟨HR, HR'⟩
  iapply ((Tri.issue (EC := EC) (defs := defs) (𝒱 := 𝒱) (bd := bd) (c := th d i) hM hR (hsrc := hsrc) (hdst := hdst) (hsem := hsem) (D := dlv d i hR G h) (X := X) (G := G) (T := T)
    (q := q.left) (ι := none) (N := NR R) rfl hj (Nat.zero_le _) key (Entails.of_eq (by rw [hset]; rfl))).run Q)
  isplitl [HT HR HB]
  · isplitl [HT]; · iexact HT
    isplitl [HR]; · rw [hset]; iexact HR
    iexact HB
  iintro HB
  iapply HQ
  isplitl [HT']; · iexists _; iexact HT'
  isplitl [HR']; · iexists _; iexact HR'
  iexact HB

/-! ## The three gathers together -/

section Fire

variable {arg5 : Memref sig .scVector .hbm S1000000x32 .f32} (harg5 : arg5.IsWhole) {arg6 : Memref sig .scVector .hbm S1000000x32 .f32} (harg6 : arg6.IsWhole)
  {arg9 : Memref sig .scVector .vmem S512 .i32} (harg9 : arg9.IsWhole) {arg10 : Memref sig .scVector .vmem S512 .i32} (harg10 : arg10.IsWhole) {arg11 : Memref sig .scVector .vmem S512 .i32} (harg11 : arg11.IsWhole)
  {arg12 : Memref sig .scVector .vmem S256x32 .f32} (harg12 : arg12.IsWhole) {arg13 : Memref sig .scVector .vmem S256x32 .f32} (harg13 : arg13.IsWhole) {arg14 : Memref sig .scVector .vmem S256x32 .f32} (harg14 : arg14.IsWhole)
  (arg17 arg18 arg19 : DmaSems sig S_)
  (T5 T6 : S1000000x32.Idx → Elt F .f32) (W9 W10 W11 : ℕ → BitVec 32) (G12 G13 G14 : S256x32.Idx → Elt F .f32) (h b : ℕ)

/-- An index buffer holding the words `W`. -/
def idxs {R : Memref sig .scVector .vmem S512 .i32} (hR : R.IsWhole) (W : ℕ → BitVec 32) : sProp 𝕄 :=
  own (Val := Elt F) (th d i) hR fullShare Finset.univ (fun x : S512.Idx => (W (x 0).val : Elt F .i32))

/-- The three gathers of a chunk with `nc`, `ni` and `nj` transfers issued, and the index buffers. -/
def FS (nc ni nj : ℕ) : sProp 𝕄 :=
  iprop(Gat d i EC harg5 harg12 (.dma arg17.sem) T5 G12 h nc ∗ Gat d i EC harg6 harg13 (.dma arg18.sem) T6 G13 h ni
    ∗ Gat d i EC harg6 harg14 (.dma arg19.sem) T6 G14 h nj ∗ idxs d i harg9 W9 ∗ idxs d i harg10 W10 ∗ idxs d i harg11 W11)

local notation "FSs" => FS d i EC harg5 harg6 harg9 harg10 harg11 harg12 harg13 harg14 arg17 arg18 arg19 T5 T6 W9 W10 W11 G12 G13 G14 h

/-- What the gathers of a chunk ask: the half buffers are to hold the rows named, and every word names a row. -/
structure FSok : Prop where
  g12 : IsGather W9 T5 G12 h b
  g13 : IsGather W10 T6 G13 h b
  g14 : IsGather W11 T6 G14 h b
  w9 : Words W9
  w10 : Words W10
  w11 : Words W11

variable {harg5 harg6 harg9 harg10 harg11 harg12 harg13 harg14 arg17 arg18 arg19 T5 T6 W9 W10 W11 G12 G13 G14 h b}

section Steps

variable {os od : Fin 2 → ℕ} {hs : ∀ a, os a + S1x32.size a ≤ S1000000x32.size a} {hd : ∀ a, od a + S1x32.size a ≤ S256x32.size a}
    {h₁ : ∀ a, (Rect.unit (s := S1000000x32) os S1x32.size hs).stride a = 1} {h₂ : ∀ a, (Rect.unit (s := S256x32) od S1x32.size hd).stride a = 1}
    {nc ni nj : ℕ} {v : BitVec 32}

theorem FS.issueC [EC.LandsIn (upEmb : UEmb _ 𝕄)] (ok : FSok T5 T6 W9 W10 W11 G12 G13 G14 h b)
    {hsrc : (arg5.slice (Rect.unit (s := S1000000x32) os S1x32.size hs) h₁).view.WordExact} {hdst : (arg12.slice (Rect.unit (s := S256x32) od S1x32.size hd) h₂).view.WordExact}
    {hsem : DmaTarget.Typed (nD := nD) .hbm (.dma arg17.sem) (.here (p := (th d i).2) (arg12.slice (Rect.unit (s := S256x32) od S1x32.size hd) h₂))}
    (hj : nc < 128) (hv : v = W9 (b + nc)) (hos : os = ![v.toNat, 0]) (hod : od 0 = h + nc) (hod' : od 1 = 0) :
    Tri defs 𝒱 (th d i) bd (FSs nc ni nj)
      (Prog.lift (.enqueueDma (arg5.slice (Rect.unit (s := S1000000x32) os S1x32.size hs) h₁) (.here (arg12.slice (Rect.unit (s := S256x32) od S1x32.size hd) h₂)) (.dma arg17.sem) hsrc hdst hsem)) ⟨⟩
      (FSs (nc + 1) ni nj) :=
  (Gat.issue d i EC harg5 harg12 ok.g12 hj hv hos hod hod').framed

theorem FS.issueI [EC.LandsIn (upEmb : UEmb _ 𝕄)] (ok : FSok T5 T6 W9 W10 W11 G12 G13 G14 h b)
    {hsrc : (arg6.slice (Rect.unit (s := S1000000x32) os S1x32.size hs) h₁).view.WordExact} {hdst : (arg13.slice (Rect.unit (s := S256x32) od S1x32.size hd) h₂).view.WordExact}
    {hsem : DmaTarget.Typed (nD := nD) .hbm (.dma arg18.sem) (.here (p := (th d i).2) (arg13.slice (Rect.unit (s := S256x32) od S1x32.size hd) h₂))}
    (hj : ni < 128) (hv : v = W10 (b + ni)) (hos : os = ![v.toNat, 0]) (hod : od 0 = h + ni) (hod' : od 1 = 0) :
    Tri defs 𝒱 (th d i) bd (FSs nc ni nj)
      (Prog.lift (.enqueueDma (arg6.slice (Rect.unit (s := S1000000x32) os S1x32.size hs) h₁) (.here (arg13.slice (Rect.unit (s := S256x32) od S1x32.size hd) h₂)) (.dma arg18.sem) hsrc hdst hsem)) ⟨⟩
      (FSs nc (ni + 1) nj) :=
  ((Gat.issue d i EC harg6 harg13 ok.g13 hj hv hos hod hod').framed
    (R := iprop(Gat d i EC harg5 harg12 (.dma arg17.sem) T5 G12 h nc ∗ Gat d i EC harg6 harg14 (.dma arg19.sem) T6 G14 h nj
      ∗ idxs d i harg9 W9 ∗ idxs d i harg10 W10 ∗ idxs d i harg11 W11))).conv
    (by unfold FS; iintro ⟨H1, H2, H3⟩; isplitl [H2]; · iexact H2
        isplitl [H1]; · iexact H1
        iexact H3)
    (by unfold FS; iintro ⟨H2, H1, H3⟩; isplitl [H1]; · iexact H1
        isplitl [H2]; · iexact H2
        iexact H3)

theorem FS.issueJ [EC.LandsIn (upEmb : UEmb _ 𝕄)] (ok : FSok T5 T6 W9 W10 W11 G12 G13 G14 h b)
    {hsrc : (arg6.slice (Rect.unit (s := S1000000x32) os S1x32.size hs) h₁).view.WordExact} {hdst : (arg14.slice (Rect.unit (s := S256x32) od S1x32.size hd) h₂).view.WordExact}
    {hsem : DmaTarget.Typed (nD := nD) .hbm (.dma arg19.sem) (.here (p := (th d i).2) (arg14.slice (Rect.unit (s := S256x32) od S1x32.size hd) h₂))}
    (hj : nj < 128) (hv : v = W11 (b + nj)) (hos : os = ![v.toNat, 0]) (hod : od 0 = h + nj) (hod' : od 1 = 0) :
    Tri defs 𝒱 (th d i) bd (FSs nc ni nj)
      (Prog.lift (.enqueueDma (arg6.slice (Rect.unit (s := S1000000x32) os S1x32.size hs) h₁) (.here (arg14.slice (Rect.unit (s := S256x32) od S1x32.size hd) h₂)) (.dma arg19.sem) hsrc hdst hsem)) ⟨⟩
      (FSs nc ni (nj + 1)) :=
  ((Gat.issue d i EC harg6 harg14 ok.g14 hj hv hos hod hod').framed
    (R := iprop(Gat d i EC harg5 harg12 (.dma arg17.sem) T5 G12 h nc ∗ Gat d i EC harg6 harg13 (.dma arg18.sem) T6 G13 h ni
      ∗ idxs d i harg9 W9 ∗ idxs d i harg10 W10 ∗ idxs d i harg11 W11))).conv
    (by unfold FS; iintro ⟨H1, H2, H3, H4⟩; isplitl [H3]; · iexact H3
        isplitl [H1]; · iexact H1
        isplitl [H2]; · iexact H2
        iexact H4)
    (by unfold FS; iintro ⟨H3, H1, H2, H4⟩; isplitl [H1]; · iexact H1
        isplitl [H2]; · iexact H2
        isplitl [H3]; · iexact H3
        iexact H4)

/-- Sixteen words of an index buffer. -/
theorem idxs.load {R : Memref sig .scVector .vmem S512 .i32} (hR : R.IsWhole) {W : ℕ → BitVec 32} {off : Fin 1 → ℕ}
    {hin : ∀ a, off a + S16.size a ≤ S512.size a} {hl : R.view.LoadsAt (Rect.unit (s := S512) off S16.size hin).toLoadRect} {n : ℕ} (ho : off 0 = n) :
    Tri defs 𝒱 (th d i) bd (idxs d i hR W : sProp 𝕄) (Prog.lift (.load R (Rect.unit (s := S512) off S16.size hin).toLoadRect hl))
      (fun x : S16.Idx => (W (n + (x 0).val) : Elt F .i32)) (idxs d i hR W) :=
  (Tri.load (c := th d i) hR (Finset.subset_univ _)).of_eq (funext fun x => by
    show W (off 0 + 1 * (x 0).val) = W (n + (x 0).val)
    rw [ho, Nat.one_mul])

end Steps

theorem FS.load9 {off : Fin 1 → ℕ}
    {hin : ∀ a, off a + S16.size a ≤ S512.size a} {hl : arg9.view.LoadsAt (Rect.unit (s := S512) off S16.size hin).toLoadRect} {n nc ni nj : ℕ} (ho : off 0 = n) :
    Tri defs 𝒱 (th d i) bd (FSs nc ni nj) (Prog.lift (.load arg9 (Rect.unit (s := S512) off S16.size hin).toLoadRect hl))
      (fun x : S16.Idx => (W9 (n + (x 0).val) : Elt F .i32)) (FSs nc ni nj) :=
  ((idxs.load d i harg9 ho).framed (R := iprop(Gat d i EC harg5 harg12 (.dma arg17.sem) T5 G12 h nc ∗ Gat d i EC harg6 harg13 (.dma arg18.sem) T6 G13 h ni
      ∗ Gat d i EC harg6 harg14 (.dma arg19.sem) T6 G14 h nj ∗ idxs d i harg10 W10 ∗ idxs d i harg11 W11))).conv
    (by unfold FS; iintro ⟨H1, H2, H3, H4, H5⟩; isplitl [H4]; · iexact H4
        isplitl [H1]; · iexact H1
        isplitl [H2]; · iexact H2
        isplitl [H3]; · iexact H3
        iexact H5)
    (by unfold FS; iintro ⟨H4, H1, H2, H3, H5⟩; isplitl [H1]; · iexact H1
        isplitl [H2]; · iexact H2
        isplitl [H3]; · iexact H3
        isplitl [H4]; · iexact H4
        iexact H5)

theorem FS.load10 {off : Fin 1 → ℕ}
    {hin : ∀ a, off a + S16.size a ≤ S512.size a} {hl : arg10.view.LoadsAt (Rect.unit (s := S512) off S16.size hin).toLoadRect} {n nc ni nj : ℕ} (ho : off 0 = n) :
    Tri defs 𝒱 (th d i) bd (FSs nc ni nj) (Prog.lift (.load arg10 (Rect.unit (s := S512) off S16.size hin).toLoadRect hl))
      (fun x : S16.Idx => (W10 (n + (x 0).val) : Elt F .i32)) (FSs nc ni nj) :=
  ((idxs.load d i harg10 ho).framed (R := iprop(Gat d i EC harg5 harg12 (.dma arg17.sem) T5 G12 h nc ∗ Gat d i EC harg6 harg13 (.dma arg18.sem) T6 G13 h ni
      ∗ Gat d i EC harg6 harg14 (.dma arg19.sem) T6 G14 h nj ∗ idxs d i harg9 W9 ∗ idxs d i harg11 W11))).conv
    (by unfold FS; iintro ⟨H1, H2, H3, H4, H5, H6⟩; isplitl [H5]; · iexact H5
        isplitl [H1]; · iexact H1
        isplitl [H2]; · iexact H2
        isplitl [H3]; · iexact H3
        isplitl [H4]; · iexact H4
        iexact H6)
    (by unfold FS; iintro ⟨H5, H1, H2, H3, H4, H6⟩; isplitl [H1]; · iexact H1
        isplitl [H2]; · iexact H2
        isplitl [H3]; · iexact H3
        isplitl [H4]; · iexact H4
        isplitl [H5]; · iexact H5
        iexact H6)

theorem FS.load11 {off : Fin 1 → ℕ}
    {hin : ∀ a, off a + S16.size a ≤ S512.size a} {hl : arg11.view.LoadsAt (Rect.unit (s := S512) off S16.size hin).toLoadRect} {n nc ni nj : ℕ} (ho : off 0 = n) :
    Tri defs 𝒱 (th d i) bd (FSs nc ni nj) (Prog.lift (.load arg11 (Rect.unit (s := S512) off S16.size hin).toLoadRect hl))
      (fun x : S16.Idx => (W11 (n + (x 0).val) : Elt F .i32)) (FSs nc ni nj) :=
  ((idxs.load d i harg11 ho).framed (R := iprop(Gat d i EC harg5 harg12 (.dma arg17.sem) T5 G12 h nc ∗ Gat d i EC harg6 harg13 (.dma arg18.sem) T6 G13 h ni
      ∗ Gat d i EC harg6 harg14 (.dma arg19.sem) T6 G14 h nj ∗ idxs d i harg9 W9 ∗ idxs d i harg10 W10))).conv
    (by unfold FS; iintro ⟨H1, H2, H3, H4, H5, H6⟩; isplitl [H6]; · iexact H6
        isplitl [H1]; · iexact H1
        isplitl [H2]; · iexact H2
        isplitl [H3]; · iexact H3
        isplitl [H4]; · iexact H4
        iexact H5)
    (by unfold FS; iintro ⟨H6, H1, H2, H3, H4, H5⟩; isplitl [H1]; · iexact H1
        isplitl [H2]; · iexact H2
        isplitl [H3]; · iexact H3
        isplitl [H4]; · iexact H4
        isplitl [H5]; · iexact H5
        iexact H6)

end Fire

end Cert.Proof.KerI

end
-- ==== Proof.GroupsI.lean ====
/-
  The transfers of one group of sixteen lanes, part by part as the program is written, and the two loops over the groups.
-/
module

public import proofs.«01_k».proof.Proof.FireI

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

variable (d : Dev nD) (i : grid0.Coords) (EC : UEmb Counters (MT nD τ sig (HIx 1) (Elt F) ℕ U ℕ))
variable {defs : Defs nD τ sig (Elt F) Λ₀} {𝒱 : Variants} {bd : Option 𝒱.V}
variable (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S1000000x32 .f32) (harg5 : arg5.IsWhole) (arg6 : Memref sig .scVector .hbm S1000000x32 .f32) (harg6 : arg6.IsWhole) (arg7 : Memref sig .scVector .hbm S16384 .f32) (harg7 : arg7.IsWhole) (arg8 : Memref sig .scVector .hbm S16384 .f32) (harg8 : arg8.IsWhole) (arg9 : Memref sig .scVector .vmem S512 .i32) (harg9 : arg9.IsWhole) (arg10 : Memref sig .scVector .vmem S512 .i32) (harg10 : arg10.IsWhole) (arg11 : Memref sig .scVector .vmem S512 .i32) (harg11 : arg11.IsWhole) (arg12 : Memref sig .scVector .vmem S256x32 .f32) (harg12 : arg12.IsWhole) (arg13 : Memref sig .scVector .vmem S256x32 .f32) (harg13 : arg13.IsWhole) (arg14 : Memref sig .scVector .vmem S256x32 .f32) (harg14 : arg14.IsWhole) (arg15 : Memref sig .scVector .vmem S512 .f32) (harg15 : arg15.IsWhole) (arg16 : Memref sig .scVector .vmem S512 .f32) (harg16 : arg16.IsWhole) (arg17 : DmaSems sig S_) (arg18 : DmaSems sig S_) (arg19 : DmaSems sig S_) (v8_r0 : DmaSems sig S_) (v8_r1 : DmaSems sig S_) (v8_r2 : DmaSems sig S_) (v8_r3 : DmaSems sig S_) (v8_r4 : DmaSems sig S_)
variable (T5 T6 : S1000000x32.Idx → Elt F .f32) (W9 W10 W11 : ℕ → BitVec 32) (G12 G13 G14 : S256x32.Idx → Elt F .f32)

local notation "FSs" => FS d i EC harg5 harg6 harg9 harg10 harg11 harg12 harg13 harg14 arg17 arg18 arg19 T5 T6 W9 W10 W11 G12 G13 G14
local notation "Okay" => FSok T5 T6 W9 W10 W11 G12 G13 G14

set_option maxHeartbeats 1000000 in
/-- Part 1: from 0, 0, 0 to 1, 1, 1 transfers of the three gathers, within the group. -/
theorem part1 [EC.LandsIn (upEmb : UEmb _ 𝕄)] (t : Fin k0_t1_loop.trips) (ok : Okay 0 (0)) (v5 : BitVec 32) (c0_i32_2 : BitVec 32) (c0_i32_3 : BitVec 32) (c1_i32 : BitVec 32) :
    Tri defs 𝒱 (th d i) bd (FSs 0 (16 * t.val) (16 * t.val) (16 * t.val))
      (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 c0_i32_2 c0_i32_3 c1_i32 t)
      ⟨(Scf.iv c0_i32_3 c1_i32 t), (fun x : S16.Idx => (W9 (0 + 16 * t.val + (x 0).val) : Elt F .i32)), (fun x : S16.Idx => (W10 (0 + 16 * t.val + (x 0).val) : Elt F .i32)), (fun x : S16.Idx => (W11 (0 + 16 * t.val + (x 0).val) : Elt F .i32)), (W9 (0 + 16 * t.val + 1))⟩
      (FSs 0 (16 * t.val + 1) (16 * t.val + 1) (16 * t.val + 1)) := by
  have ht : t.val < 8 := t.isLt
  rw [k0_part1_eq_skeleton]; unfold k0_part1_skel
  refine Tri.bind (FS.load9 d i EC (n := 0 + 16 * t.val) ((congrFun (k0_off2_eq t) 0).trans (Nat.zero_add (16 * t.val)).symm)) ?_
  refine Tri.bind (FS.load10 d i EC (n := 0 + 16 * t.val) ((congrFun (k0_off2_eq t) 0).trans (Nat.zero_add (16 * t.val)).symm)) ?_
  refine Tri.bind (FS.load11 d i EC (n := 0 + 16 * t.val) ((congrFun (k0_off2_eq t) 0).trans (Nat.zero_add (16 * t.val)).symm)) ?_
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 2: from 1, 1, 1 to 3, 2, 2 transfers of the three gathers, within the group. -/
theorem part2 [EC.LandsIn (upEmb : UEmb _ 𝕄)] (t : Fin k0_t1_loop.trips) (ok : Okay 0 (0)) (v5 : BitVec 32) (arg20 : BitVec 32) :
    Tri defs 𝒱 (th d i) bd (FSs 0 (16 * t.val + 1) (16 * t.val + 1) (16 * t.val + 1))
      (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W9 (0 + 16 * t.val + 1)))
      ⟨(W10 (0 + 16 * t.val + 2)), ((ok.w10.fits rfl rfl))⟩
      (FSs 0 (16 * t.val + 3) (16 * t.val + 2) (16 * t.val + 2)) := by
  have ht : t.val < 8 := t.isLt
  rw [k0_part2_eq_skeleton]; unfold k0_part2_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 3: from 3, 2, 2 to 4, 4, 4 transfers of the three gathers, within the group. -/
theorem part3 [EC.LandsIn (upEmb : UEmb _ 𝕄)] (t : Fin k0_t1_loop.trips) (ok : Okay 0 (0)) (v5 : BitVec 32) (arg20 : BitVec 32) :
    Tri defs 𝒱 (th d i) bd (FSs 0 (16 * t.val + 3) (16 * t.val + 2) (16 * t.val + 2))
      (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W10 (0 + 16 * t.val + 2)) ((ok.w10.fits rfl rfl)))
      ⟨(Scalar.addi v5 (Scalar.muli arg20 16#32)), 4#32⟩
      (FSs 0 (16 * t.val + 4) (16 * t.val + 4) (16 * t.val + 4)) := by
  have ht : t.val < 8 := t.isLt
  rw [k0_part3_eq_skeleton]; unfold k0_part3_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 4: from 4, 4, 4 to 6, 5, 5 transfers of the three gathers, within the group. -/
theorem part4 [EC.LandsIn (upEmb : UEmb _ 𝕄)] (t : Fin k0_t1_loop.trips) (ok : Okay 0 (0)) (v5 : BitVec 32) (arg20 : BitVec 32) (v102 : BitVec 32) (c4_i32_66 : BitVec 32) :
    Tri defs 𝒱 (th d i) bd (FSs 0 (16 * t.val + 4) (16 * t.val + 4) (16 * t.val + 4))
      (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) v102 c4_i32_66)
      ⟨(W10 (0 + 16 * t.val + 5)), ((ok.w10.fits rfl rfl))⟩
      (FSs 0 (16 * t.val + 6) (16 * t.val + 5) (16 * t.val + 5)) := by
  have ht : t.val < 8 := t.isLt
  rw [k0_part4_eq_skeleton]; unfold k0_part4_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 5: from 6, 5, 5 to 7, 7, 7 transfers of the three gathers, within the group. -/
theorem part5 [EC.LandsIn (upEmb : UEmb _ 𝕄)] (t : Fin k0_t1_loop.trips) (ok : Okay 0 (0)) (v5 : BitVec 32) (arg20 : BitVec 32) :
    Tri defs 𝒱 (th d i) bd (FSs 0 (16 * t.val + 6) (16 * t.val + 5) (16 * t.val + 5))
      (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W10 (0 + 16 * t.val + 5)) ((ok.w10.fits rfl rfl)))
      16#32
      (FSs 0 (16 * t.val + 7) (16 * t.val + 7) (16 * t.val + 7)) := by
  have ht : t.val < 8 := t.isLt
  rw [k0_part5_eq_skeleton]; unfold k0_part5_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 6: from 7, 7, 7 to 9, 8, 8 transfers of the three gathers, within the group. -/
theorem part6 [EC.LandsIn (upEmb : UEmb _ 𝕄)] (t : Fin k0_t1_loop.trips) (ok : Okay 0 (0)) (v5 : BitVec 32) (arg20 : BitVec 32) (c16_i32_105 : BitVec 32) :
    Tri defs 𝒱 (th d i) bd (FSs 0 (16 * t.val + 7) (16 * t.val + 7) (16 * t.val + 7))
      (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) c16_i32_105)
      ⟨(W10 (0 + 16 * t.val + 8)), ((ok.w10.fits rfl rfl))⟩
      (FSs 0 (16 * t.val + 9) (16 * t.val + 8) (16 * t.val + 8)) := by
  have ht : t.val < 8 := t.isLt
  rw [k0_part6_eq_skeleton]; unfold k0_part6_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 7: from 9, 8, 8 to 10, 10, 9 transfers of the three gathers, within the group. -/
theorem part7 [EC.LandsIn (upEmb : UEmb _ 𝕄)] (t : Fin k0_t1_loop.trips) (ok : Okay 0 (0)) (v5 : BitVec 32) (arg20 : BitVec 32) :
    Tri defs 𝒱 (th d i) bd (FSs 0 (16 * t.val + 9) (16 * t.val + 8) (16 * t.val + 8))
      (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W10 (0 + 16 * t.val + 8)) ((ok.w10.fits rfl rfl)))
      ⟨(W11 (0 + 16 * t.val + 9)), ((ok.w11.fits rfl rfl))⟩
      (FSs 0 (16 * t.val + 10) (16 * t.val + 10) (16 * t.val + 9)) := by
  have ht : t.val < 8 := t.isLt
  rw [k0_part7_eq_skeleton]; unfold k0_part7_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 8: from 10, 10, 9 to 12, 11, 11 transfers of the three gathers, within the group. -/
theorem part8 [EC.LandsIn (upEmb : UEmb _ 𝕄)] (t : Fin k0_t1_loop.trips) (ok : Okay 0 (0)) (v5 : BitVec 32) (arg20 : BitVec 32) :
    Tri defs 𝒱 (th d i) bd (FSs 0 (16 * t.val + 10) (16 * t.val + 10) (16 * t.val + 9))
      (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W11 (0 + 16 * t.val + 9)) ((ok.w11.fits rfl rfl)))
      ⟨⟩
      (FSs 0 (16 * t.val + 12) (16 * t.val + 11) (16 * t.val + 11)) := by
  have ht : t.val < 8 := t.isLt
  rw [k0_part8_eq_skeleton]; unfold k0_part8_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 9: from 12, 11, 11 to 13, 13, 12 transfers of the three gathers, within the group. -/
theorem part9 [EC.LandsIn (upEmb : UEmb _ 𝕄)] (t : Fin k0_t1_loop.trips) (ok : Okay 0 (0)) (v5 : BitVec 32) (arg20 : BitVec 32) :
    Tri defs 𝒱 (th d i) bd (FSs 0 (16 * t.val + 12) (16 * t.val + 11) (16 * t.val + 11))
      (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)))
      ⟨(W11 (0 + 16 * t.val + 12)), ((ok.w11.fits rfl rfl))⟩
      (FSs 0 (16 * t.val + 13) (16 * t.val + 13) (16 * t.val + 12)) := by
  have ht : t.val < 8 := t.isLt
  rw [k0_part9_eq_skeleton]; unfold k0_part9_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 10: from 13, 13, 12 to 14, 14, 14 transfers of the three gathers, within the group. -/
theorem part10 [EC.LandsIn (upEmb : UEmb _ 𝕄)] (t : Fin k0_t1_loop.trips) (ok : Okay 0 (0)) (v5 : BitVec 32) (arg20 : BitVec 32) :
    Tri defs 𝒱 (th d i) bd (FSs 0 (16 * t.val + 13) (16 * t.val + 13) (16 * t.val + 12))
      (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W11 (0 + 16 * t.val + 12)) ((ok.w11.fits rfl rfl)))
      ⟨(W9 (0 + 16 * t.val + 14)), ((ok.w9.fits rfl rfl))⟩
      (FSs 0 (16 * t.val + 14) (16 * t.val + 14) (16 * t.val + 14)) := by
  have ht : t.val < 8 := t.isLt
  rw [k0_part10_eq_skeleton]; unfold k0_part10_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 11: from 14, 14, 14 to 16, 16, 15 transfers of the three gathers, within the group. -/
theorem part11 [EC.LandsIn (upEmb : UEmb _ 𝕄)] (t : Fin k0_t1_loop.trips) (ok : Okay 0 (0)) (v5 : BitVec 32) (arg20 : BitVec 32) :
    Tri defs 𝒱 (th d i) bd (FSs 0 (16 * t.val + 14) (16 * t.val + 14) (16 * t.val + 14))
      (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t arg20 (fun x : S16.Idx => (W9 (0 + 16 * t.val + (x 0).val) : Elt F .i32)) (fun x : S16.Idx => (W10 (0 + 16 * t.val + (x 0).val) : Elt F .i32)) (fun x : S16.Idx => (W11 (0 + 16 * t.val + (x 0).val) : Elt F .i32)) (W9 (0 + 16 * t.val + 14)) ((ok.w9.fits rfl rfl)))
      ⟨(W11 (0 + 16 * t.val + 15)), ((ok.w11.fits rfl rfl))⟩
      (FSs 0 (16 * t.val + 16) (16 * t.val + 16) (16 * t.val + 15)) := by
  have ht : t.val < 8 := t.isLt
  rw [k0_part11_eq_skeleton]; unfold k0_part11_skel
  repeat
    first
      | refine Tri.bind (Tri.assume (ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 2000000 in
/-- One group of sixteen lanes. -/
theorem group1 [EC.LandsIn (upEmb : UEmb _ 𝕄)] (t : Fin k0_t1_loop.trips) (ok : Okay 0 (0)) (v5 : BitVec 32) :
    Tri defs 𝒱 (th d i) bd (FSs 0 (16 * t.val) (16 * t.val) (16 * t.val)) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5 t ()) () (FSs 0 (16 * t.val + 16) (16 * t.val + 16) (16 * t.val + 16)) := by
  have ht : t.val < 8 := t.isLt
  unfold k0_t1_body
  refine Tri.bind (part1 (ok := ok) ..) ?_
  refine Tri.bind (part2 (ok := ok) ..) ?_
  refine Tri.bind (part3 (ok := ok) ..) ?_
  refine Tri.bind (part4 (ok := ok) ..) ?_
  refine Tri.bind (part5 (ok := ok) ..) ?_
  refine Tri.bind (part6 (ok := ok) ..) ?_
  refine Tri.bind (part7 (ok := ok) ..) ?_
  refine Tri.bind (part8 (ok := ok) ..) ?_
  refine Tri.bind (part9 (ok := ok) ..) ?_
  refine Tri.bind (part10 (ok := ok) ..) ?_
  refine Tri.bind (part11 (ok := ok) ..) ?_
  refine Tri.bind (FS.issueJ d i EC ok (by omega) rfl rfl (closed0 (by first | rfl | (simp only [ClosedOff.form, Matrix.cons_val_zero]; omega))) (closed1 rfl)) ?_
  exact Tri.ret _

set_option maxHeartbeats 1000000 in
/-- Part 12: from 0, 0, 0 to 1, 1, 1 transfers of the three gathers, within the group. -/
theorem part12 [EC.LandsIn (upEmb : UEmb _ 𝕄)] (u : Fin k0_t2_loop.trips) (hu : k0_cond1 u = 1#1) (t : Fin k0_t4_loop.trips) (ok : Okay (128 * ((u.val + 1) % 2)) (128 * (u.val + 1))) (v17 : BitVec 32) (v19 : BitVec 32) (c0_i32_28 : BitVec 32) (c1_i32_30 : BitVec 32) :
    Tri defs 𝒱 (th d i) bd (FSs (128 * ((u.val + 1) % 2)) (16 * t.val) (16 * t.val) (16 * t.val))
      (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v17 v19 c0_i32_28 c1_i32_30 t)
      ⟨(Scf.iv c0_i32_28 c1_i32_30 t), (fun x : S16.Idx => (W9 (128 * (u.val + 1) + 16 * t.val + (x 0).val) : Elt F .i32)), (fun x : S16.Idx => (W10 (128 * (u.val + 1) + 16 * t.val + (x 0).val) : Elt F .i32)), (fun x : S16.Idx => (W11 (128 * (u.val + 1) + 16 * t.val + (x 0).val) : Elt F .i32)), (W9 (128 * (u.val + 1) + 16 * t.val + 1))⟩
      (FSs (128 * ((u.val + 1) % 2)) (16 * t.val + 1) (16 * t.val + 1) (16 * t.val + 1)) := by
  have ht : t.val < 8 := t.isLt
  rw [k0_part12_eq_skeleton]; unfold k0_part12_skel
  refine Tri.bind (FS.load9 d i EC (n := 128 * (u.val + 1) + 16 * t.val) (by rw [congrFun (k0_off101_eq u t) 0]; show 128 * u.val + 16 * t.val + 128 = 128 * (u.val + 1) + 16 * t.val; omega)) ?_
  refine Tri.bind (FS.load10 d i EC (n := 128 * (u.val + 1) + 16 * t.val) (by rw [congrFun (k0_off101_eq u t) 0]; show 128 * u.val + 16 * t.val + 128 = 128 * (u.val + 1) + 16 * t.val; omega)) ?_
  refine Tri.bind (FS.load11 d i EC (n := 128 * (u.val + 1) + 16 * t.val) (by rw [congrFun (k0_off101_eq u t) 0]; show 128 * u.val + 16 * t.val + 128 = 128 * (u.val + 1) + 16 * t.val; omega)) ?_
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 13: from 1, 1, 1 to 3, 2, 2 transfers of the three gathers, within the group. -/
theorem part13 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 1) (16 * t.val + 1) (16 * t.val + 1))
      (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W9 (128 * (u.val + 1) + 16 * t.val + 1)))
      ⟨(W10 (128 * (u.val + 1) + 16 * t.val + 2)), (fun _ => (ok.w10.fits rfl rfl))⟩
      (FSs (128 * ((u.val + 1) % 2)) (16 * t.val + 3) (16 * t.val + 2) (16 * t.val + 2)) := by
  have ht : t.val < 8 := t.isLt
  rw [k0_part13_eq_skeleton]; unfold k0_part13_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 14: from 3, 2, 2 to 4, 4, 4 transfers of the three gathers, within the group. -/
theorem part14 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 3) (16 * t.val + 2) (16 * t.val + 2))
      (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W10 (128 * (u.val + 1) + 16 * t.val + 2)) (fun _ => (ok.w10.fits rfl rfl)))
      ⟨(Scalar.addi v19 (Scalar.muli arg21 16#32)), 4#32⟩
      (FSs (128 * ((u.val + 1) % 2)) (16 * t.val + 4) (16 * t.val + 4) (16 * t.val + 4)) := by
  have ht : t.val < 8 := t.isLt
  rw [k0_part14_eq_skeleton]; unfold k0_part14_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 15: from 4, 4, 4 to 6, 5, 5 transfers of the three gathers, within the group. -/
theorem part15 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) (v115 : BitVec 32) (c4_i32_90 : BitVec 32) :
    Tri defs 𝒱 (th d i) bd (FSs (128 * ((u.val + 1) % 2)) (16 * t.val + 4) (16 * t.val + 4) (16 * t.val + 4))
      (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) v115 c4_i32_90)
      ⟨(W10 (128 * (u.val + 1) + 16 * t.val + 5)), (fun _ => (ok.w10.fits rfl rfl))⟩
      (FSs (128 * ((u.val + 1) % 2)) (16 * t.val + 6) (16 * t.val + 5) (16 * t.val + 5)) := by
  have ht : t.val < 8 := t.isLt
  rw [k0_part15_eq_skeleton]; unfold k0_part15_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 16: from 6, 5, 5 to 7, 7, 7 transfers of the three gathers, within the group. -/
theorem part16 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 6) (16 * t.val + 5) (16 * t.val + 5))
      (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W10 (128 * (u.val + 1) + 16 * t.val + 5)) (fun _ => (ok.w10.fits rfl rfl)))
      16#32
      (FSs (128 * ((u.val + 1) % 2)) (16 * t.val + 7) (16 * t.val + 7) (16 * t.val + 7)) := by
  have ht : t.val < 8 := t.isLt
  rw [k0_part16_eq_skeleton]; unfold k0_part16_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 17: from 7, 7, 7 to 9, 8, 8 transfers of the three gathers, within the group. -/
theorem part17 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) (c16_i32_129 : BitVec 32) :
    Tri defs 𝒱 (th d i) bd (FSs (128 * ((u.val + 1) % 2)) (16 * t.val + 7) (16 * t.val + 7) (16 * t.val + 7))
      (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) c16_i32_129)
      ⟨(W10 (128 * (u.val + 1) + 16 * t.val + 8)), (fun _ => (ok.w10.fits rfl rfl))⟩
      (FSs (128 * ((u.val + 1) % 2)) (16 * t.val + 9) (16 * t.val + 8) (16 * t.val + 8)) := by
  have ht : t.val < 8 := t.isLt
  rw [k0_part17_eq_skeleton]; unfold k0_part17_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 18: from 9, 8, 8 to 10, 10, 9 transfers of the three gathers, within the group. -/
theorem part18 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 9) (16 * t.val + 8) (16 * t.val + 8))
      (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W10 (128 * (u.val + 1) + 16 * t.val + 8)) (fun _ => (ok.w10.fits rfl rfl)))
      ⟨(W11 (128 * (u.val + 1) + 16 * t.val + 9)), (fun _ => (ok.w11.fits rfl rfl))⟩
      (FSs (128 * ((u.val + 1) % 2)) (16 * t.val + 10) (16 * t.val + 10) (16 * t.val + 9)) := by
  have ht : t.val < 8 := t.isLt
  rw [k0_part18_eq_skeleton]; unfold k0_part18_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 19: from 10, 10, 9 to 12, 11, 11 transfers of the three gathers, within the group. -/
theorem part19 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 10) (16 * t.val + 10) (16 * t.val + 9))
      (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W11 (128 * (u.val + 1) + 16 * t.val + 9)) (fun _ => (ok.w11.fits rfl rfl)))
      ⟨⟩
      (FSs (128 * ((u.val + 1) % 2)) (16 * t.val + 12) (16 * t.val + 11) (16 * t.val + 11)) := by
  have ht : t.val < 8 := t.isLt
  rw [k0_part19_eq_skeleton]; unfold k0_part19_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 20: from 12, 11, 11 to 13, 13, 12 transfers of the three gathers, within the group. -/
theorem part20 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 12) (16 * t.val + 11) (16 * t.val + 11))
      (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)))
      ⟨(W11 (128 * (u.val + 1) + 16 * t.val + 12)), (fun _ => (ok.w11.fits rfl rfl))⟩
      (FSs (128 * ((u.val + 1) % 2)) (16 * t.val + 13) (16 * t.val + 13) (16 * t.val + 12)) := by
  have ht : t.val < 8 := t.isLt
  rw [k0_part20_eq_skeleton]; unfold k0_part20_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 21: from 13, 13, 12 to 14, 14, 14 transfers of the three gathers, within the group. -/
theorem part21 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 13) (16 * t.val + 13) (16 * t.val + 12))
      (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W11 (128 * (u.val + 1) + 16 * t.val + 12)) (fun _ => (ok.w11.fits rfl rfl)))
      ⟨(W9 (128 * (u.val + 1) + 16 * t.val + 14)), (fun _ => (ok.w9.fits rfl rfl))⟩
      (FSs (128 * ((u.val + 1) % 2)) (16 * t.val + 14) (16 * t.val + 14) (16 * t.val + 14)) := by
  have ht : t.val < 8 := t.isLt
  rw [k0_part21_eq_skeleton]; unfold k0_part21_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 1000000 in
/-- Part 22: from 14, 14, 14 to 16, 16, 15 transfers of the three gathers, within the group. -/
theorem part22 [EC.LandsIn (upEmb : UEmb _ 𝕄)] (u : Fin k0_t2_loop.trips) (hu : k0_cond1 u = 1#1) (t : Fin k0_t4_loop.trips) (ok : Okay (128 * ((u.val + 1) % 2)) (128 * (u.val + 1))) (v19 : BitVec 32) (arg21 : BitVec 32) :
    Tri defs 𝒱 (th d i) bd (FSs (128 * ((u.val + 1) % 2)) (16 * t.val + 14) (16 * t.val + 14) (16 * t.val + 14))
      (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v19 t arg21 (fun x : S16.Idx => (W9 (128 * (u.val + 1) + 16 * t.val + (x 0).val) : Elt F .i32)) (fun x : S16.Idx => (W10 (128 * (u.val + 1) + 16 * t.val + (x 0).val) : Elt F .i32)) (fun x : S16.Idx => (W11 (128 * (u.val + 1) + 16 * t.val + (x 0).val) : Elt F .i32)) (W9 (128 * (u.val + 1) + 16 * t.val + 14)) (fun _ => (ok.w9.fits rfl rfl)))
      ⟨(W11 (128 * (u.val + 1) + 16 * t.val + 15)), (fun _ => (ok.w11.fits rfl rfl))⟩
      (FSs (128 * ((u.val + 1) % 2)) (16 * t.val + 16) (16 * t.val + 16) (16 * t.val + 15)) := by
  have ht : t.val < 8 := t.isLt
  rw [k0_part22_eq_skeleton]; unfold k0_part22_skel
  repeat
    first
      | refine Tri.bind (Tri.assume (fun _ => ok.w9.fits rfl rfl)) ?_
      | refine Tri.bind (FS.issueC d i EC ok (by omega) rfl rfl (closed0 (by first | rfl | (simp only [ClosedOff.form, Matrix.cons_val_zero]; omega))) (closed1 rfl)) ?_
      | refine Tri.bind (Tri.assume (fun _ => ok.w10.fits rfl rfl)) ?_
      | refine Tri.bind (FS.issueI d i EC ok (by omega) rfl rfl (closed0 (by first | rfl | (simp only [ClosedOff.form, Matrix.cons_val_zero]; omega))) (closed1 rfl)) ?_
      | refine Tri.bind (Tri.assume (fun _ => ok.w11.fits rfl rfl)) ?_
      | refine Tri.bind (FS.issueJ d i EC ok (by omega) rfl rfl (closed0 (by first | rfl | (simp only [ClosedOff.form, Matrix.cons_val_zero]; omega))) (closed1 rfl)) ?_
  exact Tri.of_eq (Tri.ret _) rfl

set_option maxHeartbeats 2000000 in
/-- One group of sixteen lanes. -/
theorem group4 [EC.LandsIn (upEmb : UEmb _ 𝕄)] (u : Fin k0_t2_loop.trips) (hu : k0_cond1 u = 1#1) (t : Fin k0_t4_loop.trips) (ok : Okay (128 * ((u.val + 1) % 2)) (128 * (u.val + 1))) (v17 v19 : BitVec 32) :
    Tri defs 𝒱 (th d i) bd (FSs (128 * ((u.val + 1) % 2)) (16 * t.val) (16 * t.val) (16 * t.val)) (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v17 v19 t ()) () (FSs (128 * ((u.val + 1) % 2)) (16 * t.val + 16) (16 * t.val + 16) (16 * t.val + 16)) := by
  have ht : t.val < 8 := t.isLt
  unfold k0_t4_body
  refine Tri.bind (part12 (ok := ok) ..) ?_
  refine Tri.bind (part13 (ok := ok) ..) ?_
  refine Tri.bind (part14 (ok := ok) ..) ?_
  refine Tri.bind (part15 (ok := ok) ..) ?_
  refine Tri.bind (part16 (ok := ok) ..) ?_
  refine Tri.bind (part17 (ok := ok) ..) ?_
  refine Tri.bind (part18 (ok := ok) ..) ?_
  refine Tri.bind (part19 (ok := ok) ..) ?_
  refine Tri.bind (part20 (ok := ok) ..) ?_
  refine Tri.bind (part21 (ok := ok) ..) ?_
  refine Tri.bind (part22 (ok := ok) ..) ?_
  refine Tri.bind (FS.issueJ d i EC ok (by omega) rfl rfl (closed0 (by first | rfl | (simp only [ClosedOff.form, Matrix.cons_val_zero]; omega))) (closed1 rfl)) ?_
  exact Tri.ret _

end Cert.Proof.KerI

end
-- ==== Proof.RowI.lean ====
/-
  What one row of a chunk computes: the loads of its six half rows, the products, their sum lane by lane, and the
  vector of sixteen sums gathered by selects. The parts of the program that compute a group of sixteen rows.
-/
module

public import proofs.«01_k».proof.Proof.FireI

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

/-- The element of a row buffer at a row and a column. -/
def cell (r c : ℕ) : S256x32.Idx := fun a =>
  match a with
  | 0 => (⟨r % 256, Nat.mod_lt _ (by decide)⟩ : Fin 256)
  | 1 => (⟨c % 32, Nat.mod_lt _ (by decide)⟩ : Fin 32)

theorem cell_eq {y : S256x32.Idx} {r c : ℕ} (h0 : (y 0).val = r) (h1 : (y 1).val = c) : y = cell r c := by
  have b0 : (y 0).val < 256 := (y 0).isLt
  have b1 : (y 1).val < 32 := (y 1).isLt
  funext a
  match a with
  | 0 => exact Fin.ext (by show (y 0).val = r % 256; omega)
  | 1 => exact Fin.ext (by show (y 1).val = c % 32; omega)

/-- Half a row: sixteen columns from `lo`. -/
def half (G : S256x32.Idx → Elt F .f32) (n lo : ℕ) : Vec F S16 .f32 :=
  shapeCast S16 (fun x : S1x16.Idx => G (cell n (lo + (x 1).val)) : Vec F S1x16 .f32) shapeCasts_S1x16_S16

/-- The products of two half rows. -/
def mulHalf (A B : S256x32.Idx → Elt F .f32) (n lo : ℕ) : FVec F S16 .f32 := mulf (half A n lo) (half B n lo)

/-- The sixteen sums of a row's two products. -/
def prods (A B : S256x32.Idx → Elt F .f32) (n : ℕ) : FVec F S16 .f32 := addf (mulHalf A B n 0) (mulHalf A B n 16)

/-- One lane of a vector. -/
def el (v : FVec F S16 .f32) {k : ℕ} (h : S16.Slices ![k] S1) : F .f32 := extractAt ![0] (extractStridedSlice S1 ![k] v h) inpos_S1_p0

/-- The sum of a vector's first lanes, added first to last: up to lane 0, 1, … 15. -/
def ps0 (v : FVec F S16 .f32) : F .f32 := el v slices_S16_o0_S1
def ps1 (v : FVec F S16 .f32) : F .f32 := Scalar.addf (ps0 v) (el v slices_S16_o1_S1)
def ps2 (v : FVec F S16 .f32) : F .f32 := Scalar.addf (ps1 v) (el v slices_S16_o2_S1)
def ps3 (v : FVec F S16 .f32) : F .f32 := Scalar.addf (ps2 v) (el v slices_S16_o3_S1)
def ps4 (v : FVec F S16 .f32) : F .f32 := Scalar.addf (ps3 v) (el v slices_S16_o4_S1)
def ps5 (v : FVec F S16 .f32) : F .f32 := Scalar.addf (ps4 v) (el v slices_S16_o5_S1)
def ps6 (v : FVec F S16 .f32) : F .f32 := Scalar.addf (ps5 v) (el v slices_S16_o6_S1)
def ps7 (v : FVec F S16 .f32) : F .f32 := Scalar.addf (ps6 v) (el v slices_S16_o7_S1)
def ps8 (v : FVec F S16 .f32) : F .f32 := Scalar.addf (ps7 v) (el v slices_S16_o8_S1)
def ps9 (v : FVec F S16 .f32) : F .f32 := Scalar.addf (ps8 v) (el v slices_S16_o9_S1)
def ps10 (v : FVec F S16 .f32) : F .f32 := Scalar.addf (ps9 v) (el v slices_S16_o10_S1)
def ps11 (v : FVec F S16 .f32) : F .f32 := Scalar.addf (ps10 v) (el v slices_S16_o11_S1)
def ps12 (v : FVec F S16 .f32) : F .f32 := Scalar.addf (ps11 v) (el v slices_S16_o12_S1)
def ps13 (v : FVec F S16 .f32) : F .f32 := Scalar.addf (ps12 v) (el v slices_S16_o13_S1)
def ps14 (v : FVec F S16 .f32) : F .f32 := Scalar.addf (ps13 v) (el v slices_S16_o14_S1)
def ps15 (v : FVec F S16 .f32) : F .f32 := Scalar.addf (ps14 v) (el v slices_S16_o15_S1)

/-- The first `k` of sixteen rows' sums, by select into their lanes. -/
def acc (v3 : IVec S16 32) (A B : S256x32.Idx → Elt F .f32) (n : ℕ) : ℕ → FVec F S16 .f32
  | 0 => broadcast S16 (Scalar.ofBits .f32 0x00000000#32)
  | k + 1 => select (cmpi .eq v3 (broadcast S16 (BitVec.ofNat 32 k))) (broadcast S16 (ps15 (prods A B (n + k)))) (acc v3 A B n k)

variable (d : Dev nD) (i : grid0.Coords)
variable {defs : Defs nD τ sig (Elt F) Λ₀} {𝒱 : Variants} {bd : Option 𝒱.V}
variable {arg12 : Memref sig .scVector .vmem S256x32 .f32} (harg12 : arg12.IsWhole) {arg13 : Memref sig .scVector .vmem S256x32 .f32} (harg13 : arg13.IsWhole) {arg14 : Memref sig .scVector .vmem S256x32 .f32} (harg14 : arg14.IsWhole)
  (G12 G13 G14 : S256x32.Idx → Elt F .f32) (h : ℕ)

/-- The half buffers of a chunk, from row `h`, gathered. -/
def CS : sProp 𝕄 :=
  iprop(own (th d i) harg12 fullShare (rowsFrom h (h + 128)) G12 ∗ own (th d i) harg13 fullShare (rowsFrom h (h + 128)) G13
    ∗ own (th d i) harg14 fullShare (rowsFrom h (h + 128)) G14)

variable {G12 G13 G14 h}

section Loads

variable {off : Fin 2 → ℕ} {hin : ∀ a, off a + S1x16.size a ≤ S256x32.size a} {n lo : ℕ}

/-- Half a row of a row buffer held from row `h`. -/
theorem row_load {R : Memref sig .scVector .vmem S256x32 .f32} (hR : R.IsWhole) {G : S256x32.Idx → Elt F .f32}
    {hl : R.view.LoadsAt (Rect.unit (s := S256x32) off S1x16.size hin).toLoadRect} (h0 : off 0 = n) (h1 : off 1 = lo) (hb : h ≤ n ∧ n < h + 128) :
    Tri defs 𝒱 (th d i) bd (own (th d i) hR fullShare (rowsFrom h (h + 128)) G : sProp 𝕄)
      (Prog.lift (.load R (Rect.unit (s := S256x32) off S1x16.size hin).toLoadRect hl))
      (fun x : S1x16.Idx => G (cell n (lo + (x 1).val))) (own (th d i) hR fullShare (rowsFrom h (h + 128)) G) := by
  refine (Tri.load (c := th d i) hR (r := (Rect.unit (s := S256x32) off S1x16.size hin).toLoadRect) (S := rowsFrom h (h + 128)) ?_).of_eq (funext fun x => congrArg G (cell_eq ?_ ?_))
  · intro y hy
    have hy' : y ∈ (Rect.unit (s := S256x32) off S1x16.size hin).set := hy
    rw [Rect.mem_set_unit] at hy'
    have := hy' 0
    have e0 : S1x16.size (0 : Fin 2) = 1 := rfl
    rw [mem_rowsFrom]; rw [h0, e0] at this; omega
  · have hx : (x 0).val < 1 := (x 0).isLt
    show off 0 + 1 * (x 0).val = n
    omega
  · show off 1 + 1 * (x 1).val = lo + (x 1).val
    omega

variable {harg12 harg13 harg14}

theorem CS.load12 {hl : arg12.view.LoadsAt (Rect.unit (s := S256x32) off S1x16.size hin).toLoadRect} (h0 : off 0 = n) (h1 : off 1 = lo) (hb : h ≤ n ∧ n < h + 128) :
    Tri defs 𝒱 (th d i) bd (CS d i harg12 harg13 harg14 G12 G13 G14 h : sProp 𝕄)
      (Prog.lift (.load arg12 (Rect.unit (s := S256x32) off S1x16.size hin).toLoadRect hl))
      (fun x : S1x16.Idx => G12 (cell n (lo + (x 1).val))) (CS d i harg12 harg13 harg14 G12 G13 G14 h) :=
  (row_load d i harg12 h0 h1 hb).framed

theorem CS.load13 {hl : arg13.view.LoadsAt (Rect.unit (s := S256x32) off S1x16.size hin).toLoadRect} (h0 : off 0 = n) (h1 : off 1 = lo) (hb : h ≤ n ∧ n < h + 128) :
    Tri defs 𝒱 (th d i) bd (CS d i harg12 harg13 harg14 G12 G13 G14 h : sProp 𝕄)
      (Prog.lift (.load arg13 (Rect.unit (s := S256x32) off S1x16.size hin).toLoadRect hl))
      (fun x : S1x16.Idx => G13 (cell n (lo + (x 1).val))) (CS d i harg12 harg13 harg14 G12 G13 G14 h) :=
  ((row_load d i harg13 h0 h1 hb).framed (R := iprop(own (th d i) harg12 fullShare (rowsFrom h (h + 128)) G12 ∗ own (th d i) harg14 fullShare (rowsFrom h (h + 128)) G14))).conv
    (by unfold CS; iintro ⟨H1, H2, H3⟩; isplitl [H2]; · iexact H2
        isplitl [H1]; · iexact H1
        iexact H3)
    (by unfold CS; iintro ⟨H2, H1, H3⟩; isplitl [H1]; · iexact H1
        isplitl [H2]; · iexact H2
        iexact H3)

theorem CS.load14 {hl : arg14.view.LoadsAt (Rect.unit (s := S256x32) off S1x16.size hin).toLoadRect} (h0 : off 0 = n) (h1 : off 1 = lo) (hb : h ≤ n ∧ n < h + 128) :
    Tri defs 𝒱 (th d i) bd (CS d i harg12 harg13 harg14 G12 G13 G14 h : sProp 𝕄)
      (Prog.lift (.load arg14 (Rect.unit (s := S256x32) off S1x16.size hin).toLoadRect hl))
      (fun x : S1x16.Idx => G14 (cell n (lo + (x 1).val))) (CS d i harg12 harg13 harg14 G12 G13 G14 h) :=
  ((row_load d i harg14 h0 h1 hb).framed (R := iprop(own (th d i) harg12 fullShare (rowsFrom h (h + 128)) G12 ∗ own (th d i) harg13 fullShare (rowsFrom h (h + 128)) G13))).conv
    (by unfold CS; iintro ⟨H1, H2, H3⟩; isplitl [H3]; · iexact H3
        isplitl [H1]; · iexact H1
        iexact H2)
    (by unfold CS; iintro ⟨H3, H1, H2⟩; isplitl [H1]; · iexact H1
        isplitl [H2]; · iexact H2
        iexact H3)

end Loads

end Cert.Proof.KerI

end
-- ==== Proof.RowsI.lean ====
/-
  The parts of the program that compute a group of sixteen rows, each with the values it hands on.
-/
module

public import proofs.«01_k».proof.Proof.RowI

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

variable (d : Dev nD) (i : grid0.Coords)
variable {defs : Defs nD τ sig (Elt F) Λ₀} {𝒱 : Variants} {bd : Option 𝒱.V}
variable (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S1000000x32 .f32) (harg5 : arg5.IsWhole) (arg6 : Memref sig .scVector .hbm S1000000x32 .f32) (harg6 : arg6.IsWhole) (arg7 : Memref sig .scVector .hbm S16384 .f32) (harg7 : arg7.IsWhole) (arg8 : Memref sig .scVector .hbm S16384 .f32) (harg8 : arg8.IsWhole) (arg9 : Memref sig .scVector .vmem S512 .i32) (harg9 : arg9.IsWhole) (arg10 : Memref sig .scVector .vmem S512 .i32) (harg10 : arg10.IsWhole) (arg11 : Memref sig .scVector .vmem S512 .i32) (harg11 : arg11.IsWhole) (arg12 : Memref sig .scVector .vmem S256x32 .f32) (harg12 : arg12.IsWhole) (arg13 : Memref sig .scVector .vmem S256x32 .f32) (harg13 : arg13.IsWhole) (arg14 : Memref sig .scVector .vmem S256x32 .f32) (harg14 : arg14.IsWhole) (arg15 : Memref sig .scVector .vmem S512 .f32) (harg15 : arg15.IsWhole) (arg16 : Memref sig .scVector .vmem S512 .f32) (harg16 : arg16.IsWhole) (arg17 : DmaSems sig S_) (arg18 : DmaSems sig S_) (arg19 : DmaSems sig S_) (v8_r0 : DmaSems sig S_) (v8_r1 : DmaSems sig S_) (v8_r2 : DmaSems sig S_) (v8_r3 : DmaSems sig S_) (v8_r4 : DmaSems sig S_)
variable (G12 G13 G14 : S256x32.Idx → Elt F .f32) (u : Fin k0_t2_loop.trips) (t : Fin k0_t5_loop.trips) (v3 : IVec S16 32)

local notation "CSs" => (CS d i harg12 harg13 harg14 G12 G13 G14 (128 * (u.val % 2)) : sProp 𝕄)

set_option maxHeartbeats 2000000 in
/-- Part 23. -/
theorem part23 (arg20 : BitVec 32) (v15 : BitVec 32) (c0_i32_20 : BitVec 32) (c1_i32_22 : BitVec 32) :
    Tri defs 𝒱 (th d i) bd CSs (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u arg20 v15 c0_i32_20 c1_i32_22 t)
      ⟨(Scf.iv c0_i32_20 c1_i32_22 t) ,
        (Scalar.addi (Scalar.muli arg20 128#32) (Scalar.muli (Scf.iv c0_i32_20 c1_i32_22 t) 16#32)) ,
        (broadcast S16 (Scalar.ofBits .f32 0x00000000#32)) ,
        (broadcast S16 (Scalar.ofBits .f32 0x00000000#32)) ,
        (half G12 (128 * (u.val % 2) + 16 * t.val + 0) 0) ,
        (half G12 (128 * (u.val % 2) + 16 * t.val + 0) 16) ,
        (half G14 (128 * (u.val % 2) + 16 * t.val + 0) 0) ,
        (half G14 (128 * (u.val % 2) + 16 * t.val + 0) 16) ,
        (prods G12 G13 (128 * (u.val % 2) + 16 * t.val + 0)) ,
        (ps5 (prods G12 G13 (128 * (u.val % 2) + 16 * t.val + 0))) ,
        (extractStridedSlice S1 ![6] (prods G12 G13 (128 * (u.val % 2) + 16 * t.val + 0)) slices_S16_o6_S1)⟩
      CSs := by
  have ht : t.val < 8 := t.isLt
  rw [k0_part23_eq_skeleton]; unfold k0_part23_skel
  repeat
    first
      | refine Tri.bind (CS.load12 d i (n := 128 * (u.val % 2) + 16 * t.val + 0) (closed0 rfl) (closed1 rfl) (by omega)) ?_
      | refine Tri.bind (CS.load13 d i (n := 128 * (u.val % 2) + 16 * t.val + 0) (closed0 rfl) (closed1 rfl) (by omega)) ?_
      | refine Tri.bind (CS.load14 d i (n := 128 * (u.val % 2) + 16 * t.val + 0) (closed0 rfl) (closed1 rfl) (by omega)) ?_
  exact Tri.of_eq (Tri.ret _) rfl

set_option maxHeartbeats 2000000 in
/-- Part 24. -/
theorem part24  :
    Tri defs 𝒱 (th d i) bd CSs (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 0) 0) (half G12 (128 * (u.val % 2) + 16 * t.val + 0) 16) (half G14 (128 * (u.val % 2) + 16 * t.val + 0) 0) (half G14 (128 * (u.val % 2) + 16 * t.val + 0) 16) (prods G12 G13 (128 * (u.val % 2) + 16 * t.val + 0)) (ps5 (prods G12 G13 (128 * (u.val % 2) + 16 * t.val + 0))) (extractStridedSlice S1 ![6] (prods G12 G13 (128 * (u.val % 2) + 16 * t.val + 0)) slices_S16_o6_S1))
      ⟨(ps15 (prods G12 G13 (128 * (u.val % 2) + 16 * t.val + 0))) ,
        (prods G12 G14 (128 * (u.val % 2) + 16 * t.val + 0)) ,
        (ps8 (prods G12 G14 (128 * (u.val % 2) + 16 * t.val + 0))) ,
        (el (prods G12 G14 (128 * (u.val % 2) + 16 * t.val + 0)) slices_S16_o9_S1)⟩
      CSs := by
  have ht : t.val < 8 := t.isLt
  rw [k0_part24_eq_skeleton]; unfold k0_part24_skel
  exact Tri.of_eq (Tri.ret _) rfl

set_option maxHeartbeats 2000000 in
/-- Part 25. -/
theorem part25 (v15 : BitVec 32) (arg21 : BitVec 32) :
    Tri defs 𝒱 (th d i) bd CSs (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (broadcast S16 (Scalar.ofBits .f32 0x00000000#32)) (broadcast S16 (Scalar.ofBits .f32 0x00000000#32)) (ps15 (prods G12 G13 (128 * (u.val % 2) + 16 * t.val + 0))) (prods G12 G14 (128 * (u.val % 2) + 16 * t.val + 0)) (ps8 (prods G12 G14 (128 * (u.val % 2) + 16 * t.val + 0))) (el (prods G12 G14 (128 * (u.val % 2) + 16 * t.val + 0)) slices_S16_o9_S1))
      ⟨(acc v3 G12 G13 (128 * (u.val % 2) + 16 * t.val) 1) ,
        (acc v3 G12 G14 (128 * (u.val % 2) + 16 * t.val) 1) ,
        (half G12 (128 * (u.val % 2) + 16 * t.val + 1) 0) ,
        (half G12 (128 * (u.val % 2) + 16 * t.val + 1) 16) ,
        (half G14 (128 * (u.val % 2) + 16 * t.val + 1) 0) ,
        (half G14 (128 * (u.val % 2) + 16 * t.val + 1) 16) ,
        (prods G12 G13 (128 * (u.val % 2) + 16 * t.val + 1)) ,
        (ps0 (prods G12 G13 (128 * (u.val % 2) + 16 * t.val + 1)))⟩
      CSs := by
  have ht : t.val < 8 := t.isLt
  rw [k0_part25_eq_skeleton]; unfold k0_part25_skel
  repeat
    first
      | refine Tri.bind (CS.load12 d i (n := 128 * (u.val % 2) + 16 * t.val + 1) (closed0 rfl) (closed1 rfl) (by omega)) ?_
      | refine Tri.bind (CS.load13 d i (n := 128 * (u.val % 2) + 16 * t.val + 1) (closed0 rfl) (closed1 rfl) (by omega)) ?_
      | refine Tri.bind (CS.load14 d i (n := 128 * (u.val % 2) + 16 * t.val + 1) (closed0 rfl) (closed1 rfl) (by omega)) ?_
  exact Tri.of_eq (Tri.ret _) rfl

set_option maxHeartbeats 2000000 in
/-- Part 26. -/
theorem part26  :
    Tri defs 𝒱 (th d i) bd CSs (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 1) 0) (half G12 (128 * (u.val % 2) + 16 * t.val + 1) 16) (half G14 (128 * (u.val % 2) + 16 * t.val + 1) 0) (half G14 (128 * (u.val % 2) + 16 * t.val + 1) 16) (prods G12 G13 (128 * (u.val % 2) + 16 * t.val + 1)) (ps0 (prods G12 G13 (128 * (u.val % 2) + 16 * t.val + 1))))
      ⟨(ps15 (prods G12 G13 (128 * (u.val % 2) + 16 * t.val + 1))) ,
        (prods G12 G14 (128 * (u.val % 2) + 16 * t.val + 1)) ,
        (ps3 (prods G12 G14 (128 * (u.val % 2) + 16 * t.val + 1))) ,
        (extractStridedSlice S1 ![4] (prods G12 G14 (128 * (u.val % 2) + 16 * t.val + 1)) slices_S16_o4_S1)⟩
      CSs := by
  have ht : t.val < 8 := t.isLt
  rw [k0_part26_eq_skeleton]; unfold k0_part26_skel
  exact Tri.of_eq (Tri.ret _) rfl

set_option maxHeartbeats 2000000 in
/-- Part 27. -/
theorem part27 (v15 : BitVec 32) (arg21 : BitVec 32) :
    Tri defs 𝒱 (th d i) bd CSs (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 1) (acc v3 G12 G14 (128 * (u.val % 2) + 16 * t.val) 1) (ps15 (prods G12 G13 (128 * (u.val % 2) + 16 * t.val + 1))) (prods G12 G14 (128 * (u.val % 2) + 16 * t.val + 1)) (ps3 (prods G12 G14 (128 * (u.val % 2) + 16 * t.val + 1))) (extractStridedSlice S1 ![4] (prods G12 G14 (128 * (u.val % 2) + 16 * t.val + 1)) slices_S16_o4_S1))
      ⟨(acc v3 G12 G13 (128 * (u.val % 2) + 16 * t.val) 2) ,
        (acc v3 G12 G14 (128 * (u.val % 2) + 16 * t.val) 2) ,
        (Scalar.addi (Scalar.addi v15 (Scalar.muli arg21 16#32)) 2#32) ,
        (half G12 (128 * (u.val % 2) + 16 * t.val + 2) 0) ,
        (half G12 (128 * (u.val % 2) + 16 * t.val + 2) 16) ,
        (half G13 (128 * (u.val % 2) + 16 * t.val + 2) 0)⟩
      CSs := by
  have ht : t.val < 8 := t.isLt
  rw [k0_part27_eq_skeleton]; unfold k0_part27_skel
  repeat
    first
      | refine Tri.bind (CS.load12 d i (n := 128 * (u.val % 2) + 16 * t.val + 2) (closed0 rfl) (closed1 rfl) (by omega)) ?_
      | refine Tri.bind (CS.load13 d i (n := 128 * (u.val % 2) + 16 * t.val + 2) (closed0 rfl) (closed1 rfl) (by omega)) ?_
      | refine Tri.bind (CS.load14 d i (n := 128 * (u.val % 2) + 16 * t.val + 2) (closed0 rfl) (closed1 rfl) (by omega)) ?_
  exact Tri.of_eq (Tri.ret _) rfl

set_option maxHeartbeats 2000000 in
/-- Part 28. -/
theorem part28 (v266 : BitVec 32) :
    Tri defs 𝒱 (th d i) bd CSs (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u t v266 (half G12 (128 * (u.val % 2) + 16 * t.val + 2) 0) (half G12 (128 * (u.val % 2) + 16 * t.val + 2) 16) (half G13 (128 * (u.val % 2) + 16 * t.val + 2) 0))
      ⟨(half G14 (128 * (u.val % 2) + 16 * t.val + 2) 0) ,
        (half G14 (128 * (u.val % 2) + 16 * t.val + 2) 16) ,
        (ps14 (prods G12 G13 (128 * (u.val % 2) + 16 * t.val + 2))) ,
        (el (prods G12 G13 (128 * (u.val % 2) + 16 * t.val + 2)) slices_S16_o15_S1)⟩
      CSs := by
  have ht : t.val < 8 := t.isLt
  rw [k0_part28_eq_skeleton]; unfold k0_part28_skel
  repeat
    first
      | refine Tri.bind (CS.load12 d i (n := 128 * (u.val % 2) + 16 * t.val + 2) (closed0 rfl) (closed1 rfl) (by omega)) ?_
      | refine Tri.bind (CS.load13 d i (n := 128 * (u.val % 2) + 16 * t.val + 2) (closed0 rfl) (closed1 rfl) (by omega)) ?_
      | refine Tri.bind (CS.load14 d i (n := 128 * (u.val % 2) + 16 * t.val + 2) (closed0 rfl) (closed1 rfl) (by omega)) ?_
  exact Tri.of_eq (Tri.ret _) rfl

set_option maxHeartbeats 2000000 in
/-- Part 29. -/
theorem part29 (arg21 : BitVec 32) :
    Tri defs 𝒱 (th d i) bd CSs (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 arg21 (acc v3 G12 G13 (128 * (u.val % 2) + 16 * t.val) 2) (acc v3 G12 G14 (128 * (u.val % 2) + 16 * t.val) 2) (half G12 (128 * (u.val % 2) + 16 * t.val + 2) 0) (half G12 (128 * (u.val % 2) + 16 * t.val + 2) 16) (half G14 (128 * (u.val % 2) + 16 * t.val + 2) 0) (half G14 (128 * (u.val % 2) + 16 * t.val + 2) 16) (ps14 (prods G12 G13 (128 * (u.val % 2) + 16 * t.val + 2))) (el (prods G12 G13 (128 * (u.val % 2) + 16 * t.val + 2)) slices_S16_o15_S1))
      ⟨(acc v3 G12 G13 (128 * (u.val % 2) + 16 * t.val) 3) ,
        (acc v3 G12 G14 (128 * (u.val % 2) + 16 * t.val) 3) ,
        (Scalar.muli arg21 16#32)⟩
      CSs := by
  have ht : t.val < 8 := t.isLt
  rw [k0_part29_eq_skeleton]; unfold k0_part29_skel
  exact Tri.of_eq (Tri.ret _) rfl

set_option maxHeartbeats 2000000 in
/-- Part 30. -/
theorem part30 (v15 : BitVec 32) (v385 : BitVec 32) :
    Tri defs 𝒱 (th d i) bd CSs (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u v15 t v385)
      ⟨(half G12 (128 * (u.val % 2) + 16 * t.val + 3) 0) ,
        (half G12 (128 * (u.val % 2) + 16 * t.val + 3) 16) ,
        (half G14 (128 * (u.val % 2) + 16 * t.val + 3) 0) ,
        (half G14 (128 * (u.val % 2) + 16 * t.val + 3) 16) ,
        (prods G12 G13 (128 * (u.val % 2) + 16 * t.val + 3)) ,
        (ps9 (prods G12 G13 (128 * (u.val % 2) + 16 * t.val + 3))) ,
        (extractStridedSlice S1 ![10] (prods G12 G13 (128 * (u.val % 2) + 16 * t.val + 3)) slices_S16_o10_S1)⟩
      CSs := by
  have ht : t.val < 8 := t.isLt
  rw [k0_part30_eq_skeleton]; unfold k0_part30_skel
  repeat
    first
      | refine Tri.bind (CS.load12 d i (n := 128 * (u.val % 2) + 16 * t.val + 3) (closed0 rfl) (closed1 rfl) (by omega)) ?_
      | refine Tri.bind (CS.load13 d i (n := 128 * (u.val % 2) + 16 * t.val + 3) (closed0 rfl) (closed1 rfl) (by omega)) ?_
      | refine Tri.bind (CS.load14 d i (n := 128 * (u.val % 2) + 16 * t.val + 3) (closed0 rfl) (closed1 rfl) (by omega)) ?_
  exact Tri.of_eq (Tri.ret _) rfl

set_option maxHeartbeats 2000000 in
/-- Part 31. -/
theorem part31  :
    Tri defs 𝒱 (th d i) bd CSs (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 3) 0) (half G12 (128 * (u.val % 2) + 16 * t.val + 3) 16) (half G14 (128 * (u.val % 2) + 16 * t.val + 3) 0) (half G14 (128 * (u.val % 2) + 16 * t.val + 3) 16) (prods G12 G13 (128 * (u.val % 2) + 16 * t.val + 3)) (ps9 (prods G12 G13 (128 * (u.val % 2) + 16 * t.val + 3))) (extractStridedSlice S1 ![10] (prods G12 G13 (128 * (u.val % 2) + 16 * t.val + 3)) slices_S16_o10_S1))
      ⟨(ps15 (prods G12 G13 (128 * (u.val % 2) + 16 * t.val + 3))) ,
        (prods G12 G14 (128 * (u.val % 2) + 16 * t.val + 3)) ,
        (ps12 (prods G12 G14 (128 * (u.val % 2) + 16 * t.val + 3))) ,
        (el (prods G12 G14 (128 * (u.val % 2) + 16 * t.val + 3)) slices_S16_o13_S1)⟩
      CSs := by
  have ht : t.val < 8 := t.isLt
  rw [k0_part31_eq_skeleton]; unfold k0_part31_skel
  exact Tri.of_eq (Tri.ret _) rfl

set_option maxHeartbeats 2000000 in
/-- Part 32. -/
theorem part32 (v15 : BitVec 32) (arg21 : BitVec 32) :
    Tri defs 𝒱 (th d i) bd CSs (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 3) (acc v3 G12 G14 (128 * (u.val % 2) + 16 * t.val) 3) (ps15 (prods G12 G13 (128 * (u.val % 2) + 16 * t.val + 3))) (prods G12 G14 (128 * (u.val % 2) + 16 * t.val + 3)) (ps12 (prods G12 G14 (128 * (u.val % 2) + 16 * t.val + 3))) (el (prods G12 G14 (128 * (u.val % 2) + 16 * t.val + 3)) slices_S16_o13_S1))
      ⟨(acc v3 G12 G13 (128 * (u.val % 2) + 16 * t.val) 4) ,
        (acc v3 G12 G14 (128 * (u.val % 2) + 16 * t.val) 4) ,
        (half G12 (128 * (u.val % 2) + 16 * t.val + 4) 0) ,
        (half G12 (128 * (u.val % 2) + 16 * t.val + 4) 16) ,
        (half G14 (128 * (u.val % 2) + 16 * t.val + 4) 0) ,
        (half G14 (128 * (u.val % 2) + 16 * t.val + 4) 16) ,
        (prods G12 G13 (128 * (u.val % 2) + 16 * t.val + 4)) ,
        (ps4 (prods G12 G13 (128 * (u.val % 2) + 16 * t.val + 4)))⟩
      CSs := by
  have ht : t.val < 8 := t.isLt
  rw [k0_part32_eq_skeleton]; unfold k0_part32_skel
  repeat
    first
      | refine Tri.bind (CS.load12 d i (n := 128 * (u.val % 2) + 16 * t.val + 4) (closed0 rfl) (closed1 rfl) (by omega)) ?_
      | refine Tri.bind (CS.load13 d i (n := 128 * (u.val % 2) + 16 * t.val + 4) (closed0 rfl) (closed1 rfl) (by omega)) ?_
      | refine Tri.bind (CS.load14 d i (n := 128 * (u.val % 2) + 16 * t.val + 4) (closed0 rfl) (closed1 rfl) (by omega)) ?_
  exact Tri.of_eq (Tri.ret _) rfl

set_option maxHeartbeats 2000000 in
/-- Part 33. -/
theorem part33  :
    Tri defs 𝒱 (th d i) bd CSs (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 4) 0) (half G12 (128 * (u.val % 2) + 16 * t.val + 4) 16) (half G14 (128 * (u.val % 2) + 16 * t.val + 4) 0) (half G14 (128 * (u.val % 2) + 16 * t.val + 4) 16) (prods G12 G13 (128 * (u.val % 2) + 16 * t.val + 4)) (ps4 (prods G12 G13 (128 * (u.val % 2) + 16 * t.val + 4))))
      ⟨(ps15 (prods G12 G13 (128 * (u.val % 2) + 16 * t.val + 4))) ,
        (prods G12 G14 (128 * (u.val % 2) + 16 * t.val + 4)) ,
        (ps7 (prods G12 G14 (128 * (u.val % 2) + 16 * t.val + 4))) ,
        (extractStridedSlice S1 ![8] (prods G12 G14 (128 * (u.val % 2) + 16 * t.val + 4)) slices_S16_o8_S1)⟩
      CSs := by
  have ht : t.val < 8 := t.isLt
  rw [k0_part33_eq_skeleton]; unfold k0_part33_skel
  exact Tri.of_eq (Tri.ret _) rfl

set_option maxHeartbeats 2000000 in
/-- Part 34. -/
theorem part34 (v15 : BitVec 32) (arg21 : BitVec 32) :
    Tri defs 𝒱 (th d i) bd CSs (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 4) (acc v3 G12 G14 (128 * (u.val % 2) + 16 * t.val) 4) (ps15 (prods G12 G13 (128 * (u.val % 2) + 16 * t.val + 4))) (prods G12 G14 (128 * (u.val % 2) + 16 * t.val + 4)) (ps7 (prods G12 G14 (128 * (u.val % 2) + 16 * t.val + 4))) (extractStridedSlice S1 ![8] (prods G12 G14 (128 * (u.val % 2) + 16 * t.val + 4)) slices_S16_o8_S1))
      ⟨(acc v3 G12 G13 (128 * (u.val % 2) + 16 * t.val) 5) ,
        (acc v3 G12 G14 (128 * (u.val % 2) + 16 * t.val) 5) ,
        (half G12 (128 * (u.val % 2) + 16 * t.val + 5) 0) ,
        (half G12 (128 * (u.val % 2) + 16 * t.val + 5) 16) ,
        (half G13 (128 * (u.val % 2) + 16 * t.val + 5) 16) ,
        (half G14 (128 * (u.val % 2) + 16 * t.val + 5) 0) ,
        (half G14 (128 * (u.val % 2) + 16 * t.val + 5) 16) ,
        (mulHalf G12 G13 (128 * (u.val % 2) + 16 * t.val + 5) 0)⟩
      CSs := by
  have ht : t.val < 8 := t.isLt
  rw [k0_part34_eq_skeleton]; unfold k0_part34_skel
  repeat
    first
      | refine Tri.bind (CS.load12 d i (n := 128 * (u.val % 2) + 16 * t.val + 5) (closed0 rfl) (closed1 rfl) (by omega)) ?_
      | refine Tri.bind (CS.load13 d i (n := 128 * (u.val % 2) + 16 * t.val + 5) (closed0 rfl) (closed1 rfl) (by omega)) ?_
      | refine Tri.bind (CS.load14 d i (n := 128 * (u.val % 2) + 16 * t.val + 5) (closed0 rfl) (closed1 rfl) (by omega)) ?_
  exact Tri.of_eq (Tri.ret _) rfl

set_option maxHeartbeats 2000000 in
/-- Part 35. -/
theorem part35  :
    Tri defs 𝒱 (th d i) bd CSs (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 5) 0) (half G12 (128 * (u.val % 2) + 16 * t.val + 5) 16) (half G13 (128 * (u.val % 2) + 16 * t.val + 5) 16) (half G14 (128 * (u.val % 2) + 16 * t.val + 5) 0) (half G14 (128 * (u.val % 2) + 16 * t.val + 5) 16) (mulHalf G12 G13 (128 * (u.val % 2) + 16 * t.val + 5) 0))
      ⟨(ps15 (prods G12 G13 (128 * (u.val % 2) + 16 * t.val + 5))) ,
        (prods G12 G14 (128 * (u.val % 2) + 16 * t.val + 5)) ,
        (ps2 (prods G12 G14 (128 * (u.val % 2) + 16 * t.val + 5)))⟩
      CSs := by
  have ht : t.val < 8 := t.isLt
  rw [k0_part35_eq_skeleton]; unfold k0_part35_skel
  exact Tri.of_eq (Tri.ret _) rfl

set_option maxHeartbeats 2000000 in
/-- Part 36. -/
theorem part36 (v15 : BitVec 32) (arg21 : BitVec 32) :
    Tri defs 𝒱 (th d i) bd CSs (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 5) (acc v3 G12 G14 (128 * (u.val % 2) + 16 * t.val) 5) (ps15 (prods G12 G13 (128 * (u.val % 2) + 16 * t.val + 5))) (prods G12 G14 (128 * (u.val % 2) + 16 * t.val + 5)) (ps2 (prods G12 G14 (128 * (u.val % 2) + 16 * t.val + 5))))
      ⟨(acc v3 G12 G13 (128 * (u.val % 2) + 16 * t.val) 6) ,
        (acc v3 G12 G14 (128 * (u.val % 2) + 16 * t.val) 6) ,
        (Scalar.addi (Scalar.addi v15 (Scalar.muli arg21 16#32)) 6#32) ,
        (half G12 (128 * (u.val % 2) + 16 * t.val + 6) 0) ,
        (half G12 (128 * (u.val % 2) + 16 * t.val + 6) 16)⟩
      CSs := by
  have ht : t.val < 8 := t.isLt
  rw [k0_part36_eq_skeleton]; unfold k0_part36_skel
  repeat
    first
      | refine Tri.bind (CS.load12 d i (n := 128 * (u.val % 2) + 16 * t.val + 6) (closed0 rfl) (closed1 rfl) (by omega)) ?_
      | refine Tri.bind (CS.load13 d i (n := 128 * (u.val % 2) + 16 * t.val + 6) (closed0 rfl) (closed1 rfl) (by omega)) ?_
      | refine Tri.bind (CS.load14 d i (n := 128 * (u.val % 2) + 16 * t.val + 6) (closed0 rfl) (closed1 rfl) (by omega)) ?_
  exact Tri.of_eq (Tri.ret _) rfl

set_option maxHeartbeats 2000000 in
/-- Part 37. -/
theorem part37 (v750 : BitVec 32) :
    Tri defs 𝒱 (th d i) bd CSs (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u t v750 (half G12 (128 * (u.val % 2) + 16 * t.val + 6) 0) (half G12 (128 * (u.val % 2) + 16 * t.val + 6) 16))
      ⟨(half G14 (128 * (u.val % 2) + 16 * t.val + 6) 0) ,
        (half G14 (128 * (u.val % 2) + 16 * t.val + 6) 16) ,
        (prods G12 G13 (128 * (u.val % 2) + 16 * t.val + 6)) ,
        (ps13 (prods G12 G13 (128 * (u.val % 2) + 16 * t.val + 6))) ,
        (extractStridedSlice S1 ![14] (prods G12 G13 (128 * (u.val % 2) + 16 * t.val + 6)) slices_S16_o14_S1)⟩
      CSs := by
  have ht : t.val < 8 := t.isLt
  rw [k0_part37_eq_skeleton]; unfold k0_part37_skel
  repeat
    first
      | refine Tri.bind (CS.load12 d i (n := 128 * (u.val % 2) + 16 * t.val + 6) (closed0 rfl) (closed1 rfl) (by omega)) ?_
      | refine Tri.bind (CS.load13 d i (n := 128 * (u.val % 2) + 16 * t.val + 6) (closed0 rfl) (closed1 rfl) (by omega)) ?_
      | refine Tri.bind (CS.load14 d i (n := 128 * (u.val % 2) + 16 * t.val + 6) (closed0 rfl) (closed1 rfl) (by omega)) ?_
  exact Tri.of_eq (Tri.ret _) rfl

set_option maxHeartbeats 2000000 in
/-- Part 38. -/
theorem part38  :
    Tri defs 𝒱 (th d i) bd CSs (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 (acc v3 G12 G13 (128 * (u.val % 2) + 16 * t.val) 6) (half G12 (128 * (u.val % 2) + 16 * t.val + 6) 0) (half G12 (128 * (u.val % 2) + 16 * t.val + 6) 16) (half G14 (128 * (u.val % 2) + 16 * t.val + 6) 0) (half G14 (128 * (u.val % 2) + 16 * t.val + 6) 16) (prods G12 G13 (128 * (u.val % 2) + 16 * t.val + 6)) (ps13 (prods G12 G13 (128 * (u.val % 2) + 16 * t.val + 6))) (extractStridedSlice S1 ![14] (prods G12 G13 (128 * (u.val % 2) + 16 * t.val + 6)) slices_S16_o14_S1))
      ⟨(ps15 (prods G12 G14 (128 * (u.val % 2) + 16 * t.val + 6))) ,
        (cmpi .eq v3 (broadcast S16 6#32)) ,
        (acc v3 G12 G13 (128 * (u.val % 2) + 16 * t.val) 7)⟩
      CSs := by
  have ht : t.val < 8 := t.isLt
  rw [k0_part38_eq_skeleton]; unfold k0_part38_skel
  exact Tri.of_eq (Tri.ret _) rfl

set_option maxHeartbeats 2000000 in
/-- Part 39. -/
theorem part39 (v15 : BitVec 32) (arg21 : BitVec 32) :
    Tri defs 𝒱 (th d i) bd CSs (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u v15 t arg21 (acc v3 G12 G14 (128 * (u.val % 2) + 16 * t.val) 6) (ps15 (prods G12 G14 (128 * (u.val % 2) + 16 * t.val + 6))) (cmpi .eq v3 (broadcast S16 6#32)))
      ⟨(acc v3 G12 G14 (128 * (u.val % 2) + 16 * t.val) 7) ,
        (half G12 (128 * (u.val % 2) + 16 * t.val + 7) 0) ,
        (half G12 (128 * (u.val % 2) + 16 * t.val + 7) 16) ,
        (half G14 (128 * (u.val % 2) + 16 * t.val + 7) 0) ,
        (half G14 (128 * (u.val % 2) + 16 * t.val + 7) 16) ,
        (prods G12 G13 (128 * (u.val % 2) + 16 * t.val + 7)) ,
        (ps8 (prods G12 G13 (128 * (u.val % 2) + 16 * t.val + 7)))⟩
      CSs := by
  have ht : t.val < 8 := t.isLt
  rw [k0_part39_eq_skeleton]; unfold k0_part39_skel
  repeat
    first
      | refine Tri.bind (CS.load12 d i (n := 128 * (u.val % 2) + 16 * t.val + 7) (closed0 rfl) (closed1 rfl) (by omega)) ?_
      | refine Tri.bind (CS.load13 d i (n := 128 * (u.val % 2) + 16 * t.val + 7) (closed0 rfl) (closed1 rfl) (by omega)) ?_
      | refine Tri.bind (CS.load14 d i (n := 128 * (u.val % 2) + 16 * t.val + 7) (closed0 rfl) (closed1 rfl) (by omega)) ?_
  exact Tri.of_eq (Tri.ret _) rfl

set_option maxHeartbeats 2000000 in
/-- Part 40. -/
theorem part40  :
    Tri defs 𝒱 (th d i) bd CSs (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 7) 0) (half G12 (128 * (u.val % 2) + 16 * t.val + 7) 16) (half G14 (128 * (u.val % 2) + 16 * t.val + 7) 0) (half G14 (128 * (u.val % 2) + 16 * t.val + 7) 16) (prods G12 G13 (128 * (u.val % 2) + 16 * t.val + 7)) (ps8 (prods G12 G13 (128 * (u.val % 2) + 16 * t.val + 7))))
      ⟨(ps15 (prods G12 G13 (128 * (u.val % 2) + 16 * t.val + 7))) ,
        (prods G12 G14 (128 * (u.val % 2) + 16 * t.val + 7)) ,
        (ps11 (prods G12 G14 (128 * (u.val % 2) + 16 * t.val + 7))) ,
        (extractStridedSlice S1 ![12] (prods G12 G14 (128 * (u.val % 2) + 16 * t.val + 7)) slices_S16_o12_S1)⟩
      CSs := by
  have ht : t.val < 8 := t.isLt
  rw [k0_part40_eq_skeleton]; unfold k0_part40_skel
  exact Tri.of_eq (Tri.ret _) rfl

set_option maxHeartbeats 2000000 in
/-- Part 41. -/
theorem part41 (v15 : BitVec 32) (arg21 : BitVec 32) :
    Tri defs 𝒱 (th d i) bd CSs (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 7) (acc v3 G12 G14 (128 * (u.val % 2) + 16 * t.val) 7) (ps15 (prods G12 G13 (128 * (u.val % 2) + 16 * t.val + 7))) (prods G12 G14 (128 * (u.val % 2) + 16 * t.val + 7)) (ps11 (prods G12 G14 (128 * (u.val % 2) + 16 * t.val + 7))) (extractStridedSlice S1 ![12] (prods G12 G14 (128 * (u.val % 2) + 16 * t.val + 7)) slices_S16_o12_S1))
      ⟨(acc v3 G12 G13 (128 * (u.val % 2) + 16 * t.val) 8) ,
        (acc v3 G12 G14 (128 * (u.val % 2) + 16 * t.val) 8) ,
        (half G12 (128 * (u.val % 2) + 16 * t.val + 8) 0) ,
        (half G12 (128 * (u.val % 2) + 16 * t.val + 8) 16) ,
        (half G14 (128 * (u.val % 2) + 16 * t.val + 8) 0) ,
        (half G14 (128 * (u.val % 2) + 16 * t.val + 8) 16) ,
        (prods G12 G13 (128 * (u.val % 2) + 16 * t.val + 8)) ,
        (ps2 (prods G12 G13 (128 * (u.val % 2) + 16 * t.val + 8))) ,
        (el (prods G12 G13 (128 * (u.val % 2) + 16 * t.val + 8)) slices_S16_o3_S1)⟩
      CSs := by
  have ht : t.val < 8 := t.isLt
  rw [k0_part41_eq_skeleton]; unfold k0_part41_skel
  repeat
    first
      | refine Tri.bind (CS.load12 d i (n := 128 * (u.val % 2) + 16 * t.val + 8) (closed0 rfl) (closed1 rfl) (by omega)) ?_
      | refine Tri.bind (CS.load13 d i (n := 128 * (u.val % 2) + 16 * t.val + 8) (closed0 rfl) (closed1 rfl) (by omega)) ?_
      | refine Tri.bind (CS.load14 d i (n := 128 * (u.val % 2) + 16 * t.val + 8) (closed0 rfl) (closed1 rfl) (by omega)) ?_
  exact Tri.of_eq (Tri.ret _) rfl

set_option maxHeartbeats 2000000 in
/-- Part 42. -/
theorem part42  :
    Tri defs 𝒱 (th d i) bd CSs (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 8) 0) (half G12 (128 * (u.val % 2) + 16 * t.val + 8) 16) (half G14 (128 * (u.val % 2) + 16 * t.val + 8) 0) (half G14 (128 * (u.val % 2) + 16 * t.val + 8) 16) (prods G12 G13 (128 * (u.val % 2) + 16 * t.val + 8)) (ps2 (prods G12 G13 (128 * (u.val % 2) + 16 * t.val + 8))) (el (prods G12 G13 (128 * (u.val % 2) + 16 * t.val + 8)) slices_S16_o3_S1))
      ⟨(ps15 (prods G12 G13 (128 * (u.val % 2) + 16 * t.val + 8))) ,
        (prods G12 G14 (128 * (u.val % 2) + 16 * t.val + 8)) ,
        (ps6 (prods G12 G14 (128 * (u.val % 2) + 16 * t.val + 8)))⟩
      CSs := by
  have ht : t.val < 8 := t.isLt
  rw [k0_part42_eq_skeleton]; unfold k0_part42_skel
  exact Tri.of_eq (Tri.ret _) rfl

set_option maxHeartbeats 2000000 in
/-- Part 43. -/
theorem part43 (v15 : BitVec 32) (arg21 : BitVec 32) :
    Tri defs 𝒱 (th d i) bd CSs (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 8) (acc v3 G12 G14 (128 * (u.val % 2) + 16 * t.val) 8) (ps15 (prods G12 G13 (128 * (u.val % 2) + 16 * t.val + 8))) (prods G12 G14 (128 * (u.val % 2) + 16 * t.val + 8)) (ps6 (prods G12 G14 (128 * (u.val % 2) + 16 * t.val + 8))))
      ⟨(acc v3 G12 G13 (128 * (u.val % 2) + 16 * t.val) 9) ,
        (acc v3 G12 G14 (128 * (u.val % 2) + 16 * t.val) 9) ,
        (half G12 (128 * (u.val % 2) + 16 * t.val + 9) 0) ,
        (half G12 (128 * (u.val % 2) + 16 * t.val + 9) 16) ,
        (half G13 (128 * (u.val % 2) + 16 * t.val + 9) 0) ,
        (half G13 (128 * (u.val % 2) + 16 * t.val + 9) 16) ,
        (half G14 (128 * (u.val % 2) + 16 * t.val + 9) 0)⟩
      CSs := by
  have ht : t.val < 8 := t.isLt
  rw [k0_part43_eq_skeleton]; unfold k0_part43_skel
  repeat
    first
      | refine Tri.bind (CS.load12 d i (n := 128 * (u.val % 2) + 16 * t.val + 9) (closed0 rfl) (closed1 rfl) (by omega)) ?_
      | refine Tri.bind (CS.load13 d i (n := 128 * (u.val % 2) + 16 * t.val + 9) (closed0 rfl) (closed1 rfl) (by omega)) ?_
      | refine Tri.bind (CS.load14 d i (n := 128 * (u.val % 2) + 16 * t.val + 9) (closed0 rfl) (closed1 rfl) (by omega)) ?_
  exact Tri.of_eq (Tri.ret _) rfl

set_option maxHeartbeats 2000000 in
/-- Part 44. -/
theorem part44  :
    Tri defs 𝒱 (th d i) bd CSs (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u t (half G12 (128 * (u.val % 2) + 16 * t.val + 9) 0) (half G12 (128 * (u.val % 2) + 16 * t.val + 9) 16) (half G13 (128 * (u.val % 2) + 16 * t.val + 9) 0) (half G13 (128 * (u.val % 2) + 16 * t.val + 9) 16) (half G14 (128 * (u.val % 2) + 16 * t.val + 9) 0))
      ⟨(ps15 (prods G12 G13 (128 * (u.val % 2) + 16 * t.val + 9))) ,
        (prods G12 G14 (128 * (u.val % 2) + 16 * t.val + 9)) ,
        (ps0 (prods G12 G14 (128 * (u.val % 2) + 16 * t.val + 9))) ,
        (el (prods G12 G14 (128 * (u.val % 2) + 16 * t.val + 9)) slices_S16_o1_S1)⟩
      CSs := by
  have ht : t.val < 8 := t.isLt
  rw [k0_part44_eq_skeleton]; unfold k0_part44_skel
  repeat
    first
      | refine Tri.bind (CS.load12 d i (n := 128 * (u.val % 2) + 16 * t.val + 9) (closed0 rfl) (closed1 rfl) (by omega)) ?_
      | refine Tri.bind (CS.load13 d i (n := 128 * (u.val % 2) + 16 * t.val + 9) (closed0 rfl) (closed1 rfl) (by omega)) ?_
      | refine Tri.bind (CS.load14 d i (n := 128 * (u.val % 2) + 16 * t.val + 9) (closed0 rfl) (closed1 rfl) (by omega)) ?_
  exact Tri.of_eq (Tri.ret _) rfl

set_option maxHeartbeats 2000000 in
/-- Part 45. -/
theorem part45 (v15 : BitVec 32) (arg21 : BitVec 32) :
    Tri defs 𝒱 (th d i) bd CSs (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 9) (acc v3 G12 G14 (128 * (u.val % 2) + 16 * t.val) 9) (ps15 (prods G12 G13 (128 * (u.val % 2) + 16 * t.val + 9))) (prods G12 G14 (128 * (u.val % 2) + 16 * t.val + 9)) (ps0 (prods G12 G14 (128 * (u.val % 2) + 16 * t.val + 9))) (el (prods G12 G14 (128 * (u.val % 2) + 16 * t.val + 9)) slices_S16_o1_S1))
      ⟨(acc v3 G12 G13 (128 * (u.val % 2) + 16 * t.val) 10) ,
        (acc v3 G12 G14 (128 * (u.val % 2) + 16 * t.val) 10) ,
        (Scalar.addi (Scalar.addi v15 (Scalar.muli arg21 16#32)) 10#32) ,
        (half G12 (128 * (u.val % 2) + 16 * t.val + 10) 0)⟩
      CSs := by
  have ht : t.val < 8 := t.isLt
  rw [k0_part45_eq_skeleton]; unfold k0_part45_skel
  repeat
    first
      | refine Tri.bind (CS.load12 d i (n := 128 * (u.val % 2) + 16 * t.val + 10) (closed0 rfl) (closed1 rfl) (by omega)) ?_
      | refine Tri.bind (CS.load13 d i (n := 128 * (u.val % 2) + 16 * t.val + 10) (closed0 rfl) (closed1 rfl) (by omega)) ?_
      | refine Tri.bind (CS.load14 d i (n := 128 * (u.val % 2) + 16 * t.val + 10) (closed0 rfl) (closed1 rfl) (by omega)) ?_
  exact Tri.of_eq (Tri.ret _) rfl

set_option maxHeartbeats 2000000 in
/-- Part 46. -/
theorem part46 (v1234 : BitVec 32) :
    Tri defs 𝒱 (th d i) bd CSs (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u t v1234 (half G12 (128 * (u.val % 2) + 16 * t.val + 10) 0))
      ⟨(half G12 (128 * (u.val % 2) + 16 * t.val + 10) 16) ,
        (half G14 (128 * (u.val % 2) + 16 * t.val + 10) 0) ,
        (half G14 (128 * (u.val % 2) + 16 * t.val + 10) 16) ,
        (prods G12 G13 (128 * (u.val % 2) + 16 * t.val + 10)) ,
        (ps12 (prods G12 G13 (128 * (u.val % 2) + 16 * t.val + 10)))⟩
      CSs := by
  have ht : t.val < 8 := t.isLt
  rw [k0_part46_eq_skeleton]; unfold k0_part46_skel
  repeat
    first
      | refine Tri.bind (CS.load12 d i (n := 128 * (u.val % 2) + 16 * t.val + 10) (closed0 rfl) (closed1 rfl) (by omega)) ?_
      | refine Tri.bind (CS.load13 d i (n := 128 * (u.val % 2) + 16 * t.val + 10) (closed0 rfl) (closed1 rfl) (by omega)) ?_
      | refine Tri.bind (CS.load14 d i (n := 128 * (u.val % 2) + 16 * t.val + 10) (closed0 rfl) (closed1 rfl) (by omega)) ?_
  exact Tri.of_eq (Tri.ret _) rfl

set_option maxHeartbeats 2000000 in
/-- Part 47. -/
theorem part47  :
    Tri defs 𝒱 (th d i) bd CSs (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 10) 0) (half G12 (128 * (u.val % 2) + 16 * t.val + 10) 16) (half G14 (128 * (u.val % 2) + 16 * t.val + 10) 0) (half G14 (128 * (u.val % 2) + 16 * t.val + 10) 16) (prods G12 G13 (128 * (u.val % 2) + 16 * t.val + 10)) (ps12 (prods G12 G13 (128 * (u.val % 2) + 16 * t.val + 10))))
      ⟨(ps15 (prods G12 G13 (128 * (u.val % 2) + 16 * t.val + 10))) ,
        (ps15 (prods G12 G14 (128 * (u.val % 2) + 16 * t.val + 10))) ,
        10#32⟩
      CSs := by
  have ht : t.val < 8 := t.isLt
  rw [k0_part47_eq_skeleton]; unfold k0_part47_skel
  exact Tri.of_eq (Tri.ret _) rfl

set_option maxHeartbeats 2000000 in
/-- Part 48. -/
theorem part48 (v15 : BitVec 32) (arg21 : BitVec 32) :
    Tri defs 𝒱 (th d i) bd CSs (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 10) (acc v3 G12 G14 (128 * (u.val % 2) + 16 * t.val) 10) (ps15 (prods G12 G13 (128 * (u.val % 2) + 16 * t.val + 10))) (ps15 (prods G12 G14 (128 * (u.val % 2) + 16 * t.val + 10))) 10#32)
      ⟨(acc v3 G12 G13 (128 * (u.val % 2) + 16 * t.val) 11) ,
        (acc v3 G12 G14 (128 * (u.val % 2) + 16 * t.val) 11) ,
        (half G12 (128 * (u.val % 2) + 16 * t.val + 11) 0) ,
        (half G12 (128 * (u.val % 2) + 16 * t.val + 11) 16) ,
        (half G14 (128 * (u.val % 2) + 16 * t.val + 11) 0) ,
        (half G14 (128 * (u.val % 2) + 16 * t.val + 11) 16) ,
        (prods G12 G13 (128 * (u.val % 2) + 16 * t.val + 11)) ,
        (ps6 (prods G12 G13 (128 * (u.val % 2) + 16 * t.val + 11))) ,
        (el (prods G12 G13 (128 * (u.val % 2) + 16 * t.val + 11)) slices_S16_o7_S1)⟩
      CSs := by
  have ht : t.val < 8 := t.isLt
  rw [k0_part48_eq_skeleton]; unfold k0_part48_skel
  repeat
    first
      | refine Tri.bind (CS.load12 d i (n := 128 * (u.val % 2) + 16 * t.val + 11) (closed0 rfl) (closed1 rfl) (by omega)) ?_
      | refine Tri.bind (CS.load13 d i (n := 128 * (u.val % 2) + 16 * t.val + 11) (closed0 rfl) (closed1 rfl) (by omega)) ?_
      | refine Tri.bind (CS.load14 d i (n := 128 * (u.val % 2) + 16 * t.val + 11) (closed0 rfl) (closed1 rfl) (by omega)) ?_
  exact Tri.of_eq (Tri.ret _) rfl

set_option maxHeartbeats 2000000 in
/-- Part 49. -/
theorem part49  :
    Tri defs 𝒱 (th d i) bd CSs (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 11) 0) (half G12 (128 * (u.val % 2) + 16 * t.val + 11) 16) (half G14 (128 * (u.val % 2) + 16 * t.val + 11) 0) (half G14 (128 * (u.val % 2) + 16 * t.val + 11) 16) (prods G12 G13 (128 * (u.val % 2) + 16 * t.val + 11)) (ps6 (prods G12 G13 (128 * (u.val % 2) + 16 * t.val + 11))) (el (prods G12 G13 (128 * (u.val % 2) + 16 * t.val + 11)) slices_S16_o7_S1))
      ⟨(ps15 (prods G12 G13 (128 * (u.val % 2) + 16 * t.val + 11))) ,
        (prods G12 G14 (128 * (u.val % 2) + 16 * t.val + 11)) ,
        (ps10 (prods G12 G14 (128 * (u.val % 2) + 16 * t.val + 11)))⟩
      CSs := by
  have ht : t.val < 8 := t.isLt
  rw [k0_part49_eq_skeleton]; unfold k0_part49_skel
  exact Tri.of_eq (Tri.ret _) rfl

set_option maxHeartbeats 2000000 in
/-- Part 50. -/
theorem part50 (v15 : BitVec 32) (arg21 : BitVec 32) :
    Tri defs 𝒱 (th d i) bd CSs (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 11) (acc v3 G12 G14 (128 * (u.val % 2) + 16 * t.val) 11) (ps15 (prods G12 G13 (128 * (u.val % 2) + 16 * t.val + 11))) (prods G12 G14 (128 * (u.val % 2) + 16 * t.val + 11)) (ps10 (prods G12 G14 (128 * (u.val % 2) + 16 * t.val + 11))))
      ⟨(acc v3 G12 G13 (128 * (u.val % 2) + 16 * t.val) 12) ,
        (acc v3 G12 G14 (128 * (u.val % 2) + 16 * t.val) 12) ,
        (half G12 (128 * (u.val % 2) + 16 * t.val + 12) 0) ,
        (half G12 (128 * (u.val % 2) + 16 * t.val + 12) 16) ,
        (half G14 (128 * (u.val % 2) + 16 * t.val + 12) 0) ,
        (half G14 (128 * (u.val % 2) + 16 * t.val + 12) 16) ,
        (prods G12 G13 (128 * (u.val % 2) + 16 * t.val + 12)) ,
        (ps1 (prods G12 G13 (128 * (u.val % 2) + 16 * t.val + 12))) ,
        (extractStridedSlice S1 ![2] (prods G12 G13 (128 * (u.val % 2) + 16 * t.val + 12)) slices_S16_o2_S1)⟩
      CSs := by
  have ht : t.val < 8 := t.isLt
  rw [k0_part50_eq_skeleton]; unfold k0_part50_skel
  repeat
    first
      | refine Tri.bind (CS.load12 d i (n := 128 * (u.val % 2) + 16 * t.val + 12) (closed0 rfl) (closed1 rfl) (by omega)) ?_
      | refine Tri.bind (CS.load13 d i (n := 128 * (u.val % 2) + 16 * t.val + 12) (closed0 rfl) (closed1 rfl) (by omega)) ?_
      | refine Tri.bind (CS.load14 d i (n := 128 * (u.val % 2) + 16 * t.val + 12) (closed0 rfl) (closed1 rfl) (by omega)) ?_
  exact Tri.of_eq (Tri.ret _) rfl

set_option maxHeartbeats 2000000 in
/-- Part 51. -/
theorem part51  :
    Tri defs 𝒱 (th d i) bd CSs (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 12) 0) (half G12 (128 * (u.val % 2) + 16 * t.val + 12) 16) (half G14 (128 * (u.val % 2) + 16 * t.val + 12) 0) (half G14 (128 * (u.val % 2) + 16 * t.val + 12) 16) (prods G12 G13 (128 * (u.val % 2) + 16 * t.val + 12)) (ps1 (prods G12 G13 (128 * (u.val % 2) + 16 * t.val + 12))) (extractStridedSlice S1 ![2] (prods G12 G13 (128 * (u.val % 2) + 16 * t.val + 12)) slices_S16_o2_S1))
      ⟨(ps15 (prods G12 G13 (128 * (u.val % 2) + 16 * t.val + 12))) ,
        (prods G12 G14 (128 * (u.val % 2) + 16 * t.val + 12)) ,
        (ps4 (prods G12 G14 (128 * (u.val % 2) + 16 * t.val + 12))) ,
        (el (prods G12 G14 (128 * (u.val % 2) + 16 * t.val + 12)) slices_S16_o5_S1)⟩
      CSs := by
  have ht : t.val < 8 := t.isLt
  rw [k0_part51_eq_skeleton]; unfold k0_part51_skel
  exact Tri.of_eq (Tri.ret _) rfl

set_option maxHeartbeats 2000000 in
/-- Part 52. -/
theorem part52 (v15 : BitVec 32) (arg21 : BitVec 32) :
    Tri defs 𝒱 (th d i) bd CSs (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 12) (acc v3 G12 G14 (128 * (u.val % 2) + 16 * t.val) 12) (ps15 (prods G12 G13 (128 * (u.val % 2) + 16 * t.val + 12))) (prods G12 G14 (128 * (u.val % 2) + 16 * t.val + 12)) (ps4 (prods G12 G14 (128 * (u.val % 2) + 16 * t.val + 12))) (el (prods G12 G14 (128 * (u.val % 2) + 16 * t.val + 12)) slices_S16_o5_S1))
      ⟨(acc v3 G12 G13 (128 * (u.val % 2) + 16 * t.val) 13) ,
        (acc v3 G12 G14 (128 * (u.val % 2) + 16 * t.val) 13) ,
        (Scalar.addi (Scalar.addi v15 (Scalar.muli arg21 16#32)) 13#32) ,
        (half G12 (128 * (u.val % 2) + 16 * t.val + 13) 0) ,
        (half G12 (128 * (u.val % 2) + 16 * t.val + 13) 16) ,
        (half G13 (128 * (u.val % 2) + 16 * t.val + 13) 0) ,
        (half G13 (128 * (u.val % 2) + 16 * t.val + 13) 16)⟩
      CSs := by
  have ht : t.val < 8 := t.isLt
  rw [k0_part52_eq_skeleton]; unfold k0_part52_skel
  repeat
    first
      | refine Tri.bind (CS.load12 d i (n := 128 * (u.val % 2) + 16 * t.val + 13) (closed0 rfl) (closed1 rfl) (by omega)) ?_
      | refine Tri.bind (CS.load13 d i (n := 128 * (u.val % 2) + 16 * t.val + 13) (closed0 rfl) (closed1 rfl) (by omega)) ?_
      | refine Tri.bind (CS.load14 d i (n := 128 * (u.val % 2) + 16 * t.val + 13) (closed0 rfl) (closed1 rfl) (by omega)) ?_
  exact Tri.of_eq (Tri.ret _) rfl

set_option maxHeartbeats 2000000 in
/-- Part 53. -/
theorem part53 (v1597 : BitVec 32) :
    Tri defs 𝒱 (th d i) bd CSs (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u t v1597 (half G12 (128 * (u.val % 2) + 16 * t.val + 13) 0) (half G12 (128 * (u.val % 2) + 16 * t.val + 13) 16) (half G13 (128 * (u.val % 2) + 16 * t.val + 13) 0) (half G13 (128 * (u.val % 2) + 16 * t.val + 13) 16))
      ⟨(ps15 (prods G12 G13 (128 * (u.val % 2) + 16 * t.val + 13))) ,
        (prods G12 G14 (128 * (u.val % 2) + 16 * t.val + 13))⟩
      CSs := by
  have ht : t.val < 8 := t.isLt
  rw [k0_part53_eq_skeleton]; unfold k0_part53_skel
  repeat
    first
      | refine Tri.bind (CS.load12 d i (n := 128 * (u.val % 2) + 16 * t.val + 13) (closed0 rfl) (closed1 rfl) (by omega)) ?_
      | refine Tri.bind (CS.load13 d i (n := 128 * (u.val % 2) + 16 * t.val + 13) (closed0 rfl) (closed1 rfl) (by omega)) ?_
      | refine Tri.bind (CS.load14 d i (n := 128 * (u.val % 2) + 16 * t.val + 13) (closed0 rfl) (closed1 rfl) (by omega)) ?_
  exact Tri.of_eq (Tri.ret _) rfl

set_option maxHeartbeats 2000000 in
/-- Part 54. -/
theorem part54 (v15 : BitVec 32) (arg21 : BitVec 32) :
    Tri defs 𝒱 (th d i) bd CSs (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 v15 arg21 (acc v3 G12 G13 (128 * (u.val % 2) + 16 * t.val) 13) (acc v3 G12 G14 (128 * (u.val % 2) + 16 * t.val) 13) (ps15 (prods G12 G13 (128 * (u.val % 2) + 16 * t.val + 13))) (prods G12 G14 (128 * (u.val % 2) + 16 * t.val + 13)))
      ⟨(acc v3 G12 G13 (128 * (u.val % 2) + 16 * t.val) 14) ,
        (acc v3 G12 G14 (128 * (u.val % 2) + 16 * t.val) 14) ,
        (Scalar.addi (Scalar.addi v15 (Scalar.muli arg21 16#32)) 14#32)⟩
      CSs := by
  have ht : t.val < 8 := t.isLt
  rw [k0_part54_eq_skeleton]; unfold k0_part54_skel
  exact Tri.of_eq (Tri.ret _) rfl

set_option maxHeartbeats 2000000 in
/-- Part 55. -/
theorem part55 (v1718 : BitVec 32) :
    Tri defs 𝒱 (th d i) bd CSs (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u t v1718)
      ⟨(half G12 (128 * (u.val % 2) + 16 * t.val + 14) 0) ,
        (half G12 (128 * (u.val % 2) + 16 * t.val + 14) 16) ,
        (half G14 (128 * (u.val % 2) + 16 * t.val + 14) 0) ,
        (half G14 (128 * (u.val % 2) + 16 * t.val + 14) 16) ,
        (prods G12 G13 (128 * (u.val % 2) + 16 * t.val + 14)) ,
        (ps10 (prods G12 G13 (128 * (u.val % 2) + 16 * t.val + 14))) ,
        (el (prods G12 G13 (128 * (u.val % 2) + 16 * t.val + 14)) slices_S16_o11_S1)⟩
      CSs := by
  have ht : t.val < 8 := t.isLt
  rw [k0_part55_eq_skeleton]; unfold k0_part55_skel
  repeat
    first
      | refine Tri.bind (CS.load12 d i (n := 128 * (u.val % 2) + 16 * t.val + 14) (closed0 rfl) (closed1 rfl) (by omega)) ?_
      | refine Tri.bind (CS.load13 d i (n := 128 * (u.val % 2) + 16 * t.val + 14) (closed0 rfl) (closed1 rfl) (by omega)) ?_
      | refine Tri.bind (CS.load14 d i (n := 128 * (u.val % 2) + 16 * t.val + 14) (closed0 rfl) (closed1 rfl) (by omega)) ?_
  exact Tri.of_eq (Tri.ret _) rfl

set_option maxHeartbeats 2000000 in
/-- Part 56. -/
theorem part56  :
    Tri defs 𝒱 (th d i) bd CSs (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 14) 0) (half G12 (128 * (u.val % 2) + 16 * t.val + 14) 16) (half G14 (128 * (u.val % 2) + 16 * t.val + 14) 0) (half G14 (128 * (u.val % 2) + 16 * t.val + 14) 16) (prods G12 G13 (128 * (u.val % 2) + 16 * t.val + 14)) (ps10 (prods G12 G13 (128 * (u.val % 2) + 16 * t.val + 14))) (el (prods G12 G13 (128 * (u.val % 2) + 16 * t.val + 14)) slices_S16_o11_S1))
      ⟨(ps15 (prods G12 G13 (128 * (u.val % 2) + 16 * t.val + 14))) ,
        (prods G12 G14 (128 * (u.val % 2) + 16 * t.val + 14)) ,
        (ps14 (prods G12 G14 (128 * (u.val % 2) + 16 * t.val + 14)))⟩
      CSs := by
  have ht : t.val < 8 := t.isLt
  rw [k0_part56_eq_skeleton]; unfold k0_part56_skel
  exact Tri.of_eq (Tri.ret _) rfl

set_option maxHeartbeats 2000000 in
/-- Part 57. -/
theorem part57 (v15 : BitVec 32) (arg21 : BitVec 32) :
    Tri defs 𝒱 (th d i) bd CSs (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u v15 t arg21 (acc v3 G12 G13 (128 * (u.val % 2) + 16 * t.val) 14) (acc v3 G12 G14 (128 * (u.val % 2) + 16 * t.val) 14) (ps15 (prods G12 G13 (128 * (u.val % 2) + 16 * t.val + 14))) (prods G12 G14 (128 * (u.val % 2) + 16 * t.val + 14)) (ps14 (prods G12 G14 (128 * (u.val % 2) + 16 * t.val + 14))))
      ⟨(acc v3 G12 G13 (128 * (u.val % 2) + 16 * t.val) 15) ,
        (acc v3 G12 G14 (128 * (u.val % 2) + 16 * t.val) 15) ,
        (half G12 (128 * (u.val % 2) + 16 * t.val + 15) 0) ,
        (half G12 (128 * (u.val % 2) + 16 * t.val + 15) 16) ,
        (half G14 (128 * (u.val % 2) + 16 * t.val + 15) 0) ,
        (half G14 (128 * (u.val % 2) + 16 * t.val + 15) 16) ,
        (prods G12 G13 (128 * (u.val % 2) + 16 * t.val + 15)) ,
        (ps5 (prods G12 G13 (128 * (u.val % 2) + 16 * t.val + 15))) ,
        (extractStridedSlice S1 ![6] (prods G12 G13 (128 * (u.val % 2) + 16 * t.val + 15)) slices_S16_o6_S1)⟩
      CSs := by
  have ht : t.val < 8 := t.isLt
  rw [k0_part57_eq_skeleton]; unfold k0_part57_skel
  repeat
    first
      | refine Tri.bind (CS.load12 d i (n := 128 * (u.val % 2) + 16 * t.val + 15) (closed0 rfl) (closed1 rfl) (by omega)) ?_
      | refine Tri.bind (CS.load13 d i (n := 128 * (u.val % 2) + 16 * t.val + 15) (closed0 rfl) (closed1 rfl) (by omega)) ?_
      | refine Tri.bind (CS.load14 d i (n := 128 * (u.val % 2) + 16 * t.val + 15) (closed0 rfl) (closed1 rfl) (by omega)) ?_
  exact Tri.of_eq (Tri.ret _) rfl

set_option maxHeartbeats 2000000 in
/-- Part 58. -/
theorem part58  :
    Tri defs 𝒱 (th d i) bd CSs (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 (half G12 (128 * (u.val % 2) + 16 * t.val + 15) 0) (half G12 (128 * (u.val % 2) + 16 * t.val + 15) 16) (half G14 (128 * (u.val % 2) + 16 * t.val + 15) 0) (half G14 (128 * (u.val % 2) + 16 * t.val + 15) 16) (prods G12 G13 (128 * (u.val % 2) + 16 * t.val + 15)) (ps5 (prods G12 G13 (128 * (u.val % 2) + 16 * t.val + 15))) (extractStridedSlice S1 ![6] (prods G12 G13 (128 * (u.val % 2) + 16 * t.val + 15)) slices_S16_o6_S1))
      ⟨(ps15 (prods G12 G13 (128 * (u.val % 2) + 16 * t.val + 15))) ,
        (prods G12 G14 (128 * (u.val % 2) + 16 * t.val + 15)) ,
        (ps8 (prods G12 G14 (128 * (u.val % 2) + 16 * t.val + 15))) ,
        (el (prods G12 G14 (128 * (u.val % 2) + 16 * t.val + 15)) slices_S16_o9_S1)⟩
      CSs := by
  have ht : t.val < 8 := t.isLt
  rw [k0_part58_eq_skeleton]; unfold k0_part58_skel
  exact Tri.of_eq (Tri.ret _) rfl

set_option maxHeartbeats 2000000 in
/-- Part 59. -/
theorem part59 (arg20 : BitVec 32) (v15 : BitVec 32) (c0_i32_20 : BitVec 32) (c1_i32_22 : BitVec 32) :
    Tri defs 𝒱 (th d i) bd CSs (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v3 u arg20 v15 c0_i32_20 c1_i32_22 t)
      ⟨(Scalar.addi (Scalar.muli arg20 128#32) (Scalar.muli (Scf.iv c0_i32_20 c1_i32_22 t) 16#32)) ,
        (acc v3 G12 G14 (128 * (u.val % 2) + 16 * t.val) 15) ,
        (ps15 (prods G12 G14 (128 * (u.val % 2) + 16 * t.val + 15))) ,
        (cmpi .eq v3 (broadcast S16 15#32)) ,
        (acc v3 G12 G13 (128 * (u.val % 2) + 16 * t.val) 16)⟩
      CSs := by
  have ht : t.val < 8 := t.isLt
  rw [k0_part59_eq_skeleton]; unfold k0_part59_skel
  refine Tri.bind (part23 ..) ?_
  refine Tri.bind (part24 ..) ?_
  refine Tri.bind (part25 ..) ?_
  refine Tri.bind (part26 ..) ?_
  refine Tri.bind (part27 ..) ?_
  refine Tri.bind (part28 ..) ?_
  refine Tri.bind (part29 ..) ?_
  refine Tri.bind (part30 ..) ?_
  refine Tri.bind (part31 ..) ?_
  refine Tri.bind (part32 ..) ?_
  refine Tri.bind (part33 ..) ?_
  refine Tri.bind (part34 ..) ?_
  refine Tri.bind (part35 ..) ?_
  refine Tri.bind (part36 ..) ?_
  refine Tri.bind (part37 ..) ?_
  refine Tri.bind (part38 ..) ?_
  refine Tri.bind (part39 ..) ?_
  refine Tri.bind (part40 ..) ?_
  refine Tri.bind (part41 ..) ?_
  refine Tri.bind (part42 ..) ?_
  refine Tri.bind (part43 ..) ?_
  refine Tri.bind (part44 ..) ?_
  refine Tri.bind (part45 ..) ?_
  refine Tri.bind (part46 ..) ?_
  refine Tri.bind (part47 ..) ?_
  refine Tri.bind (part48 ..) ?_
  refine Tri.bind (part49 ..) ?_
  refine Tri.bind (part50 ..) ?_
  refine Tri.bind (part51 ..) ?_
  refine Tri.bind (part52 ..) ?_
  refine Tri.bind (part53 ..) ?_
  refine Tri.bind (part54 ..) ?_
  refine Tri.bind (part55 ..) ?_
  refine Tri.bind (part56 ..) ?_
  refine Tri.bind (part57 ..) ?_
  refine Tri.bind (part58 ..) ?_
  exact Tri.of_eq (Tri.ret _) rfl

end Cert.Proof.KerI

end
-- ==== Proof.ComputeI.lean ====
/-
  What the program computes of a batch position, and the loop that computes a chunk.

  * `rowDot`: the sum over a row of the customer table and a row of the article table, in the program's order.
  * `sg`: the logistic function of that sum, in the program's operations.
  * `outv`: a subcore's 512 results.
-/
module

public import proofs.«01_k».proof.Proof.RowsI

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

/-- The element of a table at a row and a column. -/
def tcell (r c : ℕ) : S1000000x32.Idx := fun a =>
  match a with
  | 0 => (⟨r % 1000000, Nat.mod_lt _ (by decide)⟩ : Fin 1000000)
  | 1 => (⟨c % 32, Nat.mod_lt _ (by decide)⟩ : Fin 32)

theorem tcell_eq {z : S1000000x32.Idx} {r c : ℕ} (h0 : (z 0).val = r) (h1 : (z 1).val = c) : z = tcell r c := by
  have b0 : (z 0).val < 1000000 := (z 0).isLt
  have b1 : (z 1).val < 32 := (z 1).isLt
  funext a
  match a with
  | 0 => exact Fin.ext (by show (z 0).val = r % 1000000; omega)
  | 1 => exact Fin.ext (by show (z 1).val = c % 32; omega)

/-- The rows of the table that the words name, from position `b`, laid out from row `h`. -/
def gath (W : ℕ → BitVec 32) (T : S1000000x32.Idx → Elt F .f32) (h b : ℕ) : S256x32.Idx → Elt F .f32 :=
  fun y => T (tcell (W (b + ((y 0).val - h))).toNat (y 1).val)

theorem isGather_gath (W : ℕ → BitVec 32) (T : S1000000x32.Idx → Elt F .f32) (h b : ℕ) : IsGather W T (gath W T h b) h b := by
  intro y z _ _ h0 h1
  unfold gath
  rw [← tcell_eq h0 h1]

/-- Half a row of a table. -/
def hrow (T : S1000000x32.Idx → Elt F .f32) (r lo : ℕ) : FVec F S16 .f32 := fun x => T (tcell r (lo + (x 0).val))

/-- The sum over a customer row and an article row, in the program's order. -/
def rowDot (T5 T6 : S1000000x32.Idx → Elt F .f32) (rc ra : ℕ) : F .f32 :=
  ps15 (addf (mulf (hrow T5 rc 0) (hrow T6 ra 0)) (mulf (hrow T5 rc 16) (hrow T6 ra 16)))

/-- The logistic function, in the program's operations. -/
def sg (s : F .f32) : F .f32 := k0_pay1 (broadcast S16 s) (fun a => match a with | 0 => (⟨0, Nat.zero_lt_succ 15⟩ : Fin 16))

/-- A subcore's results: at position `p`, of the rows that the words `W` and `W'` name there. -/
def outv (T5 T6 : S1000000x32.Idx → Elt F .f32) (W W' : ℕ → BitVec 32) : S512.Idx → Elt F .f32 :=
  fun x => sg (rowDot T5 T6 (W (x 0).val).toNat (W' (x 0).val).toNat)

theorem pay1_apply (v : FVec F S16 .f32) (x : S16.Idx) : k0_pay1 v x = sg (v x) := rfl

theorem pay2_eq (a : FVec F S16 .f32) (s : F .f32) (m : IVec S16 1) : k0_pay2 a s m = k0_pay1 (select m (broadcast S16 s) a) := rfl

/-- The program's lane numbers. -/
abbrev lanes : IVec S16 32 := iota .scVector S16 32 [0] iota_S16_d0_w32_scVector

theorem lanes_apply (x : S16.Idx) : lanes x = BitVec.ofNat 32 (x 0).val := by
  show BitVec.ofNat 32 (0 * 16 + (x 0).val) = _
  rw [Nat.zero_mul, Nat.zero_add]

/-- The vector of sums holds at each lane its row's sum. -/
theorem acc_apply (A B : S256x32.Idx → Elt F .f32) (n : ℕ) : ∀ k : ℕ, k ≤ 16 → ∀ x : S16.Idx, (x 0).val < k →
    acc lanes A B n k x = ps15 (prods A B (n + (x 0).val))
  | 0, _, _, h => absurd h (Nat.not_lt_zero _)
  | k + 1, hk, x, h => by
    have hx : (x 0).val < 16 := (x 0).isLt
    show (if BitVec.ofBool (lanes x == BitVec.ofNat 32 k) = 1 then ps15 (prods A B (n + k)) else acc lanes A B n k x) = _
    rw [lanes_apply]
    by_cases e : (x 0).val = k
    · rw [e, beq_self_eq_true, if_pos (by decide)]
    · have hne : (BitVec.ofNat 32 (x 0).val == BitVec.ofNat 32 k) = false := by
        rw [beq_eq_false_iff_ne]
        intro hc
        have := congrArg BitVec.toNat hc
        rw [BitVec.toNat_ofNat, BitVec.toNat_ofNat] at this
        omega
      rw [hne, if_neg (by decide)]
      exact acc_apply A B n k (by omega) x (by omega)

/-- Half a gathered row is half the table's row. -/
theorem half_gath (W : ℕ → BitVec 32) (T : S1000000x32.Idx → Elt F .f32) {h b n lo : ℕ} (hn : n < 256) (hlo : lo + 16 ≤ 32) :
    half (gath W T h b) n lo = hrow T (W (b + (n - h))).toNat lo := by
  funext x
  have hx : (x 0).val < 16 := (x 0).isLt
  have hr : (Shape.reshapeEquiv shapeCasts_S1x16_S16 x 1).val = (x 0).val := by
    rw [show Shape.reshapeEquiv shapeCasts_S1x16_S16 x = _ from Shape.reshapeEquiv_cons_one (n := 1) (d := ![16]) _ x]
    rfl
  show T (tcell (W (b + (n % 256 - h))).toNat ((lo + (Shape.reshapeEquiv shapeCasts_S1x16_S16 x 1).val) % 32)) = T (tcell _ (lo + (x 0).val))
  rw [hr, Nat.mod_eq_of_lt hn, Nat.mod_eq_of_lt (show lo + (x 0).val < 32 by omega)]

/-- A gathered row's sum is the sum over the tables' rows. -/
theorem ps15_gath (W W' : ℕ → BitVec 32) (T5 T6 : S1000000x32.Idx → Elt F .f32) {h b n : ℕ} (hn : n < 256) :
    ps15 (prods (gath W T5 h b) (gath W' T6 h b) n) = rowDot T5 T6 (W (b + (n - h))).toNat (W' (b + (n - h))).toNat := by
  unfold prods mulHalf rowDot
  rw [half_gath W T5 hn (by omega), half_gath W' T6 hn (by omega), half_gath W T5 hn (by omega), half_gath W' T6 hn (by omega)]

variable (d : Dev nD) (i : grid0.Coords)
variable {defs : Defs nD τ sig (Elt F) Λ₀} {𝒱 : Variants} {bd : Option 𝒱.V}

section Out

variable {R : Memref sig .scVector .vmem S512 .f32} (hR : R.IsWhole) (O : S512.Idx → Elt F .f32)

/-- A result buffer whose first `n` elements are computed. -/
def OUT (n : ℕ) : sProp 𝕄 := iprop(∃ X, own (th d i) hR fullShare Finset.univ X ∗ ⌜∀ x : S512.Idx, (x 0).val < n → X x = O x⌝)

variable {hR O}

/-- A read of the result buffer that the program makes no use of. -/
theorem OUT.skip {n : ℕ} {l : LoadRect S512} {hl : R.view.LoadsAt l} {C B : sProp 𝕄} {β : Type} {v : β} {p : Prog (TpuEff nD τ sig (Elt F) Λ₀ (th d i).2) β}
    (h : Tri defs 𝒱 (th d i) bd iprop(OUT d i hR O n ∗ C) p v B) :
    Tri defs 𝒱 (th d i) bd iprop(OUT d i hR O n ∗ C) (Prog.lift (.load R l hl) >>= fun _ => p) v B := by
  refine Tri.intro fun Q => ?_
  rw [wp_bind]
  unfold OUT at h ⊢
  iintro ⟨⟨⟨%X, HX, %hX⟩, HC⟩, HQ⟩
  iapply ((Tri.load (c := th d i) hR (q := fullShare) (X := X) (Finset.subset_univ _)).run _)
  isplitl [HX]; · iexact HX
  iintro HX
  iapply (h.run Q)
  isplitl [HX HC]
  · isplitl [HX]
    · iexists X; isplitl [HX]; · iexact HX
      ipureintro; exact hX
    · iexact HC
  · iexact HQ

/-- The store of the next sixteen results. -/
theorem OUT.store {off : Fin 1 → ℕ} {hin : ∀ a, off a + S16.size a ≤ S512.size a} {w : (Rect.unit (s := S512) off S16.size hin).shape.Idx → Elt F .f32}
    {hx : (R.access (Rect.unit (s := S512) off S16.size hin)).Stores Finset.univ} {hmk : Finset.univ = Finset.univ ∨ ∀ a, (Rect.unit (s := S512) off S16.size hin).stride a = 1}
    {n : ℕ} (ho : off 0 = n) (hw : ∀ (x : S16.Idx) (y : S512.Idx), (y 0).val = n + (x 0).val → w x = O y) :
    Tri defs 𝒱 (th d i) bd (OUT d i hR O n : sProp 𝕄) (Prog.lift (.store R (Rect.unit (s := S512) off S16.size hin) w Finset.univ hx hmk)) ⟨⟩ (OUT d i hR O (n + 16)) := by
  unfold OUT
  refine Tri.exists fun X => ?_
  refine Tri.intro fun Q => ?_
  have key : ∀ x : S16.Idx, ((Rect.unit (s := S512) off S16.size hin).emb x 0).val = n + (x 0).val := fun x => by
    show off 0 + 1 * (x 0).val = _
    omega
  have hmem : ∀ y : S512.Idx, y ∈ (Rect.unit (s := S512) off S16.size hin).set ↔ n ≤ (y 0).val ∧ (y 0).val < n + 16 := fun y => by
    rw [Rect.mem_set_unit, Fin.forall_fin_one, ho]; rfl
  iintro ⟨⟨HX, %hX⟩, HQ⟩
  iapply ((Tri.store (c := th d i) hR (r := Rect.unit (s := S512) off S16.size hin) (w := w) (hx := hx) (hmk := hmk) (X := X)
    (Y := fun y => if y ∈ (Rect.unit (s := S512) off S16.size hin).set then O y else X y) (fun x => by
      rw [if_pos ((hmem _).mpr (by have := key x; have hx : (x 0).val < 16 := (x 0).isLt; omega))]; exact hw x _ (key x)) (fun y hy => by rw [if_neg hy])).run Q)
  isplitl [HX]; · iexact HX
  iintro HX
  iapply HQ
  iexists _
  isplitl [HX]; · iexact HX
  ipureintro
  intro x hx
  by_cases hm : x ∈ (Rect.unit (s := S512) off S16.size hin).set
  · rw [if_pos hm]
  · rw [if_neg hm]
    rw [hmem] at hm
    exact hX x (by omega)

end Out

section State

variable {arg12 : Memref sig .scVector .vmem S256x32 .f32} (harg12 : arg12.IsWhole) {arg13 : Memref sig .scVector .vmem S256x32 .f32} (harg13 : arg13.IsWhole) {arg14 : Memref sig .scVector .vmem S256x32 .f32} (harg14 : arg14.IsWhole)
  {arg15 : Memref sig .scVector .vmem S512 .f32} (harg15 : arg15.IsWhole) {arg16 : Memref sig .scVector .vmem S512 .f32} (harg16 : arg16.IsWhole)
  (G12 G13 G14 : S256x32.Idx → Elt F .f32) (O15 O16 : S512.Idx → Elt F .f32) (h : ℕ)

/-- A gathered chunk, and the results computed up to position `n`. -/
def CO (n : ℕ) : sProp 𝕄 :=
  iprop(OUT d i harg15 O15 n ∗ OUT d i harg16 O16 n ∗ CS d i harg12 harg13 harg14 G12 G13 G14 h)

end State

section Group

variable (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S1000000x32 .f32) (harg5 : arg5.IsWhole) (arg6 : Memref sig .scVector .hbm S1000000x32 .f32) (harg6 : arg6.IsWhole) (arg7 : Memref sig .scVector .hbm S16384 .f32) (harg7 : arg7.IsWhole) (arg8 : Memref sig .scVector .hbm S16384 .f32) (harg8 : arg8.IsWhole) (arg9 : Memref sig .scVector .vmem S512 .i32) (harg9 : arg9.IsWhole) (arg10 : Memref sig .scVector .vmem S512 .i32) (harg10 : arg10.IsWhole) (arg11 : Memref sig .scVector .vmem S512 .i32) (harg11 : arg11.IsWhole) (arg12 : Memref sig .scVector .vmem S256x32 .f32) (harg12 : arg12.IsWhole) (arg13 : Memref sig .scVector .vmem S256x32 .f32) (harg13 : arg13.IsWhole) (arg14 : Memref sig .scVector .vmem S256x32 .f32) (harg14 : arg14.IsWhole) (arg15 : Memref sig .scVector .vmem S512 .f32) (harg15 : arg15.IsWhole) (arg16 : Memref sig .scVector .vmem S512 .f32) (harg16 : arg16.IsWhole) (arg17 : DmaSems sig S_) (arg18 : DmaSems sig S_) (arg19 : DmaSems sig S_) (v8_r0 : DmaSems sig S_) (v8_r1 : DmaSems sig S_) (v8_r2 : DmaSems sig S_) (v8_r3 : DmaSems sig S_) (v8_r4 : DmaSems sig S_)

local notation "COs" => CO d i harg12 harg13 harg14 harg15 harg16

set_option maxHeartbeats 1000000 in
/-- One group of sixteen lanes of a chunk's computation. -/
theorem group5 (u : Fin k0_t2_loop.trips) (t : Fin k0_t5_loop.trips) (T5 T6 : S1000000x32.Idx → Elt F .f32) (W9 W10 W11 : ℕ → BitVec 32) (arg20 v15 : BitVec 32) :
    Tri defs 𝒱 (th d i) bd (COs (gath W9 T5 (128 * (u.val % 2)) (128 * u.val)) (gath W10 T6 (128 * (u.val % 2)) (128 * u.val)) (gath W11 T6 (128 * (u.val % 2)) (128 * u.val))
        (outv T5 T6 W9 W10) (outv T5 T6 W9 W11) (128 * (u.val % 2)) (128 * u.val + 16 * t.val) : sProp 𝕄)
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes u arg20 v15 t ()) ()
      (COs (gath W9 T5 (128 * (u.val % 2)) (128 * u.val)) (gath W10 T6 (128 * (u.val % 2)) (128 * u.val)) (gath W11 T6 (128 * (u.val % 2)) (128 * u.val))
        (outv T5 T6 W9 W10) (outv T5 T6 W9 W11) (128 * (u.val % 2)) (128 * u.val + 16 * t.val + 16)) := by
  have hu : u.val < 4 := u.isLt
  have ht : t.val < 8 := t.isLt
  have hoff : k0_off201 u t 0 = 128 * u.val + 16 * t.val := by rw [k0_off201_eq]; rfl
  have hval : ∀ (W W' : ℕ → BitVec 32) (v : FVec F S16 .f32), (∀ x : S16.Idx, v x = acc lanes (gath W T5 (128 * (u.val % 2)) (128 * u.val)) (gath W' T6 (128 * (u.val % 2)) (128 * u.val)) (128 * (u.val % 2) + 16 * t.val) 16 x) →
      ∀ (x : S16.Idx) (y : S512.Idx), (y 0).val = 128 * u.val + 16 * t.val + (x 0).val → k0_pay1 v x = outv T5 T6 W W' y := by
    intro W W' v hv x y hy
    have hx : (x 0).val < 16 := (x 0).isLt
    rw [pay1_apply, hv, acc_apply _ _ _ _ (le_refl _) x hx, ps15_gath W W' T5 T6 (by omega)]
    unfold outv
    rw [show 128 * u.val + (128 * (u.val % 2) + 16 * t.val + (x 0).val - 128 * (u.val % 2)) = (y 0).val by omega]
  unfold k0_t5_body
  unfold CO
  refine Tri.bind (B := iprop(OUT d i harg15 _ _ ∗ OUT d i harg16 _ _ ∗ CS d i harg12 harg13 harg14 _ _ _ _))
    ((part59 (d := d) (i := i) ..).framed (R := iprop(OUT d i harg15 (outv T5 T6 W9 W10) (128 * u.val + 16 * t.val) ∗ OUT d i harg16 (outv T5 T6 W9 W11) (128 * u.val + 16 * t.val)))|>.conv
      (by iintro ⟨H1, H2, H3⟩; isplitl [H3]; · iexact H3
          isplitl [H1]; · iexact H1
          iexact H2)
      (by iintro ⟨H3, H1, H2⟩; isplitl [H1]; · iexact H1
          isplitl [H2]; · iexact H2
          iexact H3)) ?_
  refine OUT.skip d i ?_
  refine Tri.bind ((OUT.store d i hoff (hval W9 W10 _ fun _ => rfl)).framed) ?_
  refine Tri.conv (A := iprop(OUT d i harg16 (outv T5 T6 W9 W11) (128 * u.val + 16 * t.val) ∗ OUT d i harg15 (outv T5 T6 W9 W10) (128 * u.val + 16 * t.val + 16) ∗ CS d i harg12 harg13 harg14 _ _ _ _))
    (B := iprop(OUT d i harg16 (outv T5 T6 W9 W11) (128 * u.val + 16 * t.val + 16) ∗ OUT d i harg15 (outv T5 T6 W9 W10) (128 * u.val + 16 * t.val + 16) ∗ CS d i harg12 harg13 harg14 _ _ _ _)) ?_
    (by iintro ⟨H1, H2, H3⟩; isplitl [H2]; · iexact H2
        isplitl [H1]; · iexact H1
        iexact H3)
    (by iintro ⟨H1, H2, H3⟩; isplitl [H2]; · iexact H2
        isplitl [H1]; · iexact H1
        iexact H3)
  refine OUT.skip d i ?_
  refine Tri.bind ((OUT.store d i hoff (hval W9 W11 _ fun _ => rfl)).framed) ?_
  exact Tri.ret _

end Group

end Cert.Proof.KerI

end
-- ==== Proof.ChunksI.lean ====
/-
  The program's four chunks: a chunk's transfers are waited for, the next chunk's are started, the chunk is computed.
-/
module

public import proofs.«01_k».proof.Proof.GroupsI
public import proofs.«01_k».proof.Proof.ComputeI

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

variable (d : Dev nD) (i : grid0.Coords) (EC : UEmb Counters (MT nD τ sig (HIx 1) (Elt F) ℕ U ℕ))
variable {defs : Defs nD τ sig (Elt F) Λ₀} {𝒱 : Variants} {bd : Option 𝒱.V}

/-- A view shift after the program. -/
theorem Tri.postUpd {α : Type} {A B B' : sProp 𝕄} {p : Prog (TpuEff nD τ sig (Elt F) Λ₀ (th d i).2) α} {v : α} (ht : Tri defs 𝒱 (th d i) bd A p v B) (h : B ⊢ |={Set.univ}=> B') :
    Tri defs 𝒱 (th d i) bd A p v B' := by
  refine Tri.intro fun Q => ?_
  iintro ⟨HA, HQ⟩
  iapply (wp_fupd frame (wpE defs 𝒱 (th d i) bd) Set.univ _ Q)
  iapply (ht.run _)
  isplitl [HA]; · iexact HA
  iintro HB
  imod h $$ HB with HB
  imodintro
  iapply HQ; iexact HB

/-! ## Half buffers -/

section Half

variable {R : Memref sig .scVector .vmem S256x32 .f32} (hR : R.IsWhole)

/-- A half buffer, holding anything. -/
def anyHalf (h : ℕ) : sProp 𝕄 := iprop(∃ X : S256x32.Idx → Elt F .f32, own (th d i) hR fullShare (rowsFrom h (h + 128)) X)

/-- The rows of a half buffer together. -/
theorem rows_join (G : S256x32.Idx → Elt F .f32) (h : ℕ) :
    (bigSep Finset.univ (dlv d i hR G h) : sProp 𝕄) = own (th d i) hR fullShare (rowsFrom h (h + 128)) G := by
  have hu : rowsFrom h (h + 128) = (Finset.univ : Finset (Fin 128)).biUnion fun t => rowsFrom (h + t.val) (h + t.val + 1) := by
    ext y
    simp only [Finset.mem_biUnion, Finset.mem_univ, true_and, mem_rowsFrom]
    constructor
    · intro hy; exact ⟨⟨(y 0).val - h, by omega⟩, by show h + ((y 0).val - h) ≤ _ ∧ _ < h + ((y 0).val - h) + 1; omega⟩
    · rintro ⟨t, ht⟩; have := t.isLt; omega
  rw [hu, own_biUnion (th d i) hR]
  · rfl
  · intro t _ t' _ hne
    refine rowsFrom_disjoint ?_
    have : t.val ≠ t'.val := fun e => hne (Fin.ext e)
    omega

/-- Both halves are the buffer. -/
theorem halves_join : iprop(anyHalf d i hR 0 ∗ anyHalf d i hR 128) ⊢ (iprop(∃ X : S256x32.Idx → Elt F .f32, own (th d i) hR fullShare Finset.univ X) : sProp 𝕄) := by
  unfold anyHalf
  iintro ⟨⟨%X, HX⟩, ⟨%Y, HY⟩⟩
  iexists (fun y => if (y 0).val < 128 then X y else Y y)
  have hu : (Finset.univ : Finset S256x32.Idx) = rowsFrom 0 (0 + 128) ∪ rowsFrom 128 (128 + 128) := by
    ext y
    have : (y 0).val < 256 := (y 0).isLt
    simp only [Finset.mem_univ, Finset.mem_union, mem_rowsFrom, true_iff]; omega
  rw [hu]
  iapply (own_union (th d i) hR (rowsFrom_disjoint (by omega))).2
  isplitl [HX]
  · iapply (Entails.of_eq (own_congr (th d i) hR (X := X) (Y := fun y => if (y 0).val < 128 then X y else Y y) (fun y hy => by rw [mem_rowsFrom] at hy; exact (if_pos (by omega)).symm))); iexact HX
  · iapply (Entails.of_eq (own_congr (th d i) hR (X := Y) (Y := fun y => if (y 0).val < 128 then X y else Y y) (fun y hy => by rw [mem_rowsFrom] at hy; exact (if_neg (by omega)).symm))); iexact HY

/-- The buffer is both halves. -/
theorem halves_split : (iprop(∃ X : S256x32.Idx → Elt F .f32, own (th d i) hR fullShare Finset.univ X) : sProp 𝕄) ⊢ iprop(anyHalf d i hR 0 ∗ anyHalf d i hR 128) := by
  unfold anyHalf
  have hu : (Finset.univ : Finset S256x32.Idx) = rowsFrom 0 (0 + 128) ∪ rowsFrom 128 (128 + 128) := by
    ext y
    have : (y 0).val < 256 := (y 0).isLt
    simp only [Finset.mem_univ, Finset.mem_union, mem_rowsFrom, true_iff]; omega
  rw [hu]
  iintro ⟨%X, HX⟩
  ihave HX := (own_union (th d i) hR (rowsFrom_disjoint (by omega))).1 $$ HX
  icases HX with ⟨H1, H2⟩
  isplitl [H1]
  · iexists X; iexact H1
  · iexists X; iexact H2

end Half

/-! ## What the chunks run between -/

section State

variable {arg5 : Memref sig .scVector .hbm S1000000x32 .f32} (harg5 : arg5.IsWhole) {arg6 : Memref sig .scVector .hbm S1000000x32 .f32} (harg6 : arg6.IsWhole)
  {arg9 : Memref sig .scVector .vmem S512 .i32} (harg9 : arg9.IsWhole) {arg10 : Memref sig .scVector .vmem S512 .i32} (harg10 : arg10.IsWhole) {arg11 : Memref sig .scVector .vmem S512 .i32} (harg11 : arg11.IsWhole)
  {arg12 : Memref sig .scVector .vmem S256x32 .f32} (harg12 : arg12.IsWhole) {arg13 : Memref sig .scVector .vmem S256x32 .f32} (harg13 : arg13.IsWhole) {arg14 : Memref sig .scVector .vmem S256x32 .f32} (harg14 : arg14.IsWhole)
  {arg15 : Memref sig .scVector .vmem S512 .f32} (harg15 : arg15.IsWhole) {arg16 : Memref sig .scVector .vmem S512 .f32} (harg16 : arg16.IsWhole)
  (arg17 arg18 arg19 : DmaSems sig S_)
  (O : CellTallies nD τ sig (HIx 1)) (Wt : Waits sig (HIx 1))
  (T5 T6 : S1000000x32.Idx → Elt F .f32) (W9 W10 W11 : ℕ → BitVec 32)

/-- The waits that the subcore has made, and that it may wait. -/
def WT : sProp 𝕄 := iprop(waits (th d i) O Wt none ∗ MayWaits (th d i) none O)

/-- The tables' shares and the index buffers, no transfer issued, with the three semaphores at zero. -/
def TB : sProp 𝕄 :=
  iprop((∃ q, own (th d i) harg5 q Finset.univ T5) ∗ (∃ q, own (th d i) harg6 q Finset.univ T6) ∗ (∃ q, own (th d i) harg6 q Finset.univ T6)
    ∗ idxs d i harg9 W9 ∗ idxs d i harg10 W10 ∗ idxs d i harg11 W11)

/-- The three semaphores at zero. -/
def SV : sProp 𝕄 := iprop(semVal (th d i, .dma arg17.sem) 0 ∗ semVal (th d i, .dma arg18.sem) 0 ∗ semVal (th d i, .dma arg19.sem) 0)

/-- The three half buffers from row `h`, holding anything. -/
def HB (h : ℕ) : sProp 𝕄 := iprop(anyHalf d i harg12 h ∗ anyHalf d i harg13 h ∗ anyHalf d i harg14 h)

/-- The first row of chunk `k`'s half buffer. -/
abbrev hh (k : ℕ) : ℕ := 128 * (k % 2)

/-- Chunk `k` with `n` of each gather's transfers issued. -/
abbrev FK (k n : ℕ) : sProp 𝕄 :=
  FS d i EC harg5 harg6 harg9 harg10 harg11 harg12 harg13 harg14 arg17 arg18 arg19 T5 T6 W9 W10 W11
    (gath W9 T5 (hh k) (128 * k)) (gath W10 T6 (hh k) (128 * k)) (gath W11 T6 (hh k) (128 * k)) (hh k) n n n

/-- Chunk `k` issued, or no chunk left. -/
def Rdy (k : ℕ) : sProp 𝕄 :=
  if k < 4 then FK d i EC harg5 harg6 harg9 harg10 harg11 harg12 harg13 harg14 arg17 arg18 arg19 T5 T6 W9 W10 W11 k 128
  else iprop(TB d i harg5 harg6 harg9 harg10 harg11 T5 T6 W9 W10 W11 ∗ SV d i arg17 arg18 arg19 ∗ HB d i harg12 harg13 harg14 (hh k))

/-- The two result buffers, computed up to position `n`. -/
def RS (n : ℕ) : sProp 𝕄 := iprop(OUT d i harg15 (outv T5 T6 W9 W10) n ∗ OUT d i harg16 (outv T5 T6 W9 W11) n)

/-- Before chunk `k` is waited for. -/
def Inv (k : ℕ) : sProp 𝕄 :=
  iprop(Rdy d i EC harg5 harg6 harg9 harg10 harg11 harg12 harg13 harg14 arg17 arg18 arg19 T5 T6 W9 W10 W11 k
    ∗ HB d i harg12 harg13 harg14 (hh (k + 1)) ∗ RS d i harg15 harg16 T5 T6 W9 W10 W11 (128 * k) ∗ WT d i O Wt)

/-- The gathers' conditions hold of the rows that the words name. -/
theorem ok_gath (h9 : Words W9) (h10 : Words W10) (h11 : Words W11) (h b : ℕ) :
    FSok T5 T6 W9 W10 W11 (gath W9 T5 h b) (gath W10 T6 h b) (gath W11 T6 h b) h b :=
  ⟨isGather_gath _ _ _ _, isGather_gath _ _ _ _, isGather_gath _ _ _ _, h9, h10, h11⟩

/-- A chunk's gathers with no transfer issued. -/
theorem FS.empty [EC.LandsIn (upEmb : UEmb _ 𝕄)] (G12 G13 G14 : S256x32.Idx → Elt F .f32) (h : ℕ) :
    (iprop(TB d i harg5 harg6 harg9 harg10 harg11 T5 T6 W9 W10 W11 ∗ SV d i arg17 arg18 arg19 ∗ HB d i harg12 harg13 harg14 h) : sProp 𝕄)
      ⊢ |={Set.univ}=> FS d i EC harg5 harg6 harg9 harg10 harg11 harg12 harg13 harg14 arg17 arg18 arg19 T5 T6 W9 W10 W11 G12 G13 G14 h 0 0 0 := by
  haveI : ∀ (R : Memref sig .scVector .vmem S256x32 .f32) (hR : R.IsWhole) G t, Storable (upEmb : UEmb _ 𝕄) (dlv d i hR G h t) := fun R hR G t => by
    unfold dlv; infer_instance
  unfold TB SV HB anyHalf FS Gat
  iintro ⟨⟨⟨%q1, H1⟩, ⟨%q2, H2⟩, ⟨%q3, H3⟩, HI⟩, ⟨V1, V2, V3⟩, ⟨⟨%X1, B1⟩, ⟨%X2, B2⟩, ⟨%X3, B3⟩⟩⟩
  imod (batch_alloc' EC (th d i) none (NR arg12) (dlv d i harg12 G12 h) (sm := .dma arg17.sem) (E := Set.univ)) $$ V1 with V1
  imod (batch_alloc' EC (th d i) none (NR arg13) (dlv d i harg13 G13 h) (sm := .dma arg18.sem) (E := Set.univ)) $$ V2 with V2
  imod (batch_alloc' EC (th d i) none (NR arg14) (dlv d i harg14 G14 h) (sm := .dma arg19.sem) (E := Set.univ)) $$ V3 with V3
  imodintro
  isplitl [H1 B1 V1]
  · isplitl [H1]; · iexists q1; iexact H1
    isplitl [B1]; · iexists X1; iexact B1
    iexact V1
  isplitl [H2 B2 V2]
  · isplitl [H2]; · iexists q2; iexact H2
    isplitl [B2]; · iexists X2; iexact B2
    iexact V2
  isplitl [H3 B3 V3]
  · isplitl [H3]; · iexists q3; iexact H3
    isplitl [B3]; · iexists X3; iexact B3
    iexact V3
  iexact HI

end State

section Body

variable (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S1000000x32 .f32) (harg5 : arg5.IsWhole) (arg6 : Memref sig .scVector .hbm S1000000x32 .f32) (harg6 : arg6.IsWhole) (arg7 : Memref sig .scVector .hbm S16384 .f32) (harg7 : arg7.IsWhole) (arg8 : Memref sig .scVector .hbm S16384 .f32) (harg8 : arg8.IsWhole) (arg9 : Memref sig .scVector .vmem S512 .i32) (harg9 : arg9.IsWhole) (arg10 : Memref sig .scVector .vmem S512 .i32) (harg10 : arg10.IsWhole) (arg11 : Memref sig .scVector .vmem S512 .i32) (harg11 : arg11.IsWhole) (arg12 : Memref sig .scVector .vmem S256x32 .f32) (harg12 : arg12.IsWhole) (arg13 : Memref sig .scVector .vmem S256x32 .f32) (harg13 : arg13.IsWhole) (arg14 : Memref sig .scVector .vmem S256x32 .f32) (harg14 : arg14.IsWhole) (arg15 : Memref sig .scVector .vmem S512 .f32) (harg15 : arg15.IsWhole) (arg16 : Memref sig .scVector .vmem S512 .f32) (harg16 : arg16.IsWhole) (arg17 : DmaSems sig S_) (arg18 : DmaSems sig S_) (arg19 : DmaSems sig S_) (v8_r0 : DmaSems sig S_) (v8_r1 : DmaSems sig S_) (v8_r2 : DmaSems sig S_) (v8_r3 : DmaSems sig S_) (v8_r4 : DmaSems sig S_)
  (O : CellTallies nD τ sig (HIx 1)) (Wt : Waits sig (HIx 1))
  (T5 T6 : S1000000x32.Idx → Elt F .f32) (W9 W10 W11 : ℕ → BitVec 32) (G12 G13 G14 : S256x32.Idx → Elt F .f32) (h : ℕ)

local notation "FSs" => FS d i EC harg5 harg6 harg9 harg10 harg11 harg12 harg13 harg14 arg17 arg18 arg19 T5 T6 W9 W10 W11 G12 G13 G14 h
local notation "FKs" => FK d i EC harg5 harg6 harg9 harg10 harg11 harg12 harg13 harg14 arg17 arg18 arg19 T5 T6 W9 W10 W11
local notation "TBs" => TB d i harg5 harg6 harg9 harg10 harg11 T5 T6 W9 W10 W11
local notation "SVs" => SV d i arg17 arg18 arg19
local notation "HBs" => HB d i harg12 harg13 harg14
local notation "WTs" => WT d i O Wt
local notation "RSs" => RS d i harg15 harg16 T5 T6 W9 W10 W11
local notation "Rdys" => Rdy d i EC harg5 harg6 harg9 harg10 harg11 harg12 harg13 harg14 arg17 arg18 arg19 T5 T6 W9 W10 W11
local notation "Invs" => Inv d i EC harg5 harg6 harg9 harg10 harg11 harg12 harg13 harg14 harg15 harg16 arg17 arg18 arg19 O Wt T5 T6 W9 W10 W11

/-- The chunk's batches, `a`, `b` and `e` transfers of each waited for. -/
abbrev DR (a b e : ℕ) : sProp 𝕄 :=
  iprop(Batch EC (th d i) (.dma arg17.sem) none (NR arg12) (dlv d i harg12 G12 h) 128 (a * NR arg12)
      ∗ Batch EC (th d i) (.dma arg18.sem) none (NR arg13) (dlv d i harg13 G13 h) 128 (b * NR arg13)
      ∗ Batch EC (th d i) (.dma arg19.sem) none (NR arg14) (dlv d i harg14 G14 h) 128 (e * NR arg14)
      ∗ waits (th d i) O Wt none ∗ MayWaits (th d i) none O)

local notation "DRs" => DR d i EC arg12 harg12 arg13 harg13 arg14 harg14 arg17 arg18 arg19 O Wt G12 G13 G14 h

omit [FloatOps F] in
/-- One row's wait. -/
theorem wait_row [EC.LandsIn (upEmb : UEmb _ 𝕄)] {R : Memref sig .scVector .vmem S256x32 .f32} (hR : R.IsWhole) {sem : DmaSem sig} (G : S256x32.Idx → Elt F .f32) (h : ℕ)
    {sp : Space} {s' : Shape} {e' : EltTy} {srcw : Memref sig .scVector sp s' e'} {off : Fin 2 → ℕ} {hd : ∀ a, off a + S1x32.size a ≤ S256x32.size a}
    {h₂ : ∀ a, (Rect.unit (s := S256x32) off S1x32.size hd).stride a = 1} {hsrc : srcw.view.WordExact}
    {hdst : (R.slice (Rect.unit (s := S256x32) off S1x32.size hd) h₂).view.WordExact} {r : ℕ} (hr : r < 128) (O : CellTallies nD τ sig (HIx 1)) (Wt : Waits sig (HIx 1)) :
    Tri defs 𝒱 (th d i) bd iprop(Batch EC (th d i) (.dma sem) none (NR R) (dlv d i hR G h) 128 (r * NR R) ∗ waits (th d i) O Wt none ∗ MayWaits (th d i) none O)
      (Prog.lift (.waitDma2 sem srcw (R.slice (Rect.unit (s := S256x32) off S1x32.size hd) h₂) hsrc hdst)) ⟨⟩
      iprop(Batch EC (th d i) (.dma sem) none (NR R) (dlv d i hR G h) 128 ((r + 1) * NR R) ∗ waits (th d i) O Wt none ∗ MayWaits (th d i) none O) :=
  Tri.wait (c := th d i) (srcw := srcw) (dstw := R.slice (Rect.unit (s := S256x32) off S1x32.size hd) h₂) (hsrc := hsrc) (hdst := hdst) EC (show _ = NR R from rfl) hr

/-- Every transfer of a chunk waited for. -/
theorem drain [EC.LandsIn (upEmb : UEmb _ 𝕄)] (u : Fin k0_t2_loop.trips) :
    Tri defs 𝒱 (th d i) bd iprop(FSs 128 128 128 ∗ WTs)
      (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u)) ()
      iprop(TBs ∗ SVs ∗ CS d i harg12 harg13 harg14 G12 G13 G14 h ∗ WTs) := by
  have key := Tri.for (defs := defs) (𝒱 := 𝒱) (c := th d i) (bd := bd) k0_t3_loop k0_t3_ok (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u)
    (fun r => DRs r r r) (fun r => by
    have hr : r.val < 128 := r.isLt
    unfold k0_t3_body
    refine Tri.bind (v := ()) (B := DRs (r.val + 1) r.val r.val) ?_ (Tri.bind (v := ()) (B := DRs (r.val + 1) (r.val + 1) r.val) ?_ (Tri.bind (v := ()) (B := DRs (r.val + 1) (r.val + 1) (r.val + 1)) ?_ (Tri.ret _)))
    · exact ((wait_row d i EC harg12 G12 h hr O Wt).framed (R := iprop(Batch EC (th d i) (.dma arg18.sem) none (NR arg13) (dlv d i harg13 G13 h) 128 (r.val * NR arg13)
        ∗ Batch EC (th d i) (.dma arg19.sem) none (NR arg14) (dlv d i harg14 G14 h) 128 (r.val * NR arg14)))).conv
        (by iintro ⟨H1, H2, H3, H4⟩
            isplitl [H1 H4]
            · isplitl [H1]; · iexact H1
              iexact H4
            isplitl [H2]; · iexact H2
            iexact H3)
        (by iintro ⟨⟨H1, H4⟩, H2, H3⟩
            isplitl [H1]; · iexact H1
            isplitl [H2]; · iexact H2
            isplitl [H3]; · iexact H3
            iexact H4)
    · exact ((wait_row d i EC harg13 G13 h hr O Wt).framed (R := iprop(Batch EC (th d i) (.dma arg17.sem) none (NR arg12) (dlv d i harg12 G12 h) 128 ((r.val + 1) * NR arg12)
        ∗ Batch EC (th d i) (.dma arg19.sem) none (NR arg14) (dlv d i harg14 G14 h) 128 (r.val * NR arg14)))).conv
        (by iintro ⟨H1, H2, H3, H4⟩
            isplitl [H2 H4]
            · isplitl [H2]; · iexact H2
              iexact H4
            isplitl [H1]; · iexact H1
            iexact H3)
        (by iintro ⟨⟨H2, H4⟩, H1, H3⟩
            isplitl [H1]; · iexact H1
            isplitl [H2]; · iexact H2
            isplitl [H3]; · iexact H3
            iexact H4)
    · exact ((wait_row d i EC harg14 G14 h hr O Wt).framed (R := iprop(Batch EC (th d i) (.dma arg17.sem) none (NR arg12) (dlv d i harg12 G12 h) 128 ((r.val + 1) * NR arg12)
        ∗ Batch EC (th d i) (.dma arg18.sem) none (NR arg13) (dlv d i harg13 G13 h) 128 ((r.val + 1) * NR arg13)))).conv
        (by iintro ⟨H1, H2, H3, H4⟩
            isplitl [H3 H4]
            · isplitl [H3]; · iexact H3
              iexact H4
            isplitl [H1]; · iexact H1
            iexact H2)
        (by iintro ⟨⟨H3, H4⟩, H1, H2⟩
            isplitl [H1]; · iexact H1
            isplitl [H2]; · iexact H2
            isplitl [H3]; · iexact H3
            iexact H4))
  have hN : ∀ R : Memref sig .scVector .vmem S256x32 .f32, 0 < NR R := fun R => View.dmaCredit_pos _ (by decide)
  refine Tri.postUpd d i (((key.framed (R := TBs))).pre ?_) ?_
  · unfold DR FS Gat TB WT
    iintro ⟨⟨⟨H1, -, B1⟩, ⟨H2, -, B2⟩, ⟨H3, -, B3⟩, HI⟩, HW⟩
    rw [Nat.zero_mul]
    isplitl [B1 B2 B3 HW]
    · isplitl [B1]; · iexact B1
      isplitl [B2]; · iexact B2
      isplitl [B3]; · iexact B3
      iexact HW
    isplitl [H1]; · iexact H1
    isplitl [H2]; · iexact H2
    isplitl [H3]; · iexact H3
    iexact HI
  · rw [show k0_t3_loop.trips = 128 from rfl]
    unfold DR SV CS WT
    rw [Nat.mul_comm 128]
    iintro ⟨⟨B1, B2, B3, HW⟩, HT⟩
    imod (batch_collect' EC (th d i) (hN arg12)) $$ B1 with ⟨D1, V1⟩
    imod (batch_collect' EC (th d i) (hN arg13)) $$ B2 with ⟨D2, V2⟩
    imod (batch_collect' EC (th d i) (hN arg14)) $$ B3 with ⟨D3, V3⟩
    imodintro
    ihave D1 := (Entails.of_eq (rows_join d i harg12 G12 h)) $$ D1
    ihave D2 := (Entails.of_eq (rows_join d i harg13 G13 h)) $$ D2
    ihave D3 := (Entails.of_eq (rows_join d i harg14 G14 h)) $$ D3
    isplitl [HT]; · iexact HT
    isplitl [V1 V2 V3]
    · isplitl [V1]; · iexact V1
      isplitl [V2] <;> iassumption
    isplitl [D1 D2 D3]
    · isplitl [D1]; · iexact D1
      isplitl [D2] <;> iassumption
    iexact HW

/-- The first chunk's transfers issued. -/
theorem fire1 [EC.LandsIn (upEmb : UEmb _ 𝕄)] (h9 : Words W9) (h10 : Words W10) (h11 : Words W11) (v5 : BitVec 32) :
    Tri defs 𝒱 (th d i) bd (FKs 0 0)
      (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5)) () (FKs 0 128) := by
  exact Tri.for (defs := defs) (𝒱 := 𝒱) (c := th d i) (bd := bd) k0_t1_loop k0_t1_ok (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 v5)
    (fun r => FKs 0 (16 * r)) (fun t => group1 (t := t) (ok := ok_gath _ _ _ _ _ h9 h10 h11 _ _) (v5 := v5) ..)

/-- The next chunk's transfers issued. -/
theorem fire4 [EC.LandsIn (upEmb : UEmb _ 𝕄)] (h9 : Words W9) (h10 : Words W10) (h11 : Words W11) (u : Fin k0_t2_loop.trips) (hu : k0_cond1 u = 1#1) (v17 v19 : BitVec 32) :
    Tri defs 𝒱 (th d i) bd (FKs (u.val + 1) 0)
      (Scf.Loop.for k0_t4_loop (k0_t4_ok u hu) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v17 v19)) () (FKs (u.val + 1) 128) := by
  exact Tri.for (defs := defs) (𝒱 := 𝒱) (c := th d i) (bd := bd) k0_t4_loop (k0_t4_ok u hu) (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 u hu v17 v19)
    (fun r => FKs (u.val + 1) (16 * r)) (fun t => group4 (t := t) (ok := ok_gath _ _ _ _ _ h9 h10 h11 _ _) (v17 := v17) (v19 := v19) ..)

/-- A chunk computed. -/
theorem comp (u : Fin k0_t2_loop.trips) (arg20 v15 : BitVec 32) :
    Tri defs 𝒱 (th d i) bd (CO d i harg12 harg13 harg14 harg15 harg16 (gath W9 T5 (hh u.val) (128 * u.val)) (gath W10 T6 (hh u.val) (128 * u.val)) (gath W11 T6 (hh u.val) (128 * u.val))
        (outv T5 T6 W9 W10) (outv T5 T6 W9 W11) (hh u.val) (128 * u.val) : sProp 𝕄)
      (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes u arg20 v15)) ()
      (CO d i harg12 harg13 harg14 harg15 harg16 (gath W9 T5 (hh u.val) (128 * u.val)) (gath W10 T6 (hh u.val) (128 * u.val)) (gath W11 T6 (hh u.val) (128 * u.val))
        (outv T5 T6 W9 W10) (outv T5 T6 W9 W11) (hh u.val) (128 * (u.val + 1))) := by
  exact Tri.for (defs := defs) (𝒱 := 𝒱) (c := th d i) (bd := bd) k0_t5_loop k0_t5_ok (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes u arg20 v15)
    (fun r => CO d i harg12 harg13 harg14 harg15 harg16 (gath W9 T5 (hh u.val) (128 * u.val)) (gath W10 T6 (hh u.val) (128 * u.val)) (gath W11 T6 (hh u.val) (128 * u.val))
        (outv T5 T6 W9 W10) (outv T5 T6 W9 W11) (hh u.val) (128 * u.val + 16 * r)) (fun t => group5 (u := u) (t := t) (arg20 := arg20) (v15 := v15) ..)

/-- There is a next chunk before the last. -/
theorem cond1_iff (u : Fin k0_t2_loop.trips) : k0_cond1 u = 1#1 ↔ u.val + 1 < 4 := by
  revert u; decide +kernel

/-- The chunk computed, the next one started or none left. -/
theorem rest (u : Fin k0_t2_loop.trips) (arg20 v15 : BitVec 32) :
    Tri defs 𝒱 (th d i) bd iprop(Rdys (u.val + 1) ∗ CS d i harg12 harg13 harg14 (gath W9 T5 (hh u.val) (128 * u.val)) (gath W10 T6 (hh u.val) (128 * u.val)) (gath W11 T6 (hh u.val) (128 * u.val)) (hh u.val) ∗ RSs (128 * u.val) ∗ WTs)
      (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes u arg20 v15) >>= fun _ => pure ⟨⟩) () (Invs (u.val + 1)) := by
  have hpar : hh (u.val + 1 + 1) = hh u.val := by show 128 * _ = 128 * _; omega
  refine Tri.bind (v := ()) ?_ (Tri.ret _)
  refine ((comp (u := u) (T5 := T5) (T6 := T6) (W9 := W9) (W10 := W10) (W11 := W11) ..).framed (R := iprop(Rdys (u.val + 1) ∗ WTs))).conv ?_ ?_
  · unfold CO RS
    iintro ⟨HF, HC, ⟨H1, H2⟩, HW⟩
    isplitl [HC H1 H2]
    · isplitl [H1]; · iexact H1
      isplitl [H2]; · iexact H2
      iexact HC
    isplitl [HF]; · iexact HF
    iexact HW
  · unfold CO Inv RS
    rw [hpar]
    unfold HB CS anyHalf
    iintro ⟨⟨H1, H2, HC1, HC2, HC3⟩, HF, HW⟩
    isplitl [HF]; · iexact HF
    isplitl [HC1 HC2 HC3]
    · isplitl [HC1]; · iexists _; iexact HC1
      isplitl [HC2]; · iexists _; iexact HC2
      iexists _; iexact HC3
    isplitl [H1 H2]
    · isplitl [H1]; · iexact H1
      iexact H2
    iexact HW

/-- The chunk waited for, the next one started, the chunk computed. -/
theorem step [EC.LandsIn (upEmb : UEmb _ 𝕄)] (h9 : Words W9) (h10 : Words W10) (h11 : Words W11) (u : Fin k0_t2_loop.trips) :
    Tri defs 𝒱 (th d i) bd (Invs u.val) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes u ()) () (Invs (u.val + 1)) := by
  have hu4 : u.val < 4 := u.isLt
  unfold k0_t2_body
  refine Tri.bind (v := ()) (B := iprop(TBs ∗ SVs ∗ HBs (hh (u.val + 1)) ∗ CS d i harg12 harg13 harg14 (gath W9 T5 (hh u.val) (128 * u.val)) (gath W10 T6 (hh u.val) (128 * u.val)) (gath W11 T6 (hh u.val) (128 * u.val)) (hh u.val)
      ∗ RSs (128 * u.val) ∗ WTs)) ?_ ?_
  · refine ((drain (EC := EC) (u := u) (h := hh u.val) (G12 := gath W9 T5 (hh u.val) (128 * u.val)) (G13 := gath W10 T6 (hh u.val) (128 * u.val)) (G14 := gath W11 T6 (hh u.val) (128 * u.val))
      (T5 := T5) (T6 := T6) (W9 := W9) (W10 := W10) (W11 := W11) (O := O) (Wt := Wt) ..).framed
      (R := iprop(HBs (hh (u.val + 1)) ∗ RSs (128 * u.val)))).conv ?_ ?_
    · unfold Inv Rdy
      rw [if_pos hu4]
      iintro ⟨HF, HB, HR, HW⟩
      isplitl [HF HW]
      · isplitl [HF]; · iexact HF
        iexact HW
      isplitl [HB]; · iexact HB
      iexact HR
    · iintro ⟨⟨HT, HV, HC, HW⟩, HB, HR⟩
      isplitl [HT]; · iexact HT
      isplitl [HV]; · iexact HV
      isplitl [HB]; · iexact HB
      isplitl [HC]; · iexact HC
      isplitl [HR]; · iexact HR
      iexact HW
  · by_cases hc : k0_cond1 u = 1#1
    · rw [dif_pos hc]
      have h4 := (cond1_iff u).mp hc
      refine Tri.bind (v := ()) (B := iprop(Rdys (u.val + 1) ∗ CS d i harg12 harg13 harg14 (gath W9 T5 (hh u.val) (128 * u.val)) (gath W10 T6 (hh u.val) (128 * u.val)) (gath W11 T6 (hh u.val) (128 * u.val)) (hh u.val) ∗ RSs (128 * u.val) ∗ WTs)) ?_ (rest (EC := EC) (u := u) (T5 := T5) (T6 := T6) (W9 := W9) (W10 := W10) (W11 := W11) (O := O) (Wt := Wt) ..)
      unfold Rdy
      rw [if_pos h4]
      refine Tri.upd (A := iprop(FKs (u.val + 1) 0 ∗ CS d i harg12 harg13 harg14 (gath W9 T5 (hh u.val) (128 * u.val)) (gath W10 T6 (hh u.val) (128 * u.val)) (gath W11 T6 (hh u.val) (128 * u.val)) (hh u.val)
        ∗ RSs (128 * u.val) ∗ WTs)) ?_ ((fire4 (EC := EC) (h9 := h9) (h10 := h10) (h11 := h11) (u := u) (hu := hc) (T5 := T5) (T6 := T6) ..).framed)
      iintro ⟨HT, HV, HB, HR⟩
      imod (FS.empty d i EC harg5 harg6 harg9 harg10 harg11 harg12 harg13 harg14 arg17 arg18 arg19 T5 T6 W9 W10 W11 (gath W9 T5 (hh (u.val + 1)) (128 * (u.val + 1))) (gath W10 T6 (hh (u.val + 1)) (128 * (u.val + 1)))
        (gath W11 T6 (hh (u.val + 1)) (128 * (u.val + 1))) (hh (u.val + 1))) $$ [HT HV HB] with HF
      · isplitl [HT]; · iexact HT
        isplitl [HV]; · iexact HV
        iexact HB
      imodintro
      isplitl [HF]; · iexact HF
      iexact HR
    · rw [dif_neg hc]
      have h4 : ¬ (u.val + 1 < 4) := fun hlt => hc ((cond1_iff u).mpr hlt)
      refine (rest (EC := EC) (u := u) (T5 := T5) (T6 := T6) (W9 := W9) (W10 := W10) (W11 := W11) (O := O) (Wt := Wt) ..).pre ?_
      unfold Rdy
      rw [if_neg h4]
      iintro ⟨HT, HV, HB, HR⟩
      isplitl [HT HV HB]
      · isplitl [HT]; · iexact HT
        isplitl [HV]; · iexact HV
        iexact HB
      iexact HR

/-- All four chunks. -/
theorem chunks [EC.LandsIn (upEmb : UEmb _ 𝕄)] (h9 : Words W9) (h10 : Words W10) (h11 : Words W11) :
    Tri defs 𝒱 (th d i) bd (Invs 0)
      (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes)) () (Invs 4) := by
  exact Tri.for (defs := defs) (𝒱 := 𝒱) (c := th d i) (bd := bd) k0_t2_loop k0_t2_ok (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4 lanes)
    (fun k => Invs k) (fun u => step (EC := EC) (u := u) (h9 := h9) (h10 := h10) (h11 := h11) (T5 := T5) (T6 := T6) (O := O) (Wt := Wt) ..)

end Body

end Cert.Proof.KerI

end
-- ==== Proof.TileI.lean ====
/-
  The whole program of one subcore: its words fetched, its chunks computed, its results stored.
-/
module

public import proofs.«01_k».proof.Proof.ChunksI

@[expose] public section

noncomputable section

namespace Cert.Proof.KerI

open Cert.KernelIdeal Cert.KernelIdeal.Gen
open Cert.Proof.Lib
open Idealize.ShloMosaic Idealize.ShloMosaic.Transfers
open Idealize.ShloMosaic.SparseCore.Cfg (HIx)
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {F : FTy → Type} [FloatOps F] {U : Type} [URA U]

local notation "𝕄" => MT nD τ sig (HIx 1) (Elt F) ℕ U ℕ

variable (d : Dev nD) (i : grid0.Coords) (EC : UEmb Counters (MT nD τ sig (HIx 1) (Elt F) ℕ U ℕ))
variable {defs : Defs nD τ sig (Elt F) Λ₀} {𝒱 : Variants} {bd : Option 𝒱.V}

/-- The first batch position of the subcore at the coordinates `i`. -/
abbrev base (i : grid0.Coords) : ℕ := 1024 * (i 1).val + 512 * (i 0).val

/-- A batch position. -/
def pos (n : ℕ) : S16384.Idx := fun a => match a with | 0 => (⟨n % 16384, Nat.mod_lt _ (by decide)⟩ : Fin 16384)

theorem pos_eq {y : S16384.Idx} {n : ℕ} (h : (y 0).val = n) : y = pos n := by
  have b0 : (y 0).val < 16384 := (y 0).isLt
  funext a
  match a with
  | 0 => exact Fin.ext (by show (y 0).val = n % 16384; omega)

/-- The words of an index array from the subcore's first position. -/
def words (A : S16384.Idx → BitVec 32) (n : ℕ) : BitVec 32 := A (pos (base i + n))

/-- The subcore's batch positions. -/
abbrev block (i : grid0.Coords) : Rect S16384 := Rect.unit (s := S16384) (k0_off1 i) S512.size (k0_off1_inb i)

theorem block_emb (x : S512.Idx) : (block i).emb x = pos (base i + (x 0).val) := by
  refine pos_eq ?_
  have h0 : k0_off1 i 0 = base i := by rw [k0_off1_eq]; rfl
  show k0_off1 i 0 + 1 * (x 0).val = _
  omega

/-- What the kernel computes at every batch position. -/
def res (T5 T6 : S1000000x32.Idx → Elt F .f32) (A A' : S16384.Idx → BitVec 32) : S16384.Idx → Elt F .f32 :=
  fun y => sg (rowDot T5 T6 (A y).toNat (A' y).toNat)

section Copies

variable (O : CellTallies nD τ sig (HIx 1)) (Wt : Waits sig (HIx 1))

/-- A subcore's words fetched. -/
theorem fetch [EC.LandsIn (upEmb : UEmb _ 𝕄)] {M : Memref sig .scVector .hbm S16384 .i32} (hM : M.IsWhole) {R : Memref sig .scVector .vmem S512 .i32} (hR : R.IsWhole)
    {sem : DmaSem sig} (A : S16384.Idx → BitVec 32) {h₂ h₃ : ∀ a, (block i).stride a = 1}
    {hsrc : (M.slice (block i) h₂).view.WordExact} {hdst : R.view.WordExact} {hsem : DmaTarget.Typed (nD := nD) .hbm (.dma sem) (.here (p := (th d i).2) R)}
    {hsrc' : (M.slice (block i) h₃).view.WordExact} {hdst' : R.view.WordExact} {C B : sProp 𝕄} {k : PUnit → Prog (TpuEff nD τ sig (Elt F) Λ₀ (th d i).2) PUnit}
    (h : Tri defs 𝒱 (th d i) bd iprop((idxs d i hR (words i A) ∗ semVal (th d i, .dma sem) 0) ∗ WT d i O Wt ∗ C) (k ⟨⟩) ⟨⟩ B) :
    Tri defs 𝒱 (th d i) bd iprop(((∃ q, own (Val := Elt F) (th d i) hM q Finset.univ (fun y => (A y : Elt F .i32))) ∗ (∃ X : S512.Idx → Elt F .i32, own (Val := Elt F) (th d i) hR fullShare Finset.univ X) ∗ semVal (th d i, .dma sem) 0) ∗ WT d i O Wt ∗ C)
      (Prog.lift (.enqueueDma (M.slice (block i) h₂) (.here R) (.dma sem) hsrc hdst hsem) >>= fun _ =>
        Prog.lift (.waitDma2 sem (M.slice (block i) h₃) R hsrc' hdst') >>= k) ⟨⟩ B := by
  have hfin := Tri.finish (EC := EC) (defs := defs) (𝒱 := 𝒱) (bd := bd) (c := th d i) (ι := none) (sem := sem) (srcw := M.slice (block i) h₃) (dstw := R) (hsrc := hsrc') (hdst := hdst')
    (N := R.view.dmaCredit) rfl (View.dmaCredit_pos _ (by decide)) (D := (idxs d i hR (words i A) : sProp 𝕄)) (O := O) (W := Wt)
  haveI : Storable (upEmb : UEmb _ 𝕄) (idxs d i hR (words i A) : sProp 𝕄) := by unfold idxs; infer_instance
  refine Tri.bind (v := ⟨⟩) (B := iprop((Batch EC (th d i) (.dma sem) none R.view.dmaCredit (fun _ : Fin 1 => idxs d i hR (words i A)) 1 0) ∗ WT d i O Wt ∗ C)) ?_
    (Tri.bind (v := ⟨⟩) (B := iprop((idxs d i hR (words i A) ∗ semVal (th d i, .dma sem) 0) ∗ WT d i O Wt ∗ C)) ((hfin.framed (R := C)).conv ?_ ?_) h)
  · refine Tri.framed ?_
    refine Tri.intro fun Q => ?_
    iintro ⟨⟨⟨%q, HM⟩, ⟨%X, HR⟩, HV⟩, HQ⟩
    ihave HM := (own_take (th d i) hM (Finset.subset_univ (block i).set)).1 $$ HM
    icases HM with ⟨HM, -⟩
    iapply ((Tri.start (EC := EC) (defs := defs) (𝒱 := 𝒱) (bd := bd) (c := th d i) (src := M.slice (block i) h₂) (dst := R) (sm := .dma sem) (hsrc := hsrc) (hdst := hdst) (hsem := hsem)
      none (N := R.view.dmaCredit) rfl (q := q) (fs := hM.unread (fun y => (A y : Elt F .i32))) (fd := hR.unread X) (D := (idxs d i hR (words i A) : sProp 𝕄)) ?_).run Q)
    · iintro ⟨HD, -⟩
      unfold idxs
      ihave HD := (Entails.of_eq (own_of_pointsTo (th d i) hR _)) $$ HD
      rw [View.read_write_univ]
      have he : (M.slice (block i) h₂).view.read (Elt F) (hM.unread (fun y => (A y : Elt F .i32))) = fun x : S512.Idx => (words i A (x 0).val : Elt F .i32) := funext fun x =>
        (congrFun (hM.read_unread (Val := Elt F) (fun y => (A y : Elt F .i32))) ((block i).emb x)).trans (by rw [block_emb i x]; rfl)
      rw [← he]
      iexact HD
    · unfold own
      have hS : (M.slice (block i) h₂).view.set = M.view.setOn (block i).set := View.set_slice _ _
      isplitl [HM HR HV]
      · isplitl [HM]; · rw [hS]; iexact HM
        isplitl [HR]; · iexact HR
        iexact HV
      · iexact HQ
  · unfold WT
    iintro ⟨HB, ⟨HW, HM⟩, HC⟩
    isplitl [HB HW HM]
    · isplitl [HB]; · iexact HB
      isplitl [HW]; · iexact HW
      iexact HM
    iexact HC
  · unfold WT
    iintro ⟨⟨HB, HW, HM⟩, HC⟩
    isplitl [HB]; · iexact HB
    isplitl [HW HM]
    · isplitl [HW]; · iexact HW
      iexact HM
    iexact HC

/-- A subcore's results stored. -/
theorem put [EC.LandsIn (upEmb : UEmb _ 𝕄)] {M : Memref sig .scVector .hbm S16384 .f32} (hM : M.IsWhole) {R : Memref sig .scVector .vmem S512 .f32} (hR : R.IsWhole)
    {sem : DmaSem sig} {X : S512.Idx → Elt F .f32} {Z : S16384.Idx → Elt F .f32} (hX : ∀ x, X x = Z ((block i).emb x)) {h₂ h₃ : ∀ a, (block i).stride a = 1}
    {hdst : (M.slice (block i) h₂).view.WordExact} {hsrc : R.view.WordExact} {hsem : DmaTarget.Typed (nD := nD) .vmem (.dma sem) (.here (p := (th d i).2) (M.slice (block i) h₂))}
    {hdst' : (M.slice (block i) h₃).view.WordExact} {hsrc' : R.view.WordExact} {C B : sProp 𝕄} {k : PUnit → Prog (TpuEff nD τ sig (Elt F) Λ₀ (th d i).2) PUnit}
    (h : Tri defs 𝒱 (th d i) bd iprop(((own (th d i) hM fullShare (block i).set Z ∗ own (th d i) hR fullShare Finset.univ X) ∗ semVal (th d i, .dma sem) 0) ∗ WT d i O Wt ∗ C) (k ⟨⟩) ⟨⟩ B) :
    Tri defs 𝒱 (th d i) bd iprop(((∃ Y : S16384.Idx → Elt F .f32, own (Val := Elt F) (th d i) hM fullShare (block i).set Y) ∗ own (th d i) hR fullShare Finset.univ X ∗ semVal (th d i, .dma sem) 0) ∗ WT d i O Wt ∗ C)
      (Prog.lift (.enqueueDma R (.here (M.slice (block i) h₂)) (.dma sem) hsrc hdst hsem) >>= fun _ =>
        Prog.lift (.waitDma2 sem R (M.slice (block i) h₃) hsrc' hdst') >>= k) ⟨⟩ B := by
  have hfin := Tri.finish (EC := EC) (defs := defs) (𝒱 := 𝒱) (bd := bd) (c := th d i) (ι := none) (sem := sem) (srcw := R) (dstw := M.slice (block i) h₃) (hsrc := hsrc') (hdst := hdst')
    (N := (M.slice (block i) h₃).view.dmaCredit) rfl (View.dmaCredit_pos _ (show 0 < S512.numel by decide)) (D := (iprop(own (th d i) hM fullShare (block i).set Z ∗ own (th d i) hR fullShare Finset.univ X) : sProp 𝕄)) (O := O) (W := Wt)
  refine Tri.bind (v := ⟨⟩) (B := iprop((Batch EC (th d i) (.dma sem) none (M.slice (block i) h₃).view.dmaCredit (fun _ : Fin 1 => iprop(own (th d i) hM fullShare (block i).set Z ∗ own (th d i) hR fullShare Finset.univ X)) 1 0) ∗ WT d i O Wt ∗ C)) ?_
    (Tri.bind (v := ⟨⟩) (B := iprop(((own (th d i) hM fullShare (block i).set Z ∗ own (th d i) hR fullShare Finset.univ X) ∗ semVal (th d i, .dma sem) 0) ∗ WT d i O Wt ∗ C)) ((hfin.framed (R := C)).conv ?_ ?_) h)
  · refine Tri.framed ?_
    refine Tri.intro fun Q => ?_
    have hS : (M.slice (block i) h₂).view.set = M.view.setOn (block i).set := View.set_slice _ _
    iintro ⟨⟨⟨%Y, HM⟩, HR, HV⟩, HQ⟩
    iapply ((Tri.start (EC := EC) (defs := defs) (𝒱 := 𝒱) (bd := bd) (c := th d i) (src := R) (dst := M.slice (block i) h₂) (sm := .dma sem) (hsrc := hsrc) (hdst := hdst) (hsem := hsem)
      none (N := (M.slice (block i) h₃).view.dmaCredit) rfl (q := fullShare) (fs := hR.unread X) (fd := hM.unread Y)
      (D := (iprop(own (th d i) hM fullShare (block i).set Z ∗ own (th d i) hR fullShare Finset.univ X) : sProp 𝕄)) ?_).run Q)
    · have hw := own_write (Ix := HIx 1) (Name := ℕ) (U := U) (Lvl := ℕ) (th d i) hM (block i) (hM.unread Y) (R.view.read (Elt F) (hR.unread X)) Z (fun x => by rw [hR.read_unread]; exact hX x)
      iintro ⟨HD, HR⟩
      isplitl [HD]
      · iapply (Entails.of_eq hw); iexact HD
      · ihave HR := (Entails.of_eq (own_of_pointsTo (th d i) hR _)) $$ HR
        rw [hR.read_unread]
        iexact HR
    · unfold own
      isplitl [HM HR HV]
      · isplitl [HR]; · iexact HR
        isplitl [HM]; · rw [hS]; iexact HM
        iexact HV
      · iexact HQ
  · unfold WT
    iintro ⟨HB, ⟨HW, HM⟩, HC⟩
    isplitl [HB HW HM]
    · isplitl [HB]; · iexact HB
      isplitl [HW]; · iexact HW
      iexact HM
    iexact HC
  · unfold WT
    iintro ⟨⟨HB, HW, HM⟩, HC⟩
    isplitl [HB]; · iexact HB
    isplitl [HW HM]
    · isplitl [HW]; · iexact HW
      iexact HM
    iexact HC

end Copies

section Whole

variable (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S1000000x32 .f32) (harg5 : arg5.IsWhole) (arg6 : Memref sig .scVector .hbm S1000000x32 .f32) (harg6 : arg6.IsWhole) (arg7 : Memref sig .scVector .hbm S16384 .f32) (harg7 : arg7.IsWhole) (arg8 : Memref sig .scVector .hbm S16384 .f32) (harg8 : arg8.IsWhole) (arg9 : Memref sig .scVector .vmem S512 .i32) (harg9 : arg9.IsWhole) (arg10 : Memref sig .scVector .vmem S512 .i32) (harg10 : arg10.IsWhole) (arg11 : Memref sig .scVector .vmem S512 .i32) (harg11 : arg11.IsWhole) (arg12 : Memref sig .scVector .vmem S256x32 .f32) (harg12 : arg12.IsWhole) (arg13 : Memref sig .scVector .vmem S256x32 .f32) (harg13 : arg13.IsWhole) (arg14 : Memref sig .scVector .vmem S256x32 .f32) (harg14 : arg14.IsWhole) (arg15 : Memref sig .scVector .vmem S512 .f32) (harg15 : arg15.IsWhole) (arg16 : Memref sig .scVector .vmem S512 .f32) (harg16 : arg16.IsWhole) (arg17 : DmaSems sig S_) (arg18 : DmaSems sig S_) (arg19 : DmaSems sig S_) (v8_r0 : DmaSems sig S_) (v8_r1 : DmaSems sig S_) (v8_r2 : DmaSems sig S_) (v8_r3 : DmaSems sig S_) (v8_r4 : DmaSems sig S_)
  (O : CellTallies nD τ sig (HIx 1)) (Wt : Waits sig (HIx 1))
  (T5 T6 : S1000000x32.Idx → Elt F .f32) (A2 A3 A4 : S16384.Idx → BitVec 32)

/-- A buffer of the subcore, holding anything. -/
def anyBuf {s : Shape} {e : EltTy} {R : Memref sig .scVector .vmem s e} (hR : R.IsWhole) : sProp 𝕄 :=
  iprop(∃ X : s.Idx → Elt F e, own (Val := Elt F) (th d i) hR fullShare Finset.univ X)

/-- A share of an array in the chip's memory. -/
def sh {s : Shape} {e : EltTy} {M : Memref sig .scVector .hbm s e} (hM : M.IsWhole) (A : s.Idx → Elt F e) : sProp 𝕄 :=
  iprop(∃ q, own (Val := Elt F) (th d i) hM q Finset.univ A)

/-- The subcore's buffers and semaphores. -/
def Scr : sProp 𝕄 :=
  iprop((anyBuf d i harg9 ∗ anyBuf d i harg10 ∗ anyBuf d i harg11 ∗ anyBuf d i harg12 ∗ anyBuf d i harg13 ∗ anyBuf d i harg14 ∗ anyBuf d i harg15 ∗ anyBuf d i harg16)
    ∗ SV d i arg17 arg18 arg19 ∗ semVal (th d i, .dma v8_r0.sem) 0 ∗ semVal (th d i, .dma v8_r1.sem) 0 ∗ semVal (th d i, .dma v8_r2.sem) 0
    ∗ semVal (th d i, .dma v8_r3.sem) 0 ∗ semVal (th d i, .dma v8_r4.sem) 0)

/-- What the subcore is given: shares of the arguments and its block of both results. -/
def Giv : sProp 𝕄 :=
  iprop((sh d i harg2 (fun y => (A2 y : Elt F .i32)) ∗ sh d i harg3 (fun y => (A3 y : Elt F .i32)) ∗ sh d i harg4 (fun y => (A4 y : Elt F .i32)) ∗ sh d i harg5 T5 ∗ sh d i harg6 T6)
    ∗ (∃ Y : S16384.Idx → Elt F .f32, own (Val := Elt F) (th d i) harg7 fullShare (block i).set Y) ∗ (∃ Y : S16384.Idx → Elt F .f32, own (Val := Elt F) (th d i) harg8 fullShare (block i).set Y))

/-- What the subcore returns: its block of both results, computed. -/
def Got : sProp 𝕄 :=
  iprop(own (Val := Elt F) (th d i) harg7 fullShare (block i).set (res T5 T6 A2 A3) ∗ own (Val := Elt F) (th d i) harg8 fullShare (block i).set (res T5 T6 A2 A4))

theorem words_ok {A : S16384.Idx → BitVec 32} (h : ∀ y, (A y).toNat < 1000000) : Words (words i A) := fun n => h _

theorem OUT.full {R : Memref sig .scVector .vmem S512 .f32} {hR : R.IsWhole} {X : S512.Idx → Elt F .f32} :
    (OUT d i hR X 512 : sProp 𝕄) ⊢ own (th d i) hR fullShare Finset.univ X := by
  unfold OUT
  iintro ⟨%Y, HY, %hY⟩
  have he : Y = X := funext fun x => hY x (x 0).isLt
  rw [← he]
  iexact HY

theorem OUT.none {R : Memref sig .scVector .vmem S512 .f32} {hR : R.IsWhole} {X : S512.Idx → Elt F .f32} :
    (anyBuf d i hR : sProp 𝕄) ⊢ OUT d i hR X 0 := by
  unfold OUT anyBuf
  iintro ⟨%Y, HY⟩
  iexists Y
  isplitl [HY]; · iexact HY
  ipureintro
  intro x hx; exact absurd hx (Nat.not_lt_zero _)

set_option maxHeartbeats 1000000 in
/-- THE SUBCORE'S PROGRAM: from its share of the arguments, the buffers and the semaphores, it leaves its block of both
    results computed, and the buffers and the semaphores as they were. -/
theorem tile [EC.LandsIn (upEmb : UEmb _ 𝕄)] (h2 : ∀ y, (A2 y).toNat < 1000000) (h3 : ∀ y, (A3 y).toNat < 1000000) (h4 : ∀ y, (A4 y).toNat < 1000000) :
    Tri defs 𝒱 (th d i) bd
      (iprop(Giv d i arg2 harg2 arg3 harg3 arg4 harg4 arg5 harg5 arg6 harg6 arg7 harg7 arg8 harg8 T5 T6 A2 A3 A4
        ∗ Scr d i arg9 harg9 arg10 harg10 arg11 harg11 arg12 harg12 arg13 harg13 arg14 harg14 arg15 harg15 arg16 harg16 arg17 arg18 arg19 v8_r0 v8_r1 v8_r2 v8_r3 v8_r4 ∗ WT d i O Wt) : sProp 𝕄)
      (cc0__bpr_sc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v8_r0 v8_r1 v8_r2 v8_r3 v8_r4) ⟨⟩
      iprop(Got d i arg7 harg7 arg8 harg8 T5 T6 A2 A3 A4
        ∗ Scr d i arg9 harg9 arg10 harg10 arg11 harg11 arg12 harg12 arg13 harg13 arg14 harg14 arg15 harg15 arg16 harg16 arg17 arg18 arg19 v8_r0 v8_r1 v8_r2 v8_r3 v8_r4 ∗ WT d i O Wt) := by
  have hx7 : ∀ (A A' : S16384.Idx → BitVec 32) (x : S512.Idx), outv T5 T6 (words i A) (words i A') x = res T5 T6 A A' ((block i).emb x) := by
    intro A A' x
    rw [block_emb i x]; rfl
  rw [cc0__bpr_sc_eq_skeleton]
  unfold cc0__bpr_sc_skel
  unfold Giv Scr sh
  refine Tri.pre (A := iprop(((∃ q, own (Val := Elt F) (th d i) harg2 q Finset.univ (fun y => (A2 y : Elt F .i32))) ∗ (∃ X : S512.Idx → Elt F .i32, own (Val := Elt F) (th d i) harg9 fullShare Finset.univ X) ∗ semVal (th d i, .dma v8_r0.sem) 0) ∗ WT d i O Wt ∗
      (((∃ q, own (Val := Elt F) (th d i) harg3 q Finset.univ (fun y => (A3 y : Elt F .i32))) ∗ (∃ X : S512.Idx → Elt F .i32, own (Val := Elt F) (th d i) harg10 fullShare Finset.univ X) ∗ semVal (th d i, .dma v8_r1.sem) 0)
      ∗ ((∃ q, own (Val := Elt F) (th d i) harg4 q Finset.univ (fun y => (A4 y : Elt F .i32))) ∗ (∃ X : S512.Idx → Elt F .i32, own (Val := Elt F) (th d i) harg11 fullShare Finset.univ X) ∗ semVal (th d i, .dma v8_r2.sem) 0)
      ∗ ((∃ q, own (Val := Elt F) (th d i) harg5 q Finset.univ T5) ∗ (∃ q, own (Val := Elt F) (th d i) harg6 q Finset.univ T6) ∗ (∃ Y : S16384.Idx → Elt F .f32, own (Val := Elt F) (th d i) harg7 fullShare (block i).set Y) ∗ (∃ Y : S16384.Idx → Elt F .f32, own (Val := Elt F) (th d i) harg8 fullShare (block i).set Y) ∗ (∃ X : S256x32.Idx → Elt F .f32, own (Val := Elt F) (th d i) harg12 fullShare Finset.univ X) ∗ (∃ X : S256x32.Idx → Elt F .f32, own (Val := Elt F) (th d i) harg13 fullShare Finset.univ X) ∗ (∃ X : S256x32.Idx → Elt F .f32, own (Val := Elt F) (th d i) harg14 fullShare Finset.univ X) ∗ anyBuf d i harg15 ∗ anyBuf d i harg16 ∗ SV d i arg17 arg18 arg19 ∗ semVal (th d i, .dma v8_r3.sem) 0 ∗ semVal (th d i, .dma v8_r4.sem) 0)))) ?_ ?_
  · unfold anyBuf
    iintro ⟨⟨⟨H2, H3, H4, H5, H6⟩, H7, H8⟩, ⟨⟨B9, B10, B11, B12, B13, B14, B15, B16⟩, HV, V0, V1, V2, V3, V4⟩, HW⟩
    isplitl [H2 B9 V0]
    · isplitl [H2]; · iexact H2
      isplitl [B9]; · iexact B9
      iexact V0
    isplitl [HW]; · iexact HW
    isplitl [H3 B10 V1]
    · isplitl [H3]; · iexact H3
      isplitl [B10]; · iexact B10
      iexact V1
    isplitl [H4 B11 V2]
    · isplitl [H4]; · iexact H4
      isplitl [B11]; · iexact B11
      iexact V2
    isplitl [H5]; · iexact H5
    isplitl [H6]; · iexact H6
    isplitl [H7]; · iexact H7
    isplitl [H8]; · iexact H8
    isplitl [B12]; · iexact B12
    isplitl [B13]; · iexact B13
    isplitl [B14]; · iexact B14
    isplitl [B15]; · iexact B15
    isplitl [B16]; · iexact B16
    isplitl [HV]; · iexact HV
    isplitl [V3]; · iexact V3
    iexact V4
  refine fetch d i EC O Wt harg2 harg9 A2 ?_
  refine Tri.pre (A := iprop(((∃ q, own (Val := Elt F) (th d i) harg3 q Finset.univ (fun y => (A3 y : Elt F .i32))) ∗ (∃ X : S512.Idx → Elt F .i32, own (Val := Elt F) (th d i) harg10 fullShare Finset.univ X) ∗ semVal (th d i, .dma v8_r1.sem) 0) ∗ WT d i O Wt ∗
      (((∃ q, own (Val := Elt F) (th d i) harg4 q Finset.univ (fun y => (A4 y : Elt F .i32))) ∗ (∃ X : S512.Idx → Elt F .i32, own (Val := Elt F) (th d i) harg11 fullShare Finset.univ X) ∗ semVal (th d i, .dma v8_r2.sem) 0)
      ∗ (idxs d i harg9 (words i A2) ∗ semVal (th d i, .dma v8_r0.sem) 0) ∗ ((∃ q, own (Val := Elt F) (th d i) harg5 q Finset.univ T5) ∗ (∃ q, own (Val := Elt F) (th d i) harg6 q Finset.univ T6) ∗ (∃ Y : S16384.Idx → Elt F .f32, own (Val := Elt F) (th d i) harg7 fullShare (block i).set Y) ∗ (∃ Y : S16384.Idx → Elt F .f32, own (Val := Elt F) (th d i) harg8 fullShare (block i).set Y) ∗ (∃ X : S256x32.Idx → Elt F .f32, own (Val := Elt F) (th d i) harg12 fullShare Finset.univ X) ∗ (∃ X : S256x32.Idx → Elt F .f32, own (Val := Elt F) (th d i) harg13 fullShare Finset.univ X) ∗ (∃ X : S256x32.Idx → Elt F .f32, own (Val := Elt F) (th d i) harg14 fullShare Finset.univ X) ∗ anyBuf d i harg15 ∗ anyBuf d i harg16 ∗ SV d i arg17 arg18 arg19 ∗ semVal (th d i, .dma v8_r3.sem) 0 ∗ semVal (th d i, .dma v8_r4.sem) 0)))) ?_ ?_
  · iintro ⟨H1, HW, H2, H3, H4⟩
    isplitl [H2]; · iexact H2
    isplitl [HW]; · iexact HW
    isplitl [H3]; · iexact H3
    isplitl [H1]; · iexact H1
    iexact H4
  refine fetch d i EC O Wt harg3 harg10 A3 ?_
  refine Tri.pre (A := iprop(((∃ q, own (Val := Elt F) (th d i) harg4 q Finset.univ (fun y => (A4 y : Elt F .i32))) ∗ (∃ X : S512.Idx → Elt F .i32, own (Val := Elt F) (th d i) harg11 fullShare Finset.univ X) ∗ semVal (th d i, .dma v8_r2.sem) 0) ∗ WT d i O Wt ∗
      ((idxs d i harg10 (words i A3) ∗ semVal (th d i, .dma v8_r1.sem) 0) ∗ (idxs d i harg9 (words i A2) ∗ semVal (th d i, .dma v8_r0.sem) 0) ∗ ((∃ q, own (Val := Elt F) (th d i) harg5 q Finset.univ T5) ∗ (∃ q, own (Val := Elt F) (th d i) harg6 q Finset.univ T6) ∗ (∃ Y : S16384.Idx → Elt F .f32, own (Val := Elt F) (th d i) harg7 fullShare (block i).set Y) ∗ (∃ Y : S16384.Idx → Elt F .f32, own (Val := Elt F) (th d i) harg8 fullShare (block i).set Y) ∗ (∃ X : S256x32.Idx → Elt F .f32, own (Val := Elt F) (th d i) harg12 fullShare Finset.univ X) ∗ (∃ X : S256x32.Idx → Elt F .f32, own (Val := Elt F) (th d i) harg13 fullShare Finset.univ X) ∗ (∃ X : S256x32.Idx → Elt F .f32, own (Val := Elt F) (th d i) harg14 fullShare Finset.univ X) ∗ anyBuf d i harg15 ∗ anyBuf d i harg16 ∗ SV d i arg17 arg18 arg19 ∗ semVal (th d i, .dma v8_r3.sem) 0 ∗ semVal (th d i, .dma v8_r4.sem) 0)))) ?_ ?_
  · iintro ⟨H1, HW, H2, H3, H4⟩
    isplitl [H2]; · iexact H2
    isplitl [HW]; · iexact HW
    isplitl [H1]; · iexact H1
    isplitl [H3]; · iexact H3
    iexact H4
  refine fetch d i EC O Wt harg4 harg11 A4 ?_
  refine Tri.upd (A := iprop(FK d i EC harg5 harg6 harg9 harg10 harg11 harg12 harg13 harg14 arg17 arg18 arg19 T5 T6 (words i A2) (words i A3) (words i A4) 0 0
      ∗ HB d i harg12 harg13 harg14 (hh 1) ∗ RS d i harg15 harg16 T5 T6 (words i A2) (words i A3) (words i A4) (128 * 0) ∗ WT d i O Wt ∗ ((∃ Y : S16384.Idx → Elt F .f32, own (Val := Elt F) (th d i) harg7 fullShare (block i).set Y) ∗ (∃ Y : S16384.Idx → Elt F .f32, own (Val := Elt F) (th d i) harg8 fullShare (block i).set Y) ∗ semVal (th d i, .dma v8_r0.sem) 0 ∗ semVal (th d i, .dma v8_r1.sem) 0 ∗ semVal (th d i, .dma v8_r2.sem) 0 ∗ semVal (th d i, .dma v8_r3.sem) 0 ∗ semVal (th d i, .dma v8_r4.sem) 0))) ?_ ?_
  · iintro ⟨⟨I4, V2⟩, HW, ⟨I3, V1⟩, ⟨I2, V0⟩, H5, H6, H7, H8, B12, B13, B14, B15, B16, HV, V3, V4⟩
    ihave B12 := (halves_split d i harg12) $$ B12
    ihave B13 := (halves_split d i harg13) $$ B13
    ihave B14 := (halves_split d i harg14) $$ B14
    icases B12 with ⟨L12, R12⟩
    icases B13 with ⟨L13, R13⟩
    icases B14 with ⟨L14, R14⟩
    icases H6 with ⟨%q, H6⟩
    ihave H6 := (own_halves (th d i) harg6) $$ H6
    icases H6 with ⟨H6, H6'⟩
    imod (FS.empty d i EC harg5 harg6 harg9 harg10 harg11 harg12 harg13 harg14 arg17 arg18 arg19 T5 T6 (words i A2) (words i A3) (words i A4) (gath (words i A2) T5 (hh 0) (128 * 0)) (gath (words i A3) T6 (hh 0) (128 * 0))
        (gath (words i A4) T6 (hh 0) (128 * 0)) (hh 0)) $$ [H5 H6 H6' I2 I3 I4 HV L12 L13 L14] with HF
    · unfold TB HB
      isplitl [H5 H6 H6' I2 I3 I4]
      · isplitl [H5]; · iexact H5
        isplitl [H6]; · iexists _; iexact H6
        isplitl [H6']; · iexists _; iexact H6'
        isplitl [I2]; · iexact I2
        isplitl [I3]; · iexact I3
        iexact I4
      isplitl [HV]; · iexact HV
      isplitl [L12]; · iexact L12
      isplitl [L13]; · iexact L13
      iexact L14
    imodintro
    isplitl [HF]; · iexact HF
    isplitl [R12 R13 R14]
    · unfold HB
      isplitl [R12]; · iexact R12
      isplitl [R13]; · iexact R13
      iexact R14
    isplitl [B15 B16]
    · unfold RS
      isplitl [B15]
      · iapply (OUT.none d i); iexact B15
      · iapply (OUT.none d i); iexact B16
    isplitl [HW]; · iexact HW
    isplitl [H7]; · iexact H7
    isplitl [H8]; · iexact H8
    isplitl [V0]; · iexact V0
    isplitl [V1]; · iexact V1
    isplitl [V2]; · iexact V2
    isplitl [V3]; · iexact V3
    iexact V4
  refine Tri.bind (v := ()) ((fire1 (EC := EC) (T5 := T5) (T6 := T6) (h9 := words_ok i h2) (h10 := words_ok i h3) (h11 := words_ok i h4) ..).framed) ?_
  refine Tri.bind (v := ()) (B := iprop(Inv d i EC harg5 harg6 harg9 harg10 harg11 harg12 harg13 harg14 harg15 harg16 arg17 arg18 arg19 O Wt T5 T6 (words i A2) (words i A3) (words i A4) 4 ∗ ((∃ Y : S16384.Idx → Elt F .f32, own (Val := Elt F) (th d i) harg7 fullShare (block i).set Y) ∗ (∃ Y : S16384.Idx → Elt F .f32, own (Val := Elt F) (th d i) harg8 fullShare (block i).set Y) ∗ semVal (th d i, .dma v8_r0.sem) 0 ∗ semVal (th d i, .dma v8_r1.sem) 0 ∗ semVal (th d i, .dma v8_r2.sem) 0 ∗ semVal (th d i, .dma v8_r3.sem) 0 ∗ semVal (th d i, .dma v8_r4.sem) 0))) ?_ ?_
  · refine ((chunks (EC := EC) (T5 := T5) (T6 := T6) (O := O) (Wt := Wt) (h9 := words_ok i h2) (h10 := words_ok i h3) (h11 := words_ok i h4) ..).framed).pre ?_
    unfold Inv Rdy
    rw [if_pos (by decide)]
    iintro ⟨HF, HB, HR, HW, HK⟩
    isplitl [HF HB HR HW]
    · isplitl [HF]; · iexact HF
      isplitl [HB]; · iexact HB
      isplitl [HR]; · iexact HR
      iexact HW
    iexact HK
  refine Tri.pre (A := iprop(((∃ Y : S16384.Idx → Elt F .f32, own (Val := Elt F) (th d i) harg7 fullShare (block i).set Y) ∗ own (th d i) harg15 fullShare Finset.univ (outv T5 T6 (words i A2) (words i A3)) ∗ semVal (th d i, .dma v8_r3.sem) 0) ∗ WT d i O Wt ∗
      (((∃ Y : S16384.Idx → Elt F .f32, own (Val := Elt F) (th d i) harg8 fullShare (block i).set Y) ∗ own (th d i) harg16 fullShare Finset.univ (outv T5 T6 (words i A2) (words i A4)) ∗ semVal (th d i, .dma v8_r4.sem) 0)
      ∗ (anyBuf d i harg9 ∗ anyBuf d i harg10 ∗ anyBuf d i harg11 ∗ anyBuf d i harg12 ∗ anyBuf d i harg13 ∗ anyBuf d i harg14 ∗ SV d i arg17 arg18 arg19 ∗ semVal (th d i, .dma v8_r0.sem) 0 ∗ semVal (th d i, .dma v8_r1.sem) 0 ∗ semVal (th d i, .dma v8_r2.sem) 0)))) ?_ ?_
  · unfold Inv Rdy RS TB HB
    rw [if_neg (by decide)]
    iintro ⟨⟨⟨⟨-, -, -, I9, I10, I11⟩, HV, L12, L13, L14⟩, ⟨R12, R13, R14⟩, ⟨O15, O16⟩, HW⟩, H7, H8, V0, V1, V2, V3, V4⟩
    isplitl [H7 O15 V3]
    · isplitl [H7]; · iexact H7
      isplitl [O15]; · iapply (OUT.full d i); iexact O15
      iexact V3
    isplitl [HW]; · iexact HW
    isplitl [H8 O16 V4]
    · isplitl [H8]; · iexact H8
      isplitl [O16]; · iapply (OUT.full d i); iexact O16
      iexact V4
    unfold anyBuf idxs
    isplitl [I9]; · iexists _; iexact I9
    isplitl [I10]; · iexists _; iexact I10
    isplitl [I11]; · iexists _; iexact I11
    isplitl [L12 R12]
    · iapply (halves_join d i harg12)
      isplitl [L12]; · iexact L12
      iexact R12
    isplitl [L13 R13]
    · iapply (halves_join d i harg13)
      isplitl [L13]; · iexact L13
      iexact R13
    isplitl [L14 R14]
    · iapply (halves_join d i harg14)
      isplitl [L14]; · iexact L14
      iexact R14
    isplitl [HV]; · iexact HV
    isplitl [V0]; · iexact V0
    isplitl [V1]; · iexact V1
    iexact V2
  refine put d i EC O Wt harg7 harg15 (hx7 A2 A3) ?_
  refine Tri.pre (A := iprop(((∃ Y : S16384.Idx → Elt F .f32, own (Val := Elt F) (th d i) harg8 fullShare (block i).set Y) ∗ own (th d i) harg16 fullShare Finset.univ (outv T5 T6 (words i A2) (words i A4)) ∗ semVal (th d i, .dma v8_r4.sem) 0) ∗ WT d i O Wt ∗
      (((own (th d i) harg7 fullShare (block i).set (res T5 T6 A2 A3) ∗ own (th d i) harg15 fullShare Finset.univ (outv T5 T6 (words i A2) (words i A3))) ∗ semVal (th d i, .dma v8_r3.sem) 0)
      ∗ (anyBuf d i harg9 ∗ anyBuf d i harg10 ∗ anyBuf d i harg11 ∗ anyBuf d i harg12 ∗ anyBuf d i harg13 ∗ anyBuf d i harg14 ∗ SV d i arg17 arg18 arg19 ∗ semVal (th d i, .dma v8_r0.sem) 0 ∗ semVal (th d i, .dma v8_r1.sem) 0 ∗ semVal (th d i, .dma v8_r2.sem) 0)))) ?_ ?_
  · iintro ⟨H1, HW, H2, H3⟩
    isplitl [H2]; · iexact H2
    isplitl [HW]; · iexact HW
    isplitl [H1]; · iexact H1
    iexact H3
  refine put d i EC O Wt harg8 harg16 (hx7 A2 A4) ?_
  refine (Tri.ret _).pre ?_
  unfold Got
  iintro ⟨⟨⟨H8, O16⟩, V4⟩, HW, ⟨⟨H7, O15⟩, V3⟩, B9, B10, B11, B12, B13, B14, HV, V0, V1, V2⟩
  isplitl [H7 H8]
  · isplitl [H7]; · iexact H7
    iexact H8
  isplitl [HV V0 V1 V2 V3 V4 B9 B10 B11 B12 B13 B14 O15 O16]
  · isplitl [B9 B10 B11 B12 B13 B14 O15 O16]
    · isplitl [B9]; · iexact B9
      isplitl [B10]; · iexact B10
      isplitl [B11]; · iexact B11
      isplitl [B12]; · iexact B12
      isplitl [B13]; · iexact B13
      isplitl [B14]; · iexact B14
      unfold anyBuf
      isplitl [O15]; · iexists _; iexact O15
      iexists _; iexact O16
    isplitl [HV]; · iexact HV
    isplitl [V0]; · iexact V0
    isplitl [V1]; · iexact V1
    isplitl [V2]; · iexact V2
    isplitl [V3]; · iexact V3
    iexact V4
  iexact HW

end Whole

end Cert.Proof.KerI

end
-- ==== Proof.LaunchI.lean ====
/-
  The launch: what the sequencers and the tasks are handed, the program of the host, and the run of the whole machine.
-/
module

public import proofs.«01_k».proof.Defs
public import proofs.«01_k».proof.Proof.TileI
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.ShareLeaves
public import Idealize.ShloMosaic.Lib.Pipeline.Kit

@[expose] public section

noncomputable section

namespace Cert.Proof.KerI

open Cert.KernelIdeal Cert.KernelIdeal.Gen
open Cert.Proof.Lib
open Idealize.ShloMosaic Idealize.ShloMosaic.Transfers
open Idealize.ShloMosaic.SparseCore (S V T)
open Idealize.ShloMosaic.SparseCore.Cfg (HIx Pay ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC₀ : UEmb Counters (MT nD τ sig (HIx 1) (Elt F) ℕ UU ℕ) := countersEmb

/-! ## The launch memory and the arrays -/

variable (m : (ℓ : Loc nD τ sig) → Buf (Elt F) ℓ) (ρ : Dev nD → PrngReg)

abbrev loc0 (d : Dev nD) : Loc nD τ sig := (SparseCore.T d).loc main_arg0
abbrev loc1 (d : Dev nD) : Loc nD τ sig := (SparseCore.T d).loc main_arg1
abbrev loc2 (d : Dev nD) : Loc nD τ sig := (SparseCore.T d).loc main_arg2
abbrev loc3 (d : Dev nD) : Loc nD τ sig := (SparseCore.T d).loc main_arg3
abbrev loc4 (d : Dev nD) : Loc nD τ sig := (SparseCore.T d).loc main_arg4
abbrev locI (d : Dev nD) : Loc nD τ sig := (SparseCore.T d).loc main_v0_0
abbrev locJ (d : Dev nD) : Loc nD τ sig := (SparseCore.T d).loc main_v0_1
abbrev locR1 (d : Dev nD) : Loc nD τ sig := (SparseCore.T d).loc main_v1
abbrev locR2 (d : Dev nD) : Loc nD τ sig := (SparseCore.T d).loc main_v2

/-- The words of the three index arrays and the two tables, at the launch. -/
abbrev wC (d : Dev nD) : S16384.Idx → BitVec 32 := m (loc0 d)
abbrev wI (d : Dev nD) : S16384.Idx → BitVec 32 := m (loc1 d)
abbrev wJ (d : Dev nD) : S16384.Idx → BitVec 32 := m (loc2 d)
abbrev tC (d : Dev nD) : S1000000x32.Idx → Elt F .f32 := m (loc3 d)
abbrev tA (d : Dev nD) : S1000000x32.Idx → Elt F .f32 := m (loc4 d)

/-- Every word of the index arrays names a row of the tables. -/
def PreOK : Prop := ∀ d : Dev nD, (∀ y, (wC m d y).toNat < 1000000) ∧ (∀ y, (wI m d y).toNat < 1000000) ∧ (∀ y, (wJ m d y).toNat < 1000000)

variable [FloatOps F]

/-- What the call leaves in its two results. -/
abbrev outI (d : Dev nD) : S16384.Idx → Elt F .f32 := res (tC m d) (tA m d) (wC m d) (wI m d)
abbrev outJ (d : Dev nD) : S16384.Idx → Elt F .f32 := res (tC m d) (tA m d) (wC m d) (wJ m d)

def coordsV (c : Fin (grid0.bound 0)) (s : Fin (grid0.bound 1)) : grid0.Coords :=
  fun | 0 => c | 1 => s | ⟨_ + 2, h⟩ => absurd h (Nat.not_lt.2 (Nat.le_add_left _ _))

/-- What the task at the coordinates `i` is given, and what it returns. -/
def GIV (d : Dev nD) (i : grid0.Coords) : sProp 𝕄 :=
  Giv d i (Memref.whole main_arg0_scv) (Memref.isWhole_whole _) (Memref.whole main_arg1_scv) (Memref.isWhole_whole _) (Memref.whole main_arg2_scv) (Memref.isWhole_whole _)
    (Memref.whole main_arg3_scv) (Memref.isWhole_whole _) (Memref.whole main_arg4_scv) (Memref.isWhole_whole _) (Memref.whole main_v0_0_scv) (Memref.isWhole_whole _)
    (Memref.whole main_v0_1_scv) (Memref.isWhole_whole _) (tC m d) (tA m d) (wC m d) (wI m d) (wJ m d)
def GOT (d : Dev nD) (i : grid0.Coords) : sProp 𝕄 :=
  Got d i (Memref.whole main_v0_0_scv) (Memref.isWhole_whole _) (Memref.whole main_v0_1_scv) (Memref.isWhole_whole _) (tC m d) (tA m d) (wC m d) (wI m d) (wJ m d)

instance GIV_storable (d : Dev nD) (i : grid0.Coords) : BI.Storable (upEmb : UEmb _ 𝕄) (GIV m d i) := by
  unfold GIV Giv sh; infer_instance
instance GOT_storable (d : Dev nD) (i : grid0.Coords) : BI.Storable (upEmb : UEmb _ 𝕄) (GOT m d i) := by
  unfold GOT Got; infer_instance

/-- A core's tasks' operands and results are its own. -/
def P : (K (F := F)).Pay (nD := nD) (Val := Elt F) (Name := ℕ) (U := UU) where
  st := fun q d c => match q with | 0 => bigSep Finset.univ fun s : Fin ((K (F := F)).nSub 0) => GIV m d (coordsV c s)
  dn := fun q d c => match q with | 0 => bigSep Finset.univ fun s : Fin ((K (F := F)).nSub 0) => GOT m d (coordsV c s)
  go := fun q d c s => match q with | 0 => GIV m d (coordsV c s)
  td := fun q d c s => match q with | 0 => GOT m d (coordsV c s)
  x := fun _ _ => iprop(emp)

instance P_storable : (P (F := F) m).IsStorable where
  st q d c := match q with
    | 0 => @BI.Storable.bigSep _ _ _ _ (upEmb : UEmb _ 𝕄) inferInstance _ Finset.univ (fun s : Fin ((K (F := F)).nSub 0) => GIV m d (coordsV c s)) (fun s => GIV_storable m d (coordsV c s))
  dn q d c := match q with
    | 0 => @BI.Storable.bigSep _ _ _ _ (upEmb : UEmb _ 𝕄) inferInstance _ Finset.univ (fun s : Fin ((K (F := F)).nSub 0) => GOT m d (coordsV c s)) (fun s => GOT_storable m d (coordsV c s))
  go q d c s := match q with | 0 => (inferInstance : BI.Storable (upEmb : UEmb _ 𝕄) (GIV m d (coordsV c s)))
  td q d c s := match q with | 0 => (inferInstance : BI.Storable (upEmb : UEmb _ 𝕄) (GOT m d (coordsV c s)))

/-- A core's operands split into its tasks' and its results gather from theirs. -/
theorem vecSplit : (K (F := F)).VecSplit' (P m) 0 := by
  intro d c
  show (bigSep Finset.univ fun s : Fin ((K (F := F)).nSub 0) => GIV m d (coordsV c s)) ⊢ |={Set.univ}=> iprop(
      (bigSep Finset.univ fun s : Fin ((K (F := F)).nSub 0) => GIV m d (coordsV c s))
      ∗ ((bigSep Finset.univ fun s : Fin ((K (F := F)).nSub 0) => GOT m d (coordsV c s)) -∗ bigSep Finset.univ fun s : Fin ((K (F := F)).nSub 0) => GOT m d (coordsV c s)))
  iintro H; imodintro
  isplitl [H]; · iexact H
  iintro H; iexact H

/-! ## A task -/

omit [FloatOps F] in
/-- A whole buffer held as an array is its points-to. -/
theorem own_whole (d : Dev nD) (i : grid0.Coords) (b : Ref sig .scVector) (q : PosShare TreeShare) (S : Finset b.ty.shape.Idx) (X : b.ty.shape.Idx → Elt F b.ty.elt) :
    (Lib.own (Val := Elt F) (th d i) (Memref.isWhole_whole b) q S X : sProp 𝕄) = ((th d i).loc b ↦[S]{q} X) := by
  have hu : (Memref.isWhole_whole b).unread (Val := Elt F) X = X := ((Memref.isWhole_whole b).eq_unread (Val := Elt F) (f := X) (View.read_whole _ _)).symm
  have hs : (Memref.whole b).view.setOn S = S := Finset.map_refl
  unfold Lib.own
  rw [hu, hs]

omit [FloatOps F] in
theorem anyBuf_whole (d : Dev nD) (i : grid0.Coords) (b : Ref sig .scVector) :
    (iprop(∃ X : b.ty.shape.Idx → Elt F b.ty.elt, Lib.own (Val := Elt F) (th d i) (Memref.isWhole_whole b) fullShare Finset.univ X) : sProp 𝕄)
      = iprop(∃ f, (th d i).loc b ↦{fullShare} f) := by
  simp only [own_whole]

/-- The task's scratch buffers and its semaphores. -/
abbrev scrRefs : List (Ref sig .scVector) := [cc0_scratch0, cc0_scratch1, cc0_scratch2, cc0_scratch3, cc0_scratch4, cc0_scratch5, cc0_scratch6, cc0_scratch7]
abbrev scrSems : List (SemLoc sig) := [.dma cc0_scratch8.sem, .dma cc0_scratch9.sem, .dma cc0_scratch10.sem, .dma cc0_scoped0.sem, .dma cc0_scoped1.sem, .dma cc0_scoped2.sem,
  .dma cc0_scoped3.sem, .dma cc0_scoped4.sem]

omit [FloatOps F] in
theorem bigSep_sub {I : Type} [DecidableEq I] {s t : Finset I} (h : t ⊆ s) (Φ : I → sProp 𝕄) : bigSep s Φ = iprop(bigSep t Φ ∗ bigSep (s \ t) Φ) := by
  conv_lhs => rw [← Finset.union_sdiff_of_subset h]
  exact bigSep_union Finset.disjoint_sdiff

omit [FloatOps F] in
/-- The scratch buffers are among the subcore's own. -/
theorem ownBufs_split (d : Dev nD) (i : grid0.Coords) : ∃ R : sProp 𝕄,
    (ownBufs (th d i) : sProp 𝕄) = iprop((bigSepL scrRefs fun b => iprop(∃ f, (th d i).loc b ↦{fullShare} f)) ∗ R) := by
  have hsub : scrRefs.toFinset.image (fun b => (th d i).2.devRef b) ⊆ ownRefs (τ := τ) (sig := sig) (th d i).2 := by
    intro x hx
    obtain ⟨b, hb, rfl⟩ := Finset.mem_image.mp hx
    refine SparseCore.Cfg.mem_ownRefs_of_owner (p := (th d i).2) ?_
    simp only [scrRefs, List.toFinset_cons, List.toFinset_nil, Finset.mem_insert, Finset.notMem_empty, or_false] at hb
    rcases hb with rfl | rfl | rfl | rfl | rfl | rfl | rfl | rfl <;> rfl
  refine ⟨bigSep (ownRefs (τ := τ) (sig := sig) (th d i).2 \ scrRefs.toFinset.image (fun b => (th d i).2.devRef b)) fun b => iprop(∃ f, (((th d i).1, b) : Loc nD τ sig) ↦{fullShare} f), ?_⟩
  unfold ownBufs
  refine (bigSep_sub hsub _).trans ?_
  rw [SparseCore.bigSep_image_of_injOn (fun _ _ _ _ e => Proc.devRef_injective _ e), bigSep_eq_bigSepL scrRefs (by decide)]

omit [FloatOps F] in
/-- The semaphores are among the subcore's own. -/
theorem ownSems0_split (d : Dev nD) (i : grid0.Coords) : ∃ R : sProp 𝕄,
    (ownSems0 (th d i) : sProp 𝕄) = iprop((bigSepL scrSems fun s => semVal (th d i, s) 0) ∗ R) := by
  have hsub : scrSems.toFinset.image (fun s => ((th d i, s) : GSem nD τ sig)) ⊆ ownCells (th d i) := by
    intro x hx
    obtain ⟨b, hb, rfl⟩ := Finset.mem_image.mp hx
    refine mem_ownCells.mpr ⟨rfl, ?_⟩
    show b.isScoped .scVector = true
    clear hx
    revert b
    decide
  refine ⟨bigSep (ownCells (th d i) \ scrSems.toFinset.image (fun s => ((th d i, s) : GSem nD τ sig))) fun g => semVal g 0, ?_⟩
  unfold ownSems0
  refine (bigSep_sub hsub _).trans ?_
  rw [SparseCore.bigSep_image_of_injOn (fun _ _ _ _ e => (Prod.mk.inj e).2), bigSep_eq_bigSepL scrSems (by decide)]

/-- The task's scratch, as its program names it. -/
abbrev SCR (d : Dev nD) (i : grid0.Coords) : sProp 𝕄 :=
  Scr d i (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _) (Memref.whole cc0_scratch7) (Memref.isWhole_whole _)
    cc0_scratch8 cc0_scratch9 cc0_scratch10 cc0_scoped0 cc0_scoped1 cc0_scoped2 cc0_scoped3 cc0_scoped4

omit [FloatOps F] in
theorem bufs_chain (Φ : Ref sig .scVector → sProp 𝕄) : bigSepL scrRefs Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7) := rfl
omit [FloatOps F] in
theorem sems_chain (Φ : SemLoc sig → sProp 𝕄) : bigSepL scrSems Φ = iprop(Φ (.dma cc0_scratch8.sem) ∗ Φ (.dma cc0_scratch9.sem) ∗ Φ (.dma cc0_scratch10.sem) ∗ Φ (.dma cc0_scoped0.sem)
    ∗ Φ (.dma cc0_scoped1.sem) ∗ Φ (.dma cc0_scoped2.sem) ∗ Φ (.dma cc0_scoped3.sem) ∗ Φ (.dma cc0_scoped4.sem)) := rfl

/-- The program's scratch is the buffers and the semaphores listed. -/
theorem SCR_eq (d : Dev nD) (i : grid0.Coords) :
    (iprop((bigSepL scrRefs fun b => iprop(∃ f, (th d i).loc b ↦{fullShare} f)) ∗ bigSepL scrSems fun s => semVal (th d i, s) 0) : sProp 𝕄) ⊣⊢ SCR d i := by
  have h : ∀ b : Ref sig .scVector, (iprop(∃ f, (th d i).loc b ↦{fullShare} f) : sProp 𝕄)
      = iprop(∃ X : b.ty.shape.Idx → Elt F b.ty.elt, Lib.own (Val := Elt F) (th d i) (Memref.isWhole_whole b) fullShare Finset.univ X) := fun b => (anyBuf_whole d i b).symm
  rw [bufs_chain, sems_chain]
  simp only [h]
  unfold SCR Scr SV anyBuf
  constructor
  · iintro ⟨HB, S8, S9, S10, HS⟩
    isplitl [HB]; · iexact HB
    isplitl [S8 S9 S10]
    · isplitl [S8]; · iexact S8
      isplitl [S9]; · iexact S9
      iexact S10
    iexact HS
  · iintro ⟨HB, ⟨S8, S9, S10⟩, HS⟩
    isplitl [HB]; · iexact HB
    isplitl [S8]; · iexact S8
    isplitl [S9]; · iexact S9
    isplitl [S10]; · iexact S10
    iexact HS

/-- The task on the vector subcore at the coordinates `i`. -/
theorem tile_body (d : Dev nD) (i : grid0.Coords) (hpre : PreOK m) (O : CellTallies nD τ sig (HIx 1)) (W : Waits sig (HIx 1)) (hO : ∀ g, O g none = 0) :
    iprop(levAts (K (F := F)).L (K (F := F)).lev ∗ emp ∗ GIV m d i ∗ scopedBufs (th d i) ∗ scopedSems0 (th d i) ∗ owes (th d i) O W)
      ⊢ (wp frame (wpE (defs₀ (F := F)) 𝒱₀ (th d i) none) Set.univ
          (cc0__bpr_sc i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1 cc0_scoped2 cc0_scoped3 cc0_scoped4)
          fun _ => iprop(GOT m d i ∗ scopedBufs (th d i) ∗ scopedSems0 (th d i) ∗ ∃ W', ⌜∀ p ∈ W', p ∈ W ∨ p.2 = none⌝ ∗ owes (th d i) O W') : sProp 𝕄) := by
  unfold GIV GOT
  obtain ⟨RB, hB⟩ := ownBufs_split (F := F) d i
  obtain ⟨RS, hS⟩ := ownSems0_split (F := F) d i
  rw [(K (F := F)).scopedBufs_V scFacts d ((i 0).castLE hcore0) ((i 1).castLE hsub0), SparseCore.Cfg.scopedSems0_V (Val := Elt F) d ((i 0).castLE hcore0) ((i 1).castLE hsub0)]
  rw [show (ownBufs (V d ((i 0).castLE hcore0) ((i 1).castLE hsub0)) : sProp 𝕄) = _ from hB, show (ownSems0 (V d ((i 0).castLE hcore0) ((i 1).castLE hsub0)) : sProp 𝕄) = _ from hS]
  iintro ⟨#Hlv, -, HG, ⟨HB, HRB⟩, ⟨HS, HRS⟩, HO⟩
  iapply ((tile (defs := defs₀ (F := F)) (𝒱 := 𝒱₀) (bd := none) d i EC₀ (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1 cc0_scoped2 cc0_scoped3 cc0_scoped4
    O W (tC m d) (tA m d) (wC m d) (wI m d) (wJ m d) (hpre d).1 (hpre d).2.1 (hpre d).2.2).run _)
  isplitl [HG HB HS HO]
  · isplitl [HG]; · iexact HG
    isplitl [HB HS]
    · iapply (SCR_eq (F := F) d i).1
      isplitl [HB]; · iexact HB
      iexact HS
    · unfold WT waits
      isplitl [HO]
      · iexists W
        isplitr
        · ipureintro; exact fun p hp => .inl hp
        · iexact HO
      · iapply ((K (F := F)).mayWaits_none hO); iexact Hlv
  · iintro ⟨HG, HScr, HW⟩
    ihave HScr := (SCR_eq (F := F) d i).2 $$ HScr
    icases HScr with ⟨HB, HS⟩
    unfold WT waits
    icases HW with ⟨HW, -⟩
    isplitl [HG]; · iexact HG
    isplitl [HB HRB]
    · isplitl [HB]; · iexact HB
      iexact HRB
    isplitl [HS HRS]
    · isplitl [HS]; · iexact HS
      iexact HRS
    iexact HW

theorem defs₀_vector (c : Fin τ.nSC) (s : Fin τ.nSub) :
    defs₀ (F := F) (.scVector c s) 0 ()
      = SparseCore.onTile hcore0 hsub0 (fun c s => cc0__bpr_sc (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

/-! ## The launch element: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The operands dealt to the tasks, the results gathered from them -/

omit [FloatOps F] in
/-- A share of an array, dealt to the thirty-two tasks. -/
theorem deal {ℓ : Loc nD τ sig} (q : PosShare TreeShare) (f : Buf (Elt F) ℓ) :
    (ℓ ↦{q} f : sProp 𝕄) ⊢ bigSep (Finset.univ : Finset (Fin 2)) fun _ => bigSep (Finset.univ : Finset (Fin 16)) fun _ => iprop(∃ q', ℓ ↦{q'} f) := by
  refine (Entails.of_eq (ShareLeaves.pointsTo_leaves Finset.univ f 1 q)).trans ?_
  refine BI.bigSep_mono fun c _ => ?_
  refine (Entails.of_eq (ShareLeaves.pointsTo_leaves Finset.univ f 4 _)).trans ?_
  refine BI.bigSep_mono fun s _ => ?_
  show (ℓ ↦{ShareLeaves.leaf 4 (ShareLeaves.leaf 1 q c) s} f : sProp 𝕄) ⊢ iprop(∃ q', ℓ ↦{q'} f)
  iintro H
  iexists _; iexact H

/-- The batch positions of the task on subcore `cs.2` of core `cs.1`. -/
abbrev blk (cs : Fin 2 × Fin 16) : Finset S16384.Idx := (block (coordsV cs.1 cs.2)).set

theorem mem_blk (cs : Fin 2 × Fin 16) (y : S16384.Idx) : y ∈ blk cs ↔ 1024 * cs.2.val + 512 * cs.1.val ≤ (y 0).val ∧ (y 0).val < 1024 * cs.2.val + 512 * cs.1.val + 512 := by
  have h0 : k0_off1 (coordsV cs.1 cs.2) 0 = 1024 * cs.2.val + 512 * cs.1.val := by rw [k0_off1_eq]; rfl
  have hm := Rect.mem_set_unit (s := S16384) (off := k0_off1 (coordsV cs.1 cs.2)) (size := S512.size) (inb := k0_off1_inb _) (i := y)
  refine hm.trans ⟨fun h => ?_, fun h a => ?_⟩
  · have := h 0
    rw [h0] at this
    exact this
  · match a with
    | 0 => rw [h0]; exact h

theorem blk_disjoint : ∀ t ∈ (Finset.univ : Finset (Fin 2 × Fin 16)), ∀ t' ∈ (Finset.univ : Finset (Fin 2 × Fin 16)), t ≠ t' → Disjoint (blk t) (blk t') := by
  intro t _ t' _ hne
  refine Finset.disjoint_left.mpr fun y h h' => hne ?_
  rw [mem_blk] at h h'
  have := t.1.isLt; have := t'.1.isLt
  exact Prod.ext (Fin.ext (by omega)) (Fin.ext (by omega))

theorem blk_cover : (Finset.univ : Finset (Fin 2 × Fin 16)).biUnion blk = Finset.univ := by
  refine Finset.eq_univ_of_forall fun y => Finset.mem_biUnion.mpr ?_
  have hy : (y 0).val < 16384 := (y 0).isLt
  refine ⟨(⟨(y 0).val % 1024 / 512, by omega⟩, ⟨(y 0).val / 1024, by omega⟩), Finset.mem_univ _, (mem_blk _ _).mpr ?_⟩
  dsimp only
  omega

omit [FloatOps F] in
/-- An array is its tasks' blocks. -/
theorem byBlocks {ℓ : Loc nD τ sig} {KK : Fin 2 × Fin 16 → Finset (Idx ℓ)} (hd : ∀ t ∈ (Finset.univ : Finset (Fin 2 × Fin 16)), ∀ t' ∈ (Finset.univ : Finset (Fin 2 × Fin 16)), t ≠ t' → Disjoint (KK t) (KK t'))
    (hc : (Finset.univ : Finset (Fin 2 × Fin 16)).biUnion KK = Finset.univ) (f : Buf (Elt F) ℓ) :
    (ℓ ↦{fullShare} f : sProp 𝕄) = bigSep (Finset.univ : Finset (Fin 2)) fun c => bigSep (Finset.univ : Finset (Fin 16)) fun s => ℓ ↦[KK (c, s)]{fullShare} f := by
  rw [← hc, pointsTo_biUnion Finset.univ KK hd, ← Finset.univ_product_univ, SparseCore.bigSep_product]

omit [FloatOps F] in
theorem sh_whole (d : Dev nD) (i : grid0.Coords) (b : Ref sig .scVector) (X : b.ty.shape.Idx → Elt F b.ty.elt) :
    (iprop(∃ q, Lib.own (Val := Elt F) (th d i) (Memref.isWhole_whole b) q Finset.univ X) : sProp 𝕄) = iprop(∃ q, (th d i).loc b ↦{q} X) := by
  simp only [own_whole]

omit [FloatOps F] in
theorem any_whole (d : Dev nD) (i : grid0.Coords) (b : Ref sig .scVector) (S : Finset b.ty.shape.Idx) :
    (iprop(∃ Y : b.ty.shape.Idx → Elt F b.ty.elt, Lib.own (Val := Elt F) (th d i) (Memref.isWhole_whole b) fullShare S Y) : sProp 𝕄) = iprop(∃ Y : b.ty.shape.Idx → Elt F b.ty.elt, (th d i).loc b ↦[S]{fullShare} Y) := by
  simp only [own_whole]

theorem GIV_eq (d : Dev nD) (i : grid0.Coords) : (GIV m d i : sProp 𝕄) = iprop(((∃ q, loc0 d ↦{q} m (loc0 d)) ∗ (∃ q, loc1 d ↦{q} m (loc1 d)) ∗ (∃ q, loc2 d ↦{q} m (loc2 d)) ∗ (∃ q, loc3 d ↦{q} m (loc3 d)) ∗ (∃ q, loc4 d ↦{q} m (loc4 d)))
      ∗ (∃ Y, locI d ↦[(block i).set]{fullShare} Y) ∗ (∃ Y, locJ d ↦[(block i).set]{fullShare} Y)) := by
  unfold GIV Giv sh
  exact congrArg₂ (fun a b => iprop(a ∗ b))
    (congrArg₂ (fun a b => iprop(a ∗ b)) (sh_whole d i main_arg0_scv (wC m d)) (congrArg₂ (fun a b => iprop(a ∗ b)) (sh_whole d i main_arg1_scv (wI m d))
      (congrArg₂ (fun a b => iprop(a ∗ b)) (sh_whole d i main_arg2_scv (wJ m d)) (congrArg₂ (fun a b => iprop(a ∗ b)) (sh_whole d i main_arg3_scv (tC m d)) (sh_whole d i main_arg4_scv (tA m d))))))
    (congrArg₂ (fun a b => iprop(a ∗ b)) (any_whole d i main_v0_0_scv (block i).set) (any_whole d i main_v0_1_scv (block i).set))

theorem GOT_eq (d : Dev nD) (i : grid0.Coords) : (GOT m d i : sProp 𝕄) = iprop((locI d ↦[(block i).set]{fullShare} outI m d) ∗ (locJ d ↦[(block i).set]{fullShare} outJ m d)) := by
  unfold GOT Got
  exact congrArg₂ (fun a b => iprop(a ∗ b)) (own_whole d i main_v0_0_scv fullShare (block i).set (outI m d)) (own_whole d i main_v0_1_scv fullShare (block i).set (outJ m d))

omit [FloatOps F] in
theorem some_blocks {ℓ : Loc nD τ sig} (KK : Fin 2 × Fin 16 → Finset (Idx ℓ)) (f : Buf (Elt F) ℓ) :
    (bigSep (Finset.univ : Finset (Fin 2)) fun c => bigSep (Finset.univ : Finset (Fin 16)) fun s => (ℓ ↦[KK (c, s)]{fullShare} f : sProp 𝕄))
      ⊢ bigSep (Finset.univ : Finset (Fin 2)) fun c => bigSep (Finset.univ : Finset (Fin 16)) fun s => iprop(∃ Y, ℓ ↦[KK (c, s)]{fullShare} Y) :=
  BI.bigSep_mono fun c _ => BI.bigSep_mono fun s _ => by
    show (ℓ ↦[KK (c, s)]{fullShare} f : sProp 𝕄) ⊢ iprop(∃ Y, ℓ ↦[KK (c, s)]{fullShare} Y)
    iintro H
    iexists _; iexact H

/-- What the call takes. -/
theorem give (d : Dev nD) (q : PosShare TreeShare) (fI : Buf (Elt F) (locI d)) (fJ : Buf (Elt F) (locJ d)) :
    (iprop((loc0 d ↦{q} m (loc0 d)) ∗ (loc1 d ↦{q} m (loc1 d)) ∗ (loc2 d ↦{q} m (loc2 d)) ∗ (loc3 d ↦{q} m (loc3 d)) ∗ (loc4 d ↦{q} m (loc4 d))
      ∗ (locI d ↦{fullShare} fI) ∗ (locJ d ↦{fullShare} fJ)) : sProp 𝕄) ⊢ bigSep Finset.univ fun c : Fin ((K (F := F)).nCore 0) => (P m).st 0 d c := by
  show _ ⊢ bigSep (Finset.univ : Finset (Fin 2)) fun c => bigSep (Finset.univ : Finset (Fin 16)) fun s => GIV m d (coordsV c s)
  simp only [GIV_eq, bigSep_sep']
  rw [byBlocks (ℓ := locI d) (KK := blk) blk_disjoint blk_cover fI, byBlocks (ℓ := locJ d) (KK := blk) blk_disjoint blk_cover fJ]
  iintro ⟨H0, H1, H2, H3, H4, HI, HJ⟩
  isplitl [H0 H1 H2 H3 H4]
  · isplitl [H0]; · iapply (deal q (m (loc0 d))); iexact H0
    isplitl [H1]; · iapply (deal q (m (loc1 d))); iexact H1
    isplitl [H2]; · iapply (deal q (m (loc2 d))); iexact H2
    isplitl [H3]; · iapply (deal q (m (loc3 d))); iexact H3
    iapply (deal q (m (loc4 d))); iexact H4
  isplitl [HI]; · iapply (some_blocks (ℓ := locI d) blk fI); iexact HI
  iapply (some_blocks (ℓ := locJ d) blk fJ); iexact HJ

/-- What the call brings back. -/
theorem back (d : Dev nD) : (bigSep Finset.univ fun c : Fin ((K (F := F)).nCore 0) => (P m).dn 0 d c : sProp 𝕄) ⊢ iprop((locI d ↦{fullShare} outI m d) ∗ (locJ d ↦{fullShare} outJ m d)) := by
  show (bigSep (Finset.univ : Finset (Fin 2)) fun c => bigSep (Finset.univ : Finset (Fin 16)) fun s => GOT m d (coordsV c s)) ⊢ _
  simp only [GOT_eq, bigSep_sep']
  rw [byBlocks (ℓ := locI d) (KK := blk) blk_disjoint blk_cover (outI m d), byBlocks (ℓ := locJ d) (KK := blk) blk_disjoint blk_cover (outJ m d)]

/-! ## The host's program -/

omit [FloatOps F] in
theorem unscopedBufs_eq (d : Dev nD) (W : (b : Ref sig .tc) → Buf (Elt F) ((d.tc : Thread nD τ).loc b)) :
    (unscopedBufs d W : sProp 𝕄) = iprop((loc0 d ↦{fullShare} W main_arg0) ∗ (loc1 d ↦{fullShare} W main_arg1) ∗ (loc2 d ↦{fullShare} W main_arg2) ∗ (loc3 d ↦{fullShare} W main_arg3) ∗ (loc4 d ↦{fullShare} W main_arg4)
      ∗ (locI d ↦{fullShare} W main_v0_0) ∗ (locJ d ↦{fullShare} W main_v0_1) ∗ (locR1 d ↦{fullShare} W main_v1) ∗ (locR2 d ↦{fullShare} W main_v2)) := by
  unfold unscopedBufs
  rw [show (Finset.univ.filter fun b : Ref sig .tc => ¬ b.isScoped) = [main_arg0, main_arg1, main_arg2, main_arg3, main_arg4, main_v0_0, main_v0_1, main_v1, main_v2].toFinset by decide,
    bigSep_eq_bigSepL _ (by decide)]
  rfl

abbrev rI : DevRef τ sig := Proc.devRef .tc (main_v0_0 : Ref sig .tc)
abbrev rJ : DevRef τ sig := Proc.devRef .tc (main_v0_1 : Ref sig .tc)
abbrev r1 : DevRef τ sig := Proc.devRef .tc (main_v1 : Ref sig .tc)
abbrev r2 : DevRef τ sig := Proc.devRef .tc (main_v2 : Ref sig .tc)
abbrev op1 : HloOp τ sig (Elt F) := StableHlo.reshape main_v0_0 main_v1 (rfl : (.f32 : EltTy) = .f32) shapeCasts_S16384_S16384x1
abbrev op2 : HloOp τ sig (Elt F) := StableHlo.reshape main_v0_1 main_v2 (rfl : (.f32 : EltTy) = .f32) shapeCasts_S16384_S16384x1
abbrev S4 : Finset (DevRef τ sig) := {rI, rJ, r1, r2}

omit [FloatOps F] in
theorem held_S4 (d : Dev nD) (W : Valuation τ sig (Elt F)) :
    (held (T d) S4 W : sProp 𝕄) = iprop((locI d ↦{fullShare} W rI) ∗ (locJ d ↦{fullShare} W rJ) ∗ (locR1 d ↦{fullShare} W r1) ∗ locR2 d ↦{fullShare} W r2) := by
  unfold held S4
  rw [SparseCore.bigSep_insert' (by decide), SparseCore.bigSep_insert' (by decide), SparseCore.bigSep_insert' (by decide), bigSep_singleton]

/-- The host's arrays after the call. -/
def VV (d : Dev nD) : Valuation τ sig (Elt F) := Function.update (Function.update (fun b => m (d, b)) rI (outI m d)) rJ (outJ m d)

theorem VV_I (d : Dev nD) : VV m d rI = outI m d := (Function.update_of_ne (show rI ≠ rJ by decide) _ _).trans (Function.update_self _ _ _)
theorem VV_J (d : Dev nD) : VV m d rJ = outJ m d := Function.update_self _ _ _
theorem VV_1 (d : Dev nD) : VV m d r1 = m (locR1 d) := (Function.update_of_ne (show r1 ≠ rJ by decide) _ _).trans (Function.update_of_ne (show r1 ≠ rI by decide) _ _)
theorem VV_2 (d : Dev nD) : VV m d r2 = m (locR2 d) := (Function.update_of_ne (show r2 ≠ rJ by decide) _ _).trans (Function.update_of_ne (show r2 ≠ rI by decide) _ _)

/-- The program's two results: what the call leaves, one column each. -/
def ret1 (d : Dev nD) : S16384x1.Idx → Elt F .f32 := shapeCast S16384x1 (outI m d) shapeCasts_S16384_S16384x1
def ret2 (d : Dev nD) : S16384x1.Idx → Elt F .f32 := shapeCast S16384x1 (outJ m d) shapeCasts_S16384_S16384x1

theorem end_1 (d : Dev nD) : (op2 (F := F)).result ((op1 (F := F)).result (VV m d)) r1 = ret1 m d := by
  rw [(op2 (F := F)).result_of_not_mem _ (b := r1) (show r1 ∉ ({r2} : Finset (DevRef τ sig)) by decide)]
  refine (StableHlo.reshape_result main_v0_0 main_v1 (rfl : (.f32 : EltTy) = .f32) shapeCasts_S16384_S16384x1 _ _ (VV m d)).trans ?_
  have h := VV_I m d
  unfold ret1
  rw [← h]; rfl
theorem end_2 (d : Dev nD) : (op2 (F := F)).result ((op1 (F := F)).result (VV m d)) r2 = ret2 m d := by
  refine (StableHlo.reshape_result main_v0_1 main_v2 (rfl : (.f32 : EltTy) = .f32) shapeCasts_S16384_S16384x1 _ _ ((op1 (F := F)).result (VV m d))).trans ?_
  have h := ((op1 (F := F)).result_of_not_mem (VV m d) (b := rJ) (show rJ ∉ ({r1} : Finset (DevRef τ sig)) by decide)).trans (VV_J m d)
  unfold ret2
  rw [← h]; rfl

/-- What the host's program leaves: a share of each argument, unchanged, and the two results. -/
abbrev FIN (d : Dev nD) : sProp 𝕄 :=
  iprop((loc0 d ↦{fullShare.left} m (loc0 d)) ∗ (loc1 d ↦{fullShare.left} m (loc1 d)) ∗ (loc2 d ↦{fullShare.left} m (loc2 d)) ∗ (loc3 d ↦{fullShare.left} m (loc3 d)) ∗ (loc4 d ↦{fullShare.left} m (loc4 d))
    ∗ (locR1 d ↦{fullShare} ret1 m d) ∗ (locR2 d ↦{fullShare} ret2 m d))

omit [FloatOps F] in
theorem halves {ℓ : Loc nD τ sig} (f : Buf (Elt F) ℓ) : (ℓ ↦{fullShare} f : sProp 𝕄) ⊢ iprop((ℓ ↦{fullShare.left} f) ∗ ℓ ↦{fullShare.right} f) :=
  (pointsTo_share (PosShare.mem_left_op_right fullShare)).1

/-- The host's program: the call, then the two reshapes of its results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, HI, HJ, HR1, HR2⟩, Hts, -⟩, -⟩
  ihave H0 := (halves _) $$ H0
  ihave H1 := (halves _) $$ H1
  ihave H2 := (halves _) $$ H2
  ihave H3 := (halves _) $$ H3
  ihave H4 := (halves _) $$ H4
  icases H0 with ⟨L0, H0⟩
  icases H1 with ⟨L1, H1⟩
  icases H2 with ⟨L2, H2⟩
  icases H3 with ⟨L3, H3⟩
  icases H4 with ⟨L4, H4⟩
  iapply ((K (F := F)).wp_run (D (F := F)) 𝒱 (EH := EH) (P := P m) κ d 0) $$ [Hst H0 H1 H2 H3 H4 HI HJ L0 L1 L2 L3 L4 HR1 HR2 Hb Hts]
  isplitr; · iexact Hctx
  isplitl [Hst]; · iexact Hst
  isplitl [H0 H1 H2 H3 H4 HI HJ]
  · iapply (give m d fullShare.right _ _)
    isplitl [H0]; · iexact H0
    isplitl [H1]; · iexact H1
    isplitl [H2]; · iexact H2
    isplitl [H3]; · iexact H3
    isplitl [H4]; · iexact H4
    isplitl [HI]; · iexact HI
    iexact HJ
  iintro ⟨Hst, Hdn⟩
  ihave Hdn := (back m d) $$ Hdn
  icases Hdn with ⟨HI, HJ⟩
  iapply (wp_hlo_within 𝒱 (SparseCore.T d) none Set.univ (op := op1) (S := S4) (show ({rI, r1} : Finset (DevRef τ sig)) ⊆ S4 by decide) (V := VV m d)) $$ [Hb HI HJ HR1 HR2]
  · isplitl [Hb]; · iexact Hb
    rw [held_S4, VV_I, VV_J, VV_1, VV_2]
    isplitl [HI]; · iexact HI
    isplitl [HJ]; · iexact HJ
    isplitl [HR1]; · iexact HR1
    iexact HR2
  iintro ⟨Hb, Hheld⟩
  rw [wp_ret]; imodintro
  iapply (wp_hlo_within 𝒱 (SparseCore.T d) none Set.univ (op := op2) (S := S4) (show ({rJ, r2} : Finset (DevRef τ sig)) ⊆ S4 by decide) (V := (op1 (F := F)).result (VV m d))) $$ [Hb Hheld]
  · isplitl [Hb]; · iexact Hb
    iexact Hheld
  iintro ⟨Hb, Hheld⟩
  ihave Hh := (Entails.of_eq (held_S4 (F := F) d _)) $$ Hheld
  icases Hh with ⟨-, -, HR1, HR2⟩
  ihave HR1 := (Entails.of_eq (congrArg (fun x => (locR1 d ↦{fullShare} x : sProp 𝕄)) (end_1 m d))) $$ HR1
  ihave HR2 := (Entails.of_eq (congrArg (fun x => (locR2 d ↦{fullShare} x : sProp 𝕄)) (end_2 m d))) $$ HR2
  rw [wp_ret]; imodintro; imodintro
  isplitl [Hst]; · iexact Hst
  isplitr [Hb Hts]
  · isplitl [L0]; · iexact L0
    isplitl [L1]; · iexact L1
    isplitl [L2]; · iexact L2
    isplitl [L3]; · iexact L3
    isplitl [L4]; · iexact L4
    isplitl [HR1]; · iexact HR1
    iexact HR2
  isplitl [Hb] <;> iassumption

/-- What a final memory holds on device `d`. -/
def fq (d : Dev nD) (s' : Phys nD τ sig (Elt F)) : Prop :=
  s'.mem.mem (locR1 d) = ret1 m d ∧ s'.mem.mem (locR2 d) = ret2 m d
    ∧ s'.mem.mem (loc0 d) = m (loc0 d) ∧ s'.mem.mem (loc1 d) = m (loc1 d) ∧ s'.mem.mem (loc2 d) = m (loc2 d) ∧ s'.mem.mem (loc3 d) = m (loc3 d) ∧ s'.mem.mem (loc4 d) = m (loc4 d)

omit [FloatOps F] in
/-- A final memory holds what a share of an array says. -/
theorem agree (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, HR1, HR2⟩, HSI⟩
  ihave H := (agree s' (loc0 d) _ _) $$ [HSI H0]
  · isplitl [HSI] <;> iassumption
  icases H with ⟨%h0, HSI⟩
  ihave H := (agree s' (loc1 d) _ _) $$ [HSI H1]
  · isplitl [HSI] <;> iassumption
  icases H with ⟨%h1, HSI⟩
  ihave H := (agree s' (loc2 d) _ _) $$ [HSI H2]
  · isplitl [HSI] <;> iassumption
  icases H with ⟨%h2, HSI⟩
  ihave H := (agree s' (loc3 d) _ _) $$ [HSI H3]
  · isplitl [HSI] <;> iassumption
  icases H with ⟨%h3, HSI⟩
  ihave H := (agree s' (loc4 d) _ _) $$ [HSI H4]
  · isplitl [HSI] <;> iassumption
  icases H with ⟨%h4, HSI⟩
  ihave H := (agree s' (locR1 d) _ _) $$ [HSI HR1]
  · isplitl [HSI] <;> iassumption
  icases H with ⟨%h5, HSI⟩
  ihave H := (agree s' (locR2 d) _ _) $$ [HSI HR2]
  · isplitl [HSI] <;> iassumption
  icases H with ⟨%h6, -⟩
  ipureintro; exact ⟨h5, h6, h0, h1, h2, h3, h4⟩

/-! ## The run -/

/-- What every run ends in: on every device the two results computed and the arguments unchanged, every semaphore at zero. -/
def QC : PUnit × MemSt nD τ sig (Elt F) → Prop := fun r => (∀ d : Dev nD,
  r.2.mem (locR1 d) = ret1 m d ∧ r.2.mem (locR2 d) = ret2 m d
    ∧ r.2.mem (loc0 d) = m (loc0 d) ∧ r.2.mem (loc1 d) = m (loc1 d) ∧ r.2.mem (loc2 d) = m (loc2 d) ∧ r.2.mem (loc3 d) = m (loc3 d) ∧ r.2.mem (loc4 d) = m (loc4 d)) ∧ r.2.sem = fun _ => 0

/-- THE RUN: from a memory whose words name rows of the tables, every run of the machine terminates, nothing faulting, and ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KerI

end
-- ==== Proof.Ref.lean ====
/-
  The run of the reference: three takes of rows by index, then for each article the rows' dot products and their logistic.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Quiescent
public import Idealize.ShloMosaic.Lib.StableHlo.ReadAt

@[expose] public section

set_option maxRecDepth 8000

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of one take, in order. -/
abbrev takeOps (arg0 : StableHlo.TRef sig ⟨S1000000x32, .f32⟩) (arg1 : StableHlo.TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 1000000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S1000000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The operations after the takes, in order. -/
abbrev tailOps : List (HloOp τ sig (Elt F)) :=
  [ binary main_v0 main_v1 main_v3 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v3 main_cst main_v4 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    binary main_v0 main_v2 main_v6 (mulf : (⟨S16384x32, .f32⟩ : BufTy).Contents (Elt F) → (⟨S16384x32, .f32⟩ : BufTy).Contents (Elt F) → (⟨S16384x32, .f32⟩ : BufTy).Contents (Elt F)),
    nullary main_cst_0 (constant S_ .f32 0x00000000#32),
    binary main_v6 main_cst_0 main_v7 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v5 main_v9 (Host.negf : (⟨S16384x1, .f32⟩ : BufTy).Contents (Elt F) → (⟨S16384x1, .f32⟩ : BufTy).Contents (Elt F)),
    unary main_v9 main_v10 (Host.exp : (⟨S16384x1, .f32⟩ : BufTy).Contents (Elt F) → (⟨S16384x1, .f32⟩ : BufTy).Contents (Elt F)),
    nullary main_cst_1 (constant S_ .f32 0x3F800000#32),
    unary main_cst_1 main_v11 (broadcastInDim S16384x1 ![] bcast_S_S16384x1 : (⟨S_, .f32⟩ : BufTy).Contents (Elt F) → (⟨S16384x1, .f32⟩ : BufTy).Contents (Elt F)),
    binary main_v11 main_v10 main_v12 (addf : (⟨S16384x1, .f32⟩ : BufTy).Contents (Elt F) → (⟨S16384x1, .f32⟩ : BufTy).Contents (Elt F) → (⟨S16384x1, .f32⟩ : BufTy).Contents (Elt F)),
    nullary main_cst_2 (constant S_ .f32 0x3F800000#32),
    unary main_cst_2 main_v13 (broadcastInDim S16384x1 ![] bcast_S_S16384x1 : (⟨S_, .f32⟩ : BufTy).Contents (Elt F) → (⟨S16384x1, .f32⟩ : BufTy).Contents (Elt F)),
    binary main_v13 main_v12 main_v14 (Host.divf : (⟨S16384x1, .f32⟩ : BufTy).Contents (Elt F) → (⟨S16384x1, .f32⟩ : BufTy).Contents (Elt F) → (⟨S16384x1, .f32⟩ : BufTy).Contents (Elt F)),
    unary main_v8 main_v15 (Host.negf : (⟨S16384x1, .f32⟩ : BufTy).Contents (Elt F) → (⟨S16384x1, .f32⟩ : BufTy).Contents (Elt F)),
    unary main_v15 main_v16 (Host.exp : (⟨S16384x1, .f32⟩ : BufTy).Contents (Elt F) → (⟨S16384x1, .f32⟩ : BufTy).Contents (Elt F)),
    nullary main_cst_3 (constant S_ .f32 0x3F800000#32),
    unary main_cst_3 main_v17 (broadcastInDim S16384x1 ![] bcast_S_S16384x1 : (⟨S_, .f32⟩ : BufTy).Contents (Elt F) → (⟨S16384x1, .f32⟩ : BufTy).Contents (Elt F)),
    binary main_v17 main_v16 main_v18 (addf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x3F800000#32),
    unary main_cst_4 main_v19 (broadcastInDim S16384x1 ![] bcast_S_S16384x1 : (⟨S_, .f32⟩ : BufTy).Contents (Elt F) → (⟨S16384x1, .f32⟩ : BufTy).Contents (Elt F)),
    binary main_v19 main_v18 main_v20 (Host.divf : (⟨S16384x1, .f32⟩ : BufTy).Contents (Elt F) → (⟨S16384x1, .f32⟩ : BufTy).Contents (Elt F) → (⟨S16384x1, .f32⟩ : BufTy).Contents (Elt F)) ]

abbrev take0 : List (HloOp τ sig (Elt F)) := takeOps (.of main_arg3) (.of main_arg0) main_call0
abbrev take1 : List (HloOp τ sig (Elt F)) := takeOps (.of main_arg4) (.of main_arg1) main_call1
abbrev take2 : List (HloOp τ sig (Elt F)) := takeOps (.of main_arg4) (.of main_arg2) main_call2

/-- The program's operations, in order. -/
abbrev ops : List (HloOp τ sig (Elt F)) := take0 ++ (take1 ++ (take2 ++ tailOps))

/-- The program is that straight line. -/
theorem main_eq (c : Dev nD) : main (F := F) c = seq ops := rfl

/-- The index column a take reads: an index below zero counted from the end. -/
def col (i : S16384.Idx → BitVec 32) : S16384x1.Idx → BitVec 32 :=
  broadcastInDim S16384x1 ![0] bcast_S16384_S16384x1_0 (select (cmpi .slt i (broadcastInDim S16384 ![] bcast_S_S16384 (constantI S_ 32 0#32)))
    (addi i (broadcastInDim S16384 ![] bcast_S_S16384 (constantI S_ 32 1000000#32))) i)

/-- A take's rows: those the indices name, and not a number where an index names none. -/
def takeF (x : S1000000x32.Idx → Elt F .f32) (i : S16384.Idx → BitVec 32) : S16384x32.Idx → Elt F .f32 :=
  select (broadcastInDim S16384x32 ![0] bcast_S16384_S16384x32_0
      (Host.reduce IntOp.andi (andi (cmpi .sge (col i) (broadcastInDim S16384x1 ![] bcast_S_S16384x1 (constantI S_ 32 0#32)))
        (cmpi .sle (col i) (broadcastInDim S16384x1 ![0, 1] bcast_S1x1_S16384x1_0_1 (broadcastInDim S1x1 ![1] bcast_S1_S1x1_1 (constantI S1 32 999999#32)))))
        (constantI S_ 1 1#1) reducesTo_S16384x1_S16384_d1 h_S_))
    (Host.gather gather_S1000000x32_S16384x1_S16384x32_1_0_n_n_0_1_132 x (col i))
    (broadcastInDim S16384x32 ![] bcast_S_S16384x32 (constant S_ .f32 0x7FC00000#32))

/-- The dot products of two arrays' rows, one column. -/
def dotF (x y : S16384x32.Idx → Elt F .f32) : S16384x1.Idx → Elt F .f32 :=
  broadcastInDim S16384x1 ![0] bcast_S16384_S16384x1_0 (Host.reduceAdd (mulf x y) (constant S_ .f32 0x00000000#32) reducesTo_S16384x32_S16384_d1 h_S_)

/-- The logistic of a column, element by element. -/
def sgF (z : S16384x1.Idx → Elt F .f32) : S16384x1.Idx → Elt F .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf z)))

theorem take0_eq (V : Valuation τ sig (Elt F)) : after take0 V (main_v0 : DevRef τ sig) = takeF (V (main_arg3 : DevRef τ sig)) (V (main_arg0 : DevRef τ sig)) := by
  after_results_simp
  simp -implicitDefEqProofs only [StableHlo.TRef.toBuf, StableHlo.TRef.ofBuf, cast_cast, cast_eq]
  unfold takeF col
  rfl

theorem take1_eq (V : Valuation τ sig (Elt F)) : after take1 V (main_v1 : DevRef τ sig) = takeF (V (main_arg4 : DevRef τ sig)) (V (main_arg1 : DevRef τ sig)) := by
  after_results_simp
  simp -implicitDefEqProofs only [StableHlo.TRef.toBuf, StableHlo.TRef.ofBuf, cast_cast, cast_eq]
  unfold takeF col
  rfl

theorem take2_eq (V : Valuation τ sig (Elt F)) : after take2 V (main_v2 : DevRef τ sig) = takeF (V (main_arg4 : DevRef τ sig)) (V (main_arg2 : DevRef τ sig)) := by
  after_results_simp
  simp -implicitDefEqProofs only [StableHlo.TRef.toBuf, StableHlo.TRef.ofBuf, cast_cast, cast_eq]
  unfold takeF col
  rfl

/-! What a stretch of operations leaves alone. -/

theorem take0_main_arg0 (V : Valuation τ sig (Elt F)) : after take0 V (main_arg0 : DevRef τ sig) = V (main_arg0 : DevRef τ sig) := by
  after_results_simp
theorem take0_main_arg1 (V : Valuation τ sig (Elt F)) : after take0 V (main_arg1 : DevRef τ sig) = V (main_arg1 : DevRef τ sig) := by
  after_results_simp
theorem take0_main_arg2 (V : Valuation τ sig (Elt F)) : after take0 V (main_arg2 : DevRef τ sig) = V (main_arg2 : DevRef τ sig) := by
  after_results_simp
theorem take0_main_arg3 (V : Valuation τ sig (Elt F)) : after take0 V (main_arg3 : DevRef τ sig) = V (main_arg3 : DevRef τ sig) := by
  after_results_simp
theorem take0_main_arg4 (V : Valuation τ sig (Elt F)) : after take0 V (main_arg4 : DevRef τ sig) = V (main_arg4 : DevRef τ sig) := by
  after_results_simp
theorem take1_main_arg0 (V : Valuation τ sig (Elt F)) : after take1 V (main_arg0 : DevRef τ sig) = V (main_arg0 : DevRef τ sig) := by
  after_results_simp
theorem take1_main_arg1 (V : Valuation τ sig (Elt F)) : after take1 V (main_arg1 : DevRef τ sig) = V (main_arg1 : DevRef τ sig) := by
  after_results_simp
theorem take1_main_arg2 (V : Valuation τ sig (Elt F)) : after take1 V (main_arg2 : DevRef τ sig) = V (main_arg2 : DevRef τ sig) := by
  after_results_simp
theorem take1_main_arg3 (V : Valuation τ sig (Elt F)) : after take1 V (main_arg3 : DevRef τ sig) = V (main_arg3 : DevRef τ sig) := by
  after_results_simp
theorem take1_main_arg4 (V : Valuation τ sig (Elt F)) : after take1 V (main_arg4 : DevRef τ sig) = V (main_arg4 : DevRef τ sig) := by
  after_results_simp
theorem take1_main_v0 (V : Valuation τ sig (Elt F)) : after take1 V (main_v0 : DevRef τ sig) = V (main_v0 : DevRef τ sig) := by
  after_results_simp
theorem take2_main_arg0 (V : Valuation τ sig (Elt F)) : after take2 V (main_arg0 : DevRef τ sig) = V (main_arg0 : DevRef τ sig) := by
  after_results_simp
theorem take2_main_arg1 (V : Valuation τ sig (Elt F)) : after take2 V (main_arg1 : DevRef τ sig) = V (main_arg1 : DevRef τ sig) := by
  after_results_simp
theorem take2_main_arg2 (V : Valuation τ sig (Elt F)) : after take2 V (main_arg2 : DevRef τ sig) = V (main_arg2 : DevRef τ sig) := by
  after_results_simp
theorem take2_main_arg3 (V : Valuation τ sig (Elt F)) : after take2 V (main_arg3 : DevRef τ sig) = V (main_arg3 : DevRef τ sig) := by
  after_results_simp
theorem take2_main_arg4 (V : Valuation τ sig (Elt F)) : after take2 V (main_arg4 : DevRef τ sig) = V (main_arg4 : DevRef τ sig) := by
  after_results_simp
theorem take2_main_v0 (V : Valuation τ sig (Elt F)) : after take2 V (main_v0 : DevRef τ sig) = V (main_v0 : DevRef τ sig) := by
  after_results_simp
theorem take2_main_v1 (V : Valuation τ sig (Elt F)) : after take2 V (main_v1 : DevRef τ sig) = V (main_v1 : DevRef τ sig) := by
  after_results_simp
theorem tail_main_arg0 (V : Valuation τ sig (Elt F)) : after tailOps V (main_arg0 : DevRef τ sig) = V (main_arg0 : DevRef τ sig) := by
  after_results_simp
theorem tail_main_arg1 (V : Valuation τ sig (Elt F)) : after tailOps V (main_arg1 : DevRef τ sig) = V (main_arg1 : DevRef τ sig) := by
  after_results_simp
theorem tail_main_arg2 (V : Valuation τ sig (Elt F)) : after tailOps V (main_arg2 : DevRef τ sig) = V (main_arg2 : DevRef τ sig) := by
  after_results_simp
theorem tail_main_arg3 (V : Valuation τ sig (Elt F)) : after tailOps V (main_arg3 : DevRef τ sig) = V (main_arg3 : DevRef τ sig) := by
  after_results_simp
theorem tail_main_arg4 (V : Valuation τ sig (Elt F)) : after tailOps V (main_arg4 : DevRef τ sig) = V (main_arg4 : DevRef τ sig) := by
  after_results_simp

theorem tail_main_v14 (V : Valuation τ sig (Elt F)) : after tailOps V (main_v14 : DevRef τ sig) = sgF (dotF (V (main_v0 : DevRef τ sig)) (V (main_v1 : DevRef τ sig))) := by
  after_results_simp
  unfold sgF dotF
  rfl

theorem tail_main_v20 (V : Valuation τ sig (Elt F)) : after tailOps V (main_v20 : DevRef τ sig) = sgF (dotF (V (main_v0 : DevRef τ sig)) (V (main_v2 : DevRef τ sig))) := by
  after_results_simp
  unfold sgF dotF
  rfl

theorem after_app : ∀ (l₁ l₂ : List (HloOp τ sig (Elt F))) (V : Valuation τ sig (Elt F)), after (l₁ ++ l₂) V = after l₂ (after l₁ V)
  | [], _, _ => rfl
  | op :: l, l₂, V => after_app l l₂ (op.result V)

theorem ops_eq (V : Valuation τ sig (Elt F)) : after ops V = after tailOps (after take2 (after take1 (after take0 V))) := by
  unfold ops
  rw [after_app, after_app, after_app]

theorem main_arg0_eq (V : Valuation τ sig (Elt F)) : after ops V (main_arg0 : DevRef τ sig) = V (main_arg0 : DevRef τ sig) := by
  rw [ops_eq, tail_main_arg0, take2_main_arg0, take1_main_arg0, take0_main_arg0]
theorem main_arg1_eq (V : Valuation τ sig (Elt F)) : after ops V (main_arg1 : DevRef τ sig) = V (main_arg1 : DevRef τ sig) := by
  rw [ops_eq, tail_main_arg1, take2_main_arg1, take1_main_arg1, take0_main_arg1]
theorem main_arg2_eq (V : Valuation τ sig (Elt F)) : after ops V (main_arg2 : DevRef τ sig) = V (main_arg2 : DevRef τ sig) := by
  rw [ops_eq, tail_main_arg2, take2_main_arg2, take1_main_arg2, take0_main_arg2]
theorem main_arg3_eq (V : Valuation τ sig (Elt F)) : after ops V (main_arg3 : DevRef τ sig) = V (main_arg3 : DevRef τ sig) := by
  rw [ops_eq, tail_main_arg3, take2_main_arg3, take1_main_arg3, take0_main_arg3]
theorem main_arg4_eq (V : Valuation τ sig (Elt F)) : after ops V (main_arg4 : DevRef τ sig) = V (main_arg4 : DevRef τ sig) := by
  rw [ops_eq, tail_main_arg4, take2_main_arg4, take1_main_arg4, take0_main_arg4]

theorem main_v14_eq (V : Valuation τ sig (Elt F)) : after ops V (main_v14 : DevRef τ sig) = sgF (dotF (takeF (V (main_arg3 : DevRef τ sig)) (V (main_arg0 : DevRef τ sig))) (takeF (V (main_arg4 : DevRef τ sig)) (V (main_arg1 : DevRef τ sig)))) := by
  rw [ops_eq, tail_main_v14, take2_main_v0, take1_main_v0, take0_eq, take2_main_v1, take1_eq, take0_main_arg4, take0_main_arg1]

theorem main_v20_eq (V : Valuation τ sig (Elt F)) : after ops V (main_v20 : DevRef τ sig) = sgF (dotF (takeF (V (main_arg3 : DevRef τ sig)) (V (main_arg0 : DevRef τ sig))) (takeF (V (main_arg4 : DevRef τ sig)) (V (main_arg2 : DevRef τ sig)))) := by
  rw [ops_eq, tail_main_v20, take2_main_v0, take1_main_v0, take0_eq, take2_eq, take1_main_arg4, take0_main_arg4, take1_main_arg2, take0_main_arg2]

theorem scopedRefs_eq : (Finset.univ.filter fun b : Ref sig .tc => b.isScoped) = ∅ := by decide
theorem scopedSems_eq : (Finset.univ.filter fun sm : SemLoc sig => sm.isScoped .tc) = ∅ := by decide

/-- Every operation touches the host's arrays only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every run of the reference terminates: its two results the logistic of the rows' dot products, its arguments unchanged, every semaphore at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v14) = sgF (dotF (takeF (m ((c.tc : Thread nD τ).loc main_arg3)) (m ((c.tc : Thread nD τ).loc main_arg0))) (takeF (m ((c.tc : Thread nD τ).loc main_arg4)) (m ((c.tc : Thread nD τ).loc main_arg1))))
      ∧ r.2.mem ((c.tc : Thread nD τ).loc main_v20) = sgF (dotF (takeF (m ((c.tc : Thread nD τ).loc main_arg3)) (m ((c.tc : Thread nD τ).loc main_arg0))) (takeF (m ((c.tc : Thread nD τ).loc main_arg4)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => ⟨(h c main_v14).trans (main_v14_eq _), (h c main_v20).trans (main_v20_eq _),
      (h c main_arg0).trans (main_arg0_eq _), (h c main_arg1).trans (main_arg1_eq _), (h c main_arg2).trans (main_arg2_eq _),
      (h c main_arg3).trans (main_arg3_eq _), (h c main_arg4).trans (main_arg4_eq _)⟩, sem_eq_zero_of_no_sems (by decide) r.2⟩)
    (run_seq scopedRefs_eq scopedSems_eq defs main (fun _ => ops) main_eq (fun _ => ops_sub) m ρ)

end Cert.Proof.Ref

end
-- ==== Proof.Pre.lean ====
/-
  What the precondition says: every word of the three index arrays, read as a natural number, is below a million.
-/
module

public import proofs.«01_k».proof.Defs
public import proofs.«01_k».proof.Proof.Gen.Pre_rows_named
public import Idealize.ShloMosaic.Lib.ReduceAll

@[expose] public section

noncomputable section

namespace Cert.Proof.Pre

open Cert.Pre_rows_named Cert.Pre_rows_named.Gen
open Idealize.ShloMosaic

/-- A word that is at least zero and below a million, both as signed words, is below a million. -/
theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun a b => funext fun i => i.elim0⟩

/-- One array's share of the precondition gives the bound of each of its words. -/
theorem array_lt (a : IVec S16384 32) (j : S_.Idx)
    (e : Host.reduce IntOp.andi (andi (cmpi .sge a (broadcastInDim S16384 ![] bcast_S_S16384 (constantI S_ 32 0#32)))
      (cmpi .slt a (broadcastInDim S16384 ![] bcast_S_S16384 (constantI S_ 32 1000000#32)))) (constantI S_ 1 1#1) reducesTo_S16384_S_d0 h_S_ j = 1#1)
    (y : S16384.Idx) : (a y).toNat < 1000000 :=
  word_lt _ (Host.reduce_andi_all _ _ _ _ j e y)

/-- The precondition gives the bound of each word of the three index arrays. -/
theorem rows_lt {F : FTy → Type} [FloatOps F] (a0 a1 a2 : IVec S16384 32) (a3 a4 : FVec F S1000000x32 .f32)
    (h : fn (F := F) a0 a1 a2 a3 a4 = fun _ => 1#1) :
    (∀ y, (a0 y).toNat < 1000000) ∧ (∀ y, (a1 y).toNat < 1000000) ∧ (∀ y, (a2 y).toNat < 1000000) := by
  have e := congrFun h (fun i => i.elim0)
  unfold fn fn_part1 at e
  obtain ⟨e01, e2⟩ := IntOp.andi_eq_one.1 e
  obtain ⟨e0, e1⟩ := IntOp.andi_eq_one.1 e01
  exact ⟨array_lt a0 _ e0, array_lt a1 _ e1, array_lt a2 _ e2⟩

end Cert.Proof.Pre

end
-- ==== Proof.Value.lean ====
/-
  The kernel's results over the extended reals are the reference's: a take at indices in range reads the rows they name,
  the sum of a row's thirty-two products does not depend on the order of the terms, and both programs' logistic is
  1 / (1 + exp (-z)).
-/
module

public import proofs.«01_k».proof.Proof.LaunchI
public import proofs.«01_k».proof.Proof.Ref
public import Idealize.ShloMosaic.Lib.ReduceAll
public import Idealize.ShloMosaic.Lib.ValueIdx
public import Idealize.ShloMosaic.Lib.Pointwise
public import Idealize.ShloMosaic.Lib.IdealHost

@[expose] public section

set_option maxRecDepth 8000

noncomputable section

namespace Cert.Proof.Val

open Cert.ReferenceIdeal Cert.ReferenceIdeal.Gen
open Idealize.ShloMosaic
open Idealize.ShloMosaic.ValueIdx hiding ix1 ix2
open Cert.Proof.Ref (col takeF dotF sgF)
open scoped BigOperators

/-! ## The reference's take -/

/-- The element of a table at a row and a column. -/
abbrev cellOf (r c : ℕ) : S1000000x32.Idx := KerI.tcell r c

/-- A gather of rows, read at a row and a column: the table at the row that the start index names, clamped into the table. -/
theorem gather_rows {α : Type} (x : S1000000x32.Idx → α) (idx : IVec S16384x1 32) (y : S16384x32.Idx) (i : S16384x1.Idx) (hi : (i 0).val = (y 0).val) :
    Host.gather gather_S1000000x32_S16384x1_S16384x32_1_0_n_n_0_1_132 x idx y = x (cellOf (min (idx i).toInt.toNat 999999) (y 1).val) := by
  unfold Host.gather
  congr 1
  funext a
  refine Fin.ext ?_
  show (gather_S1000000x32_S16384x1_S16384x32_1_0_n_n_0_1_132).start y idx a + (gather_S1000000x32_S16384x1_S16384x32_1_0_n_n_0_1_132).batchCoord y a
      + (gather_S1000000x32_S16384x1_S16384x32_1_0_n_n_0_1_132).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x32_S16384x1_S16384x32_1_0_n_n_0_1_132).startIndexMap from List.mem_singleton.mpr rfl)]
    have hsi : (gather_S1000000x32_S16384x1_S16384x32_1_0_n_n_0_1_132).siIdx y ⟨List.idxOf (0 : Fin 2) (gather_S1000000x32_S16384x1_S16384x32_1_0_n_n_0_1_132).startIndexMap,
        List.idxOf_lt_length_iff.2 (List.mem_singleton.mpr rfl)⟩ = i := by
      funext b; refine Fin.ext ?_
      match b with
      | ⟨0, _⟩ => exact hi.symm
      | ⟨1, _⟩ =>
        have h1 : (i 1).val < 1 := (i 1).isLt
        show 0 = (i 1).val
        omega
    rw [hsi]
    show min (idx i).toInt.toNat (1000000 - 1) = min (idx i).toInt.toNat 999999 % 1000000
    omega
  · rw [GatherDims.batchCoord_eq_zero _ _ _ List.not_mem_nil]
    have hs : (gather_S1000000x32_S16384x1_S16384x32_1_0_n_n_0_1_132).start y idx 1 = 0 := by
      unfold GatherDims.start
      rw [dif_neg (show ¬ (1 : Fin 2) ∈ (gather_S1000000x32_S16384x1_S16384x32_1_0_n_n_0_1_132).startIndexMap from fun h => absurd (List.mem_singleton.mp h) (by decide))]
    rw [hs]
    have h1 : (y 1).val < 32 := (y 1).isLt
    show 0 + 0 + (gather_S1000000x32_S16384x1_S16384x32_1_0_n_n_0_1_132).offCoord y 1 = (y 1).val % 32
    rw [Nat.mod_eq_of_lt h1, Nat.zero_add]
    unfold GatherDims.offCoord
    rw [dif_pos (show (1 : Fin 2) ∈ (gather_S1000000x32_S16384x1_S16384x32_1_0_n_n_0_1_132).sKept by decide)]
    rfl

/-- A word below a million reads the same as a signed word. -/
theorem toInt_of_lt {w : BitVec 32} (h : w.toNat < 1000000) : w.toInt = w.toNat := by
  rw [BitVec.toInt_eq_toNat_cond]; split <;> omega

theorem slt_zero {w : BitVec 32} (h : w.toNat < 1000000) : IntOp.cmpi .slt w 0#32 = 0#1 := by
  have : BitVec.slt w 0#32 = false := by
    rw [BitVec.slt_eq_decide, toInt_of_lt h]; simp
  show BitVec.ofBool (BitVec.slt w 0#32) = 0#1
  rw [this]; rfl

theorem sge_zero {w : BitVec 32} (h : w.toNat < 1000000) : IntOp.cmpi .sge w 0#32 = 1#1 := by
  have : BitVec.sle 0#32 w = true := by
    rw [BitVec.sle_eq_decide, toInt_of_lt h]; simp
  show BitVec.ofBool (BitVec.sle 0#32 w) = 1#1
  rw [this]; rfl

theorem sle_last {w : BitVec 32} (h : w.toNat < 1000000) : IntOp.cmpi .sle w 999999#32 = 1#1 := by
  have : BitVec.sle w 999999#32 = true := by
    rw [BitVec.sle_eq_decide, toInt_of_lt h, toInt_of_lt (w := 999999#32) (by decide)]
    simp only [BitVec.toNat_ofNat, Nat.reducePow, Nat.reduceMod, decide_eq_true_eq]
    omega
  show BitVec.ofBool (BitVec.sle w 999999#32) = 1#1
  rw [this]; rfl

/-- The index column of indices in range is the indices. -/
theorem col_apply (i : S16384.Idx → BitVec 32) (hi : ∀ y, (i y).toNat < 1000000) (z : S16384x1.Idx) :
    col i z = i (ix1 ⟨(z 0).val, (z 0).isLt⟩) := by
  have e : col i z = (select (cmpi .slt i (broadcastInDim S16384 ![] bcast_S_S16384 (constantI S_ 32 0#32)))
    (addi i (broadcastInDim S16384 ![] bcast_S_S16384 (constantI S_ 32 1000000#32))) i) (ix1 ⟨(z 0).val, (z 0).isLt⟩) := by
    unfold col broadcastInDim
    congr 1
    funext a
    obtain rfl : a = 0 := Subsingleton.elim _ _
    rfl
  rw [e]
  show Scalar.select (IntOp.cmpi .slt (i (ix1 ⟨(z 0).val, (z 0).isLt⟩)) 0#32) _ _ = _
  rw [slt_zero (hi _), select_zero]

/-- At indices in range a take reads no row as missing. -/
theorem mask_one (i : S16384.Idx → BitVec 32) (hi : ∀ y, (i y).toNat < 1000000) (w : S16384.Idx) :
    Host.reduce IntOp.andi (andi (cmpi .sge (col i) (broadcastInDim S16384x1 ![] bcast_S_S16384x1 (constantI S_ 32 0#32)))
        (cmpi .sle (col i) (broadcastInDim S16384x1 ![0, 1] bcast_S1x1_S16384x1_0_1 (broadcastInDim S1x1 ![1] bcast_S1_S1x1_1 (constantI S1 32 999999#32)))))
        (constantI S_ 1 1#1) reducesTo_S16384x1_S16384_d1 h_S_ w = 1#1 := by
  refine Host.reduce_andi_one _ _ _ _ _ rfl fun z => IntOp.andi_eq_one.2 ⟨?_, ?_⟩
  · show IntOp.cmpi .sge (col i z) 0#32 = 1#1
    rw [col_apply i hi]; exact sge_zero (hi _)
  · show IntOp.cmpi .sle (col i z) 999999#32 = 1#1
    rw [col_apply i hi]; exact sle_last (hi _)

/-- A take at indices in range reads the rows they name. -/
theorem takeF_apply {F : FTy → Type} [FloatOps F] (x : S1000000x32.Idx → Elt F .f32) (i : S16384.Idx → BitVec 32) (hi : ∀ y, (i y).toNat < 1000000) (y : S16384x32.Idx) :
    takeF x i y = x (cellOf (i (ix1 ⟨(y 0).val, (y 0).isLt⟩)).toNat (y 1).val) := by
  unfold takeF
  have hm : ∀ v : S16384.Idx → BitVec 1, (∀ w, v w = 1#1) → ∀ p q : S16384x32.Idx → Elt F .f32,
      select (broadcastInDim S16384x32 ![0] bcast_S16384_S16384x32_0 v) p q y = p y := by
    intro v hv p q
    show Scalar.select (broadcastInDim S16384x32 ![0] bcast_S16384_S16384x32_0 v y) (p y) (q y) = p y
    rw [show broadcastInDim S16384x32 ![0] bcast_S16384_S16384x32_0 v y = 1#1 from hv _, select_one]
  rw [hm _ (mask_one i hi), gather_rows x (col i) y (ix2 ⟨(y 0).val, (y 0).isLt⟩ ⟨0, Nat.one_pos⟩) rfl, col_apply i hi]
  have h := hi (ix1 ⟨(y 0).val, (y 0).isLt⟩)
  show x (cellOf (min (i (ix1 ⟨(y 0).val, (y 0).isLt⟩)).toInt.toNat 999999) _) = _
  rw [toInt_of_lt h, Int.toNat_natCast, min_eq_left (by omega)]

/-! ## The dot products -/

/-- The reference's dot product of two rows. -/
theorem dotF_apply (x y : S16384x32.Idx → Elt Ideal .f32) (j : S16384x1.Idx) :
    dotF (F := Ideal) x y j = ∑ k : Fin 32, (x (ix2 ⟨(j 0).val, (j 0).isLt⟩ k) * y (ix2 ⟨(j 0).val, (j 0).isLt⟩ k) : EReal) := by
  unfold dotF broadcastInDim
  rw [hostReduceAdd_apply, Ideal.hostReduceAdd_r2_a1]
  show Ideal.ofBits .f32 0x00000000#32 + _ = _
  rw [Ideal.ofBits_zero_f32, zero_add]
  rfl

/-- A vector's lane. -/
abbrev lane (n : Fin 16) : KernelIdeal.S16.Idx := ix1 n

theorem el_apply (v : FVec Ideal KernelIdeal.S16 .f32) {k : ℕ} (h : KernelIdeal.S16.Slices ![k] KernelIdeal.S1) (hk : k < 16) : KerI.el v h = v (lane ⟨k, hk⟩) := by
  unfold KerI.el extractAt extractStridedSlice
  congr 1
  funext a
  obtain rfl : a = 0 := Subsingleton.elim _ _
  rfl

/-- The sum of a vector's lanes, first to last, is their sum. -/
theorem ps15_eq (v : FVec Ideal KernelIdeal.S16 .f32) : KerI.ps15 v = ∑ k : Fin 16, (v (lane k) : EReal) := by
  unfold KerI.ps15 KerI.ps14 KerI.ps13 KerI.ps12 KerI.ps11 KerI.ps10 KerI.ps9 KerI.ps8 KerI.ps7 KerI.ps6 KerI.ps5 KerI.ps4 KerI.ps3 KerI.ps2 KerI.ps1 KerI.ps0
  rw [el_apply v _ (k := 0) (by decide), el_apply v _ (k := 1) (by decide), el_apply v _ (k := 2) (by decide), el_apply v _ (k := 3) (by decide),
    el_apply v _ (k := 4) (by decide), el_apply v _ (k := 5) (by decide), el_apply v _ (k := 6) (by decide), el_apply v _ (k := 7) (by decide),
    el_apply v _ (k := 8) (by decide), el_apply v _ (k := 9) (by decide), el_apply v _ (k := 10) (by decide), el_apply v _ (k := 11) (by decide),
    el_apply v _ (k := 12) (by decide), el_apply v _ (k := 13) (by decide), el_apply v _ (k := 14) (by decide), el_apply v _ (k := 15) (by decide)]
  simp only [Fin.sum_univ_castSucc, Fin.sum_univ_zero, zero_add]
  rfl

/-- The kernel's dot product of two rows is the sum of their thirty-two products. -/
theorem rowDot_eq (T5 T6 : S1000000x32.Idx → Elt Ideal .f32) (rc ra : ℕ) :
    KerI.rowDot (F := Ideal) T5 T6 rc ra = ∑ k : Fin 32, (T5 (cellOf rc k.val) * T6 (cellOf ra k.val) : EReal) := by
  unfold KerI.rowDot
  rw [ps15_eq]
  have e := Fin.sum_univ_add (a := 16) (b := 16) (fun k => (T5 (cellOf rc k.val) * T6 (cellOf ra k.val) : EReal))
  refine Eq.trans ?_ e.symm
  rw [← Finset.sum_add_distrib]
  refine Finset.sum_congr rfl fun k _ => ?_
  show (T5 (cellOf rc (0 + k.val)) * T6 (cellOf ra (0 + k.val)) + T5 (cellOf rc (16 + k.val)) * T6 (cellOf ra (16 + k.val)) : EReal) = _
  rw [Nat.zero_add]
  rfl

/-! ## The logistic -/

theorem sg_eq (s : EReal) : KerI.sg (F := Ideal) s = Ideal.div 1 (1 + Ideal.exp (-s)) := by
  show Ideal.div (Ideal.ofBits .f32 0x3F800000#32) (Ideal.ofBits .f32 0x3F800000#32 + Ideal.exp (Ideal.ofBits .f32 0x00000000#32 - s)) = _
  rw [Ideal.ofBits_one_f32, Ideal.ofBits_zero_f32, zero_sub]

theorem sgF_apply (z : S16384x1.Idx → Elt Ideal .f32) (j : S16384x1.Idx) : sgF (F := Ideal) z j = Ideal.div 1 (1 + Ideal.exp (-(z j : EReal))) := by
  show Ideal.div (Ideal.ofBits .f32 0x3F800000#32) (Ideal.ofBits .f32 0x3F800000#32 + Ideal.exp (-(z j : EReal))) = _
  rw [Ideal.ofBits_one_f32]

/-! ## The results -/

/-- An array read as one column. -/
theorem column_apply {α : Type} (v : S16384.Idx → α) (h : S16384.ShapeCasts S16384x1) (j : S16384x1.Idx) : shapeCast S16384x1 v h j = v (ix1 (j 0)) := by
  simp only [pointwise]

/-- What the kernel leaves for one article array, as a column, is what the reference computes. -/
theorem res_eq (T5 T6 : S1000000x32.Idx → Elt Ideal .f32) (A A' : S16384.Idx → BitVec 32) (hA : ∀ y, (A y).toNat < 1000000) (hA' : ∀ y, (A' y).toNat < 1000000)
    (h : S16384.ShapeCasts S16384x1) :
    shapeCast S16384x1 (KerI.res (F := Ideal) T5 T6 A A') h = sgF (F := Ideal) (dotF (F := Ideal) (takeF T5 A) (takeF T6 A')) := by
  funext j
  rw [sgF_apply, dotF_apply]
  rw [column_apply]
  unfold KerI.res
  rw [sg_eq, rowDot_eq]
  simp only [takeF_apply _ _ hA, takeF_apply _ _ hA']
  rfl

end Cert.Proof.Val

end
-- ==== Proof.lean ====
/-
  The certificate: the kernel, over the chip's floats and over the extended reals, and the reference run and leave their
  arguments as they were; over the extended reals the kernel's two results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rows_named
public import proofs.«01_k».proof.Proof.Launch
public import proofs.«01_k».proof.Proof.LaunchI
public import proofs.«01_k».proof.Proof.Ref
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem

/-- The precondition bounds every index of the kernel over the chip's floats. -/
theorem ok_p (m : (ℓ : Loc Kernel.nD Kernel.τ Kernel.sig) → Buf (Elt Bits) ℓ) (h : Cert.Pre_Kernel m) : Ker.PreOK (F := Bits) m :=
  fun d => Pre.rows_lt _ _ _ _ _ (h d)

/-- The precondition bounds every index of the kernel over the extended reals. -/
theorem ok_pi (m : (ℓ : Loc KernelIdeal.nD KernelIdeal.τ KernelIdeal.sig) → Buf (Elt Ideal) ℓ) (h : Cert.Pre_KernelIdeal m) : KerI.PreOK (F := Ideal) m :=
  fun d => Pre.rows_lt _ _ _ _ _ (h d)

/-- The kernel over the chip's floats runs, leaves its arguments as they were and every semaphore at zero. -/
theorem frame_p : Cert.quiescent_Kernel := fun m g hpre =>
  (θ_run Cert.Kernel.defs _ _).mono (fun _ h => ⟨fun c => (h.1 c).2.2, h.2⟩) (Ker.run_main (F := Bits) m g (ok_p m hpre))

/-- The same of the kernel over the extended reals. -/
theorem frame_pi : Cert.quiescent_KernelIdeal := fun m g hpre =>
  (θ_run Cert.KernelIdeal.defs _ _).mono (fun _ h => ⟨fun c => (h.1 c).2.2, h.2⟩) (KerI.run_main (F := Ideal) m g (ok_pi m hpre))

/-- The same of the reference, of every launch memory. -/
theorem frame_ri : Cert.quiescent_ReferenceIdeal := fun m g _ =>
  (θ_run Cert.ReferenceIdeal.defs _ _).mono (fun _ h => ⟨fun c => (h.1 c).2.2, h.2⟩) (Ref.run_main (F := Ideal) m g)

/-- The same of the reference, of the launch memories of the precondition. -/
theorem frame_ri_pre : Cert.quiescent_ReferenceIdeal_pre_rows_named := fun m g _ => frame_ri m g trivial

/-- Over the extended reals, from equal arguments in range, the kernel's two results are the reference's. -/
theorem algebraic : Cert.algebraic_KernelIdeal_ReferenceIdeal := by
  intro m g m' g' hpre hagree
  have ok := ok_pi m hpre
  refine ⟨fun c => KerI.ret1 (F := Ideal) m c, fun c => KerI.ret2 (F := Ideal) m c,
    (θ_run Cert.KernelIdeal.defs _ _).mono (fun _ h => h.1) (KerI.run_main (F := Ideal) m g ok),
    (θ_run Cert.ReferenceIdeal.defs _ _).mono (fun _ h c => ?_) (Ref.run_main (F := Ideal) m' g')⟩
  obtain ⟨h1, h2, hargs⟩ := h.1 c
  obtain ⟨e0, e1, e2, e3, e4⟩ := hagree c
  obtain ⟨hC, hI, hJ⟩ := ok c
  refine ⟨h1.trans ?_, h2.trans ?_, hargs⟩
  · rw [e0, e1, e3, e4]
    exact (Val.res_eq _ _ _ _ hC hI _).symm
  · rw [e0, e2, e3, e4]
    exact (Val.res_eq _ _ _ _ hC hJ _).symm

theorem claim : Cert.Claim := ⟨Cert.Kernel.Gen.facts, Cert.KernelIdeal.Gen.facts, Cert.ReferenceIdeal.Gen.facts, Cert.Pre_rows_named.Gen.facts,
  frame_p, frame_pi, frame_ri, frame_ri_pre, trivial, algebraic⟩

end Cert.Proof

end
